-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x98304 : Shape := ⟨2, ![1024, 98304]⟩
abbrev S4x3x1 : Shape := ⟨3, ![4, 3, 1]⟩
abbrev S4x1 : Shape := ⟨2, ![4, 1]⟩
abbrev S384x384 : Shape := ⟨2, ![384, 384]⟩
abbrev S1024x256x384 : Shape := ⟨3, ![1024, 256, 384]⟩
abbrev S1x1x1 : Shape := ⟨3, ![1, 1, 1]⟩
abbrev S_ : Shape := ⟨0, ![]⟩
abbrev S8768 : Shape := ⟨1, ![8768]⟩
abbrev S8000 : Shape := ⟨1, ![8000]⟩
abbrev S32768 : Shape := ⟨1, ![32768]⟩
abbrev S1x32768 : Shape := ⟨2, ![1, 32768]⟩
abbrev S3x32768 : Shape := ⟨2, ![3, 32768]⟩
abbrev S3x256x128 : Shape := ⟨3, ![3, 256, 128]⟩
abbrev S1x1 : Shape := ⟨2, ![1, 1]⟩
abbrev S1x256x128 : Shape := ⟨3, ![1, 256, 128]⟩
abbrev S1 : Shape := ⟨1, ![1]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S128x1x8 : Shape := ⟨3, ![128, 1, 8]⟩
abbrev S8x256x384 : Shape := ⟨3, ![8, 256, 384]⟩
abbrev S1x1x8 : Shape := ⟨3, ![1, 1, 8]⟩
abbrev S8x256x128 : Shape := ⟨3, ![8, 256, 128]⟩
abbrev S256x128 : Shape := ⟨2, ![256, 128]⟩
abbrev S8x63x128 : Shape := ⟨3, ![8, 63, 128]⟩
abbrev S8x131x128 : Shape := ⟨3, ![8, 131, 128]⟩
abbrev S8x62x128 : Shape := ⟨3, ![8, 62, 128]⟩
abbrev S8x1x64 : Shape := ⟨3, ![8, 1, 64]⟩
abbrev S8x1x128 : Shape := ⟨3, ![8, 1, 128]⟩
abbrev S8x68x128 : Shape := ⟨3, ![8, 68, 128]⟩
abbrev S8 : Shape := ⟨1, ![8]⟩
abbrev S8x1x1 : Shape := ⟨3, ![8, 1, 1]⟩
abbrev S1024 : Shape := ⟨1, ![1024]⟩

abbrev nBuf : Space → Nat
  | .hbm => 317
  | .vmem => 7
  | .smem => 1
  | _ => 0

abbrev hbmTy0_0 (i : Nat) : BufTy := match i % 128 with
  | 0 => ⟨S1024x98304, .f32⟩
  | 1 => ⟨S4x3x1, .f32⟩
  | 2 => ⟨S4x1, .f32⟩
  | 3 => ⟨S384x384, .bf16⟩
  | 4 => ⟨S1024x256x384, .f32⟩
  | 5 => ⟨S4x3x1, .bf16⟩
  | 6 => ⟨S1x1x1, .bf16⟩
  | 7 => ⟨S_, .bf16⟩
  | 8 => ⟨S8768, .bf16⟩
  | 9 => ⟨S1x1x1, .bf16⟩
  | 10 => ⟨S_, .bf16⟩
  | 11 => ⟨S8000, .bf16⟩
  | 12 => ⟨S1x1x1, .bf16⟩
  | 13 => ⟨S_, .bf16⟩
  | 14 => ⟨S8000, .bf16⟩
  | 15 => ⟨S1x1x1, .bf16⟩
  | 16 => ⟨S_, .bf16⟩
  | 17 => ⟨S8000, .bf16⟩
  | 18 => ⟨S32768, .bf16⟩
  | 19 => ⟨S1x1x1, .bf16⟩
  | 20 => ⟨S_, .bf16⟩
  | 21 => ⟨S8768, .bf16⟩
  | 22 => ⟨S1x1x1, .bf16⟩
  | 23 => ⟨S_, .bf16⟩
  | 24 => ⟨S8000, .bf16⟩
  | 25 => ⟨S1x1x1, .bf16⟩
  | 26 => ⟨S_, .bf16⟩
  | 27 => ⟨S8000, .bf16⟩
  | 28 => ⟨S1x1x1, .bf16⟩
  | 29 => ⟨S_, .bf16⟩
  | 30 => ⟨S8000, .bf16⟩
  | 31 => ⟨S32768, .bf16⟩
  | 32 => ⟨S1x1x1, .bf16⟩
  | 33 => ⟨S_, .bf16⟩
  | 34 => ⟨S8768, .bf16⟩
  | 35 => ⟨S1x1x1, .bf16⟩
  | 36 => ⟨S_, .bf16⟩
  | 37 => ⟨S8000, .bf16⟩
  | 38 => ⟨S1x1x1, .bf16⟩
  | 39 => ⟨S_, .bf16⟩
  | 40 => ⟨S8000, .bf16⟩
  | 41 => ⟨S1x1x1, .bf16⟩
  | 42 => ⟨S_, .bf16⟩
  | 43 => ⟨S8000, .bf16⟩
  | 44 => ⟨S32768, .bf16⟩
  | 45 => ⟨S1x32768, .bf16⟩
  | 46 => ⟨S1x32768, .bf16⟩
  | 47 => ⟨S1x32768, .bf16⟩
  | 48 => ⟨S3x32768, .bf16⟩
  | 49 => ⟨S3x256x128, .bf16⟩
  | 50 => ⟨S1x1, .f32⟩
  | 51 => ⟨S_, .f32⟩
  | 52 => ⟨S8768, .f32⟩
  | 53 => ⟨S1x1, .f32⟩
  | 54 => ⟨S_, .f32⟩
  | 55 => ⟨S8000, .f32⟩
  | 56 => ⟨S1x1, .f32⟩
  | 57 => ⟨S_, .f32⟩
  | 58 => ⟨S8000, .f32⟩
  | 59 => ⟨S1x1, .f32⟩
  | 60 => ⟨S_, .f32⟩
  | 61 => ⟨S8000, .f32⟩
  | 62 => ⟨S32768, .f32⟩
  | 63 => ⟨S1x256x128, .f32⟩
  | 64 => ⟨S_, .i32⟩
  | 65 => ⟨S_, .i32⟩
  | 66 => ⟨S_, .i32⟩
  | 67 => ⟨S_, .i32⟩
  | 68 => ⟨S1, .i32⟩
  | 69 => ⟨S_, .i32⟩
  | 70 => ⟨S_, .i32⟩
  | 71 => ⟨S_, .i32⟩
  | 72 => ⟨S1, .i32⟩
  | 73 => ⟨S2, .i32⟩
  | 74 => ⟨S1, .i32⟩
  | 75 => ⟨S_, .i32⟩
  | 76 => ⟨S1, .i32⟩
  | 77 => ⟨S_, .i32⟩
  | 78 => ⟨S2, .i64⟩
  | 79 => ⟨S_, .i64⟩
  | 80 => ⟨S2, .i64⟩
  | 81 => ⟨S2, .i64⟩
  | 82 => ⟨S_, .i64⟩
  | 83 => ⟨S2, .i64⟩
  | 84 => ⟨S2, .i64⟩
  | 85 => ⟨S2, .i32⟩
  | 86 => ⟨S2, .i32⟩
  | 87 => ⟨S_, .i32⟩
  | 88 => ⟨S_, .i32⟩
  | 89 => ⟨S_, .i32⟩
  | 90 => ⟨S2, .i32⟩
  | 91 => ⟨S2, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S_, .i32⟩
  | 99 => ⟨S2, .i32⟩
  | 100 => ⟨S2, .i32⟩
  | 101 => ⟨S2, .i32⟩
  | 102 => ⟨S2, .i32⟩
  | 103 => ⟨S2, .i32⟩
  | 104 => ⟨S_, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S2, .i32⟩
  | 112 => ⟨S2, .i32⟩
  | 113 => ⟨S_, .i32⟩
  | 114 => ⟨S2, .i32⟩
  | 115 => ⟨S2, .i32⟩
  | 116 => ⟨S_, .i32⟩
  | 117 => ⟨S2, .i32⟩
  | 118 => ⟨S2, .i32⟩
  | 119 => ⟨S2, .i32⟩
  | 120 => ⟨S2, .i32⟩
  | 121 => ⟨S2, .i32⟩
  | 122 => ⟨S_, .i32⟩
  | 123 => ⟨S2, .i32⟩
  | 124 => ⟨S2, .i32⟩
  | 125 => ⟨S_, .i32⟩
  | 126 => ⟨S2, .i32⟩
  | 127 => ⟨S2, .i32⟩
  | _ => ⟨S1024x98304, .f32⟩

abbrev hbmTy0_1 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S2, .i32⟩
  | 6 => ⟨S_, .i32⟩
  | 7 => ⟨S2, .i32⟩
  | 8 => ⟨S2, .i32⟩
  | 9 => ⟨S2, .i32⟩
  | 10 => ⟨S_, .i32⟩
  | 11 => ⟨S2, .i32⟩
  | 12 => ⟨S2, .i32⟩
  | 13 => ⟨S_, .i32⟩
  | 14 => ⟨S2, .i32⟩
  | 15 => ⟨S2, .i32⟩
  | 16 => ⟨S2, .i32⟩
  | 17 => ⟨S2, .i32⟩
  | 18 => ⟨S2, .i32⟩
  | 19 => ⟨S_, .i32⟩
  | 20 => ⟨S2, .i32⟩
  | 21 => ⟨S2, .i32⟩
  | 22 => ⟨S_, .i32⟩
  | 23 => ⟨S2, .i32⟩
  | 24 => ⟨S2, .i32⟩
  | 25 => ⟨S2, .i32⟩
  | 26 => ⟨S2, .i32⟩
  | 27 => ⟨S2, .i32⟩
  | 28 => ⟨S_, .i32⟩
  | 29 => ⟨S2, .i32⟩
  | 30 => ⟨S2, .i32⟩
  | 31 => ⟨S_, .i32⟩
  | 32 => ⟨S2, .i32⟩
  | 33 => ⟨S2, .i32⟩
  | 34 => ⟨S2, .i32⟩
  | 35 => ⟨S2, .i32⟩
  | 36 => ⟨S2, .i32⟩
  | 37 => ⟨S_, .i32⟩
  | 38 => ⟨S2, .i32⟩
  | 39 => ⟨S2, .i32⟩
  | 40 => ⟨S_, .i32⟩
  | 41 => ⟨S2, .i32⟩
  | 42 => ⟨S2, .i32⟩
  | 43 => ⟨S2, .i32⟩
  | 44 => ⟨S2, .i32⟩
  | 45 => ⟨S2, .i32⟩
  | 46 => ⟨S2, .i32⟩
  | 47 => ⟨S2, .i32⟩
  | 48 => ⟨S2, .i32⟩
  | 49 => ⟨S_, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S2, .i32⟩
  | 79 => ⟨S2, .i32⟩
  | 80 => ⟨S_, .i32⟩
  | 81 => ⟨S2, .i32⟩
  | 82 => ⟨S2, .i32⟩
  | 83 => ⟨S_, .i32⟩
  | 84 => ⟨S2, .i32⟩
  | 85 => ⟨S2, .i32⟩
  | 86 => ⟨S2, .i32⟩
  | 87 => ⟨S2, .i32⟩
  | 88 => ⟨S2, .i32⟩
  | 89 => ⟨S2, .i32⟩
  | 90 => ⟨S2, .i32⟩
  | 91 => ⟨S2, .i32⟩
  | 92 => ⟨S_, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S_, .i32⟩
  | 118 => ⟨S2, .i32⟩
  | 119 => ⟨S2, .i32⟩
  | 120 => ⟨S2, .i32⟩
  | 121 => ⟨S2, .i32⟩
  | 122 => ⟨S2, .i32⟩
  | 123 => ⟨S_, .i32⟩
  | 124 => ⟨S2, .i32⟩
  | 125 => ⟨S2, .i32⟩
  | 126 => ⟨S_, .i32⟩
  | 127 => ⟨S2, .i32⟩
  | _ => ⟨S1024x98304, .f32⟩

abbrev hbmTy0_2 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S2, .i32⟩
  | 6 => ⟨S2, .i32⟩
  | 7 => ⟨S_, .i32⟩
  | 8 => ⟨S2, .i32⟩
  | 9 => ⟨S2, .i32⟩
  | 10 => ⟨S2, .i32⟩
  | 11 => ⟨S_, .i32⟩
  | 12 => ⟨S2, .i32⟩
  | 13 => ⟨S2, .i32⟩
  | 14 => ⟨S_, .i32⟩
  | 15 => ⟨S2, .i32⟩
  | 16 => ⟨S2, .i32⟩
  | 17 => ⟨S2, .i32⟩
  | 18 => ⟨S2, .i32⟩
  | 19 => ⟨S2, .i32⟩
  | 20 => ⟨S_, .i32⟩
  | 21 => ⟨S2, .i32⟩
  | 22 => ⟨S2, .i32⟩
  | 23 => ⟨S_, .i32⟩
  | 24 => ⟨S2, .i32⟩
  | 25 => ⟨S2, .i32⟩
  | 26 => ⟨S2, .i32⟩
  | 27 => ⟨S2, .i32⟩
  | 28 => ⟨S2, .i32⟩
  | 29 => ⟨S_, .i32⟩
  | 30 => ⟨S2, .i32⟩
  | 31 => ⟨S2, .i32⟩
  | 32 => ⟨S_, .i32⟩
  | 33 => ⟨S2, .i32⟩
  | 34 => ⟨S2, .i32⟩
  | 35 => ⟨S2, .i32⟩
  | 36 => ⟨S2, .i32⟩
  | 37 => ⟨S2, .i32⟩
  | 38 => ⟨S_, .i32⟩
  | 39 => ⟨S2, .i32⟩
  | 40 => ⟨S2, .i32⟩
  | 41 => ⟨S_, .i32⟩
  | 42 => ⟨S2, .i32⟩
  | 43 => ⟨S2, .i32⟩
  | 44 => ⟨S2, .i32⟩
  | 45 => ⟨S2, .i32⟩
  | 46 => ⟨S2, .i32⟩
  | 47 => ⟨S2, .i32⟩
  | 48 => ⟨S2, .i32⟩
  | 49 => ⟨S2, .i32⟩
  | 50 => ⟨S_, .i32⟩
  | 51 => ⟨S2, .i32⟩
  | 52 => ⟨S2, .i32⟩
  | 53 => ⟨S2x1, .i32⟩
  | 54 => ⟨S2x1, .i32⟩
  | 55 => ⟨S2x2, .i32⟩
  | 56 => ⟨S1x2, .i32⟩
  | 57 => ⟨S2, .i32⟩
  | 58 => ⟨S2, .i32⟩
  | 59 => ⟨S128x1x8, .i32⟩
  | 60 => ⟨S1024, .i32⟩
  | _ => ⟨S1024x98304, .f32⟩

abbrev hbmTy (i : Nat) : BufTy := match i / 128 with
  | 0 => hbmTy0_0 i
  | 1 => hbmTy0_1 i
  | 2 => hbmTy0_2 i
  | _ => ⟨S1024x98304, .f32⟩

abbrev bufTy : (tb : Table) → Fin (tcTables nBuf tb) → BufTy
  | .hbm, ⟨i, _⟩ => hbmTy i
  | .local _ .vmem, ⟨0, _⟩ => ⟨S8x256x384, .f32⟩
  | .local _ .vmem, ⟨1, _⟩ => ⟨S8x256x384, .f32⟩
  | .local _ .vmem, ⟨2, _⟩ => ⟨S3x256x128, .bf16⟩
  | .local _ .vmem, ⟨3, _⟩ => ⟨S1x256x128, .f32⟩
  | .local _ .vmem, ⟨4, _⟩ => ⟨S384x384, .bf16⟩
  | .local _ .vmem, ⟨5, _⟩ => ⟨S1x1x8, .i32⟩
  | .local _ .vmem, ⟨6, _⟩ => ⟨S1x1x8, .i32⟩
  | .local _ .smem, ⟨0, _⟩ => ⟨S2, .i32⟩
  | _, _ => ⟨S1024x98304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_c : Ref sig .tc := ⟨.hbm, 64, rfl⟩
abbrev main_c_0 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_c_1 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_call0_c : Ref sig .tc := ⟨.hbm, 79, rfl⟩
abbrev main_call0_v5 : Ref sig .tc := ⟨.hbm, 80, rfl⟩
abbrev main_call0_v6 : Ref sig .tc := ⟨.hbm, 81, rfl⟩
abbrev main_call0_c_0 : Ref sig .tc := ⟨.hbm, 82, rfl⟩
abbrev main_call0_v7 : Ref sig .tc := ⟨.hbm, 83, rfl⟩
abbrev main_call0_v8 : Ref sig .tc := ⟨.hbm, 84, rfl⟩
abbrev main_call0_v9 : Ref sig .tc := ⟨.hbm, 85, rfl⟩
abbrev main_call0_v10 : Ref sig .tc := ⟨.hbm, 86, rfl⟩
abbrev main_call0_call0_v0 : Ref sig .tc := ⟨.hbm, 87, rfl⟩
abbrev main_call0_call0_c : Ref sig .tc := ⟨.hbm, 88, rfl⟩
abbrev main_call0_call0_v1 : Ref sig .tc := ⟨.hbm, 89, rfl⟩
abbrev main_call0_call0_v2 : Ref sig .tc := ⟨.hbm, 90, rfl⟩
abbrev main_call0_call0_v3 : Ref sig .tc := ⟨.hbm, 91, rfl⟩
abbrev main_call0_call0_v4 : Ref sig .tc := ⟨.hbm, 92, rfl⟩
abbrev main_call0_call0_v5 : Ref sig .tc := ⟨.hbm, 93, rfl⟩
abbrev main_call0_call0_v6 : Ref sig .tc := ⟨.hbm, 94, rfl⟩
abbrev main_call0_call0_c_0 : Ref sig .tc := ⟨.hbm, 95, rfl⟩
abbrev main_call0_call0_v7 : Ref sig .tc := ⟨.hbm, 96, rfl⟩
abbrev main_call0_call0_v8 : Ref sig .tc := ⟨.hbm, 97, rfl⟩
abbrev main_call0_call0_c_1 : Ref sig .tc := ⟨.hbm, 98, rfl⟩
abbrev main_call0_call0_v9 : Ref sig .tc := ⟨.hbm, 99, rfl⟩
abbrev main_call0_call0_v10 : Ref sig .tc := ⟨.hbm, 100, rfl⟩
abbrev main_call0_call0_v11 : Ref sig .tc := ⟨.hbm, 101, rfl⟩
abbrev main_call0_call0_v12 : Ref sig .tc := ⟨.hbm, 102, rfl⟩
abbrev main_call0_call0_v13 : Ref sig .tc := ⟨.hbm, 103, rfl⟩
abbrev main_call0_call0_c_2 : Ref sig .tc := ⟨.hbm, 104, rfl⟩
abbrev main_call0_call0_v14 : Ref sig .tc := ⟨.hbm, 105, rfl⟩
abbrev main_call0_call0_v15 : Ref sig .tc := ⟨.hbm, 106, rfl⟩
abbrev main_call0_call0_c_3 : Ref sig .tc := ⟨.hbm, 107, rfl⟩
abbrev main_call0_call0_v16 : Ref sig .tc := ⟨.hbm, 108, rfl⟩
abbrev main_call0_call0_v17 : Ref sig .tc := ⟨.hbm, 109, rfl⟩
abbrev main_call0_call0_v18 : Ref sig .tc := ⟨.hbm, 110, rfl⟩
abbrev main_call0_call0_v19 : Ref sig .tc := ⟨.hbm, 111, rfl⟩
abbrev main_call0_call0_v20 : Ref sig .tc := ⟨.hbm, 112, rfl⟩
abbrev main_call0_call0_c_4 : Ref sig .tc := ⟨.hbm, 113, rfl⟩
abbrev main_call0_call0_v21 : Ref sig .tc := ⟨.hbm, 114, rfl⟩
abbrev main_call0_call0_v22 : Ref sig .tc := ⟨.hbm, 115, rfl⟩
abbrev main_call0_call0_c_5 : Ref sig .tc := ⟨.hbm, 116, rfl⟩
abbrev main_call0_call0_v23 : Ref sig .tc := ⟨.hbm, 117, rfl⟩
abbrev main_call0_call0_v24 : Ref sig .tc := ⟨.hbm, 118, rfl⟩
abbrev main_call0_call0_v25 : Ref sig .tc := ⟨.hbm, 119, rfl⟩
abbrev main_call0_call0_v26 : Ref sig .tc := ⟨.hbm, 120, rfl⟩
abbrev main_call0_call0_v27 : Ref sig .tc := ⟨.hbm, 121, rfl⟩
abbrev main_call0_call0_c_6 : Ref sig .tc := ⟨.hbm, 122, rfl⟩
abbrev main_call0_call0_v28 : Ref sig .tc := ⟨.hbm, 123, rfl⟩
abbrev main_call0_call0_v29 : Ref sig .tc := ⟨.hbm, 124, rfl⟩
abbrev main_call0_call0_c_7 : Ref sig .tc := ⟨.hbm, 125, rfl⟩
abbrev main_call0_call0_v30 : Ref sig .tc := ⟨.hbm, 126, rfl⟩
abbrev main_call0_call0_v31 : Ref sig .tc := ⟨.hbm, 127, rfl⟩
abbrev main_call0_call0_v32 : Ref sig .tc := ⟨.hbm, 128, rfl⟩
abbrev main_call0_call0_v33 : Ref sig .tc := ⟨.hbm, 129, rfl⟩
abbrev main_call0_call0_v34 : Ref sig .tc := ⟨.hbm, 130, rfl⟩
abbrev main_call0_call0_v35 : Ref sig .tc := ⟨.hbm, 131, rfl⟩
abbrev main_call0_call0_v36 : Ref sig .tc := ⟨.hbm, 132, rfl⟩
abbrev main_call0_call0_v37 : Ref sig .tc := ⟨.hbm, 133, rfl⟩
abbrev main_call0_call0_c_8 : Ref sig .tc := ⟨.hbm, 134, rfl⟩
abbrev main_call0_call0_v38 : Ref sig .tc := ⟨.hbm, 135, rfl⟩
abbrev main_call0_call0_v39 : Ref sig .tc := ⟨.hbm, 136, rfl⟩
abbrev main_call0_call0_v40 : Ref sig .tc := ⟨.hbm, 137, rfl⟩
abbrev main_call0_call0_c_9 : Ref sig .tc := ⟨.hbm, 138, rfl⟩
abbrev main_call0_call0_v41 : Ref sig .tc := ⟨.hbm, 139, rfl⟩
abbrev main_call0_call0_v42 : Ref sig .tc := ⟨.hbm, 140, rfl⟩
abbrev main_call0_call0_c_10 : Ref sig .tc := ⟨.hbm, 141, rfl⟩
abbrev main_call0_call0_v43 : Ref sig .tc := ⟨.hbm, 142, rfl⟩
abbrev main_call0_call0_v44 : Ref sig .tc := ⟨.hbm, 143, rfl⟩
abbrev main_call0_call0_v45 : Ref sig .tc := ⟨.hbm, 144, rfl⟩
abbrev main_call0_call0_v46 : Ref sig .tc := ⟨.hbm, 145, rfl⟩
abbrev main_call0_call0_v47 : Ref sig .tc := ⟨.hbm, 146, rfl⟩
abbrev main_call0_call0_c_11 : Ref sig .tc := ⟨.hbm, 147, rfl⟩
abbrev main_call0_call0_v48 : Ref sig .tc := ⟨.hbm, 148, rfl⟩
abbrev main_call0_call0_v49 : Ref sig .tc := ⟨.hbm, 149, rfl⟩
abbrev main_call0_call0_c_12 : Ref sig .tc := ⟨.hbm, 150, rfl⟩
abbrev main_call0_call0_v50 : Ref sig .tc := ⟨.hbm, 151, rfl⟩
abbrev main_call0_call0_v51 : Ref sig .tc := ⟨.hbm, 152, rfl⟩
abbrev main_call0_call0_v52 : Ref sig .tc := ⟨.hbm, 153, rfl⟩
abbrev main_call0_call0_v53 : Ref sig .tc := ⟨.hbm, 154, rfl⟩
abbrev main_call0_call0_v54 : Ref sig .tc := ⟨.hbm, 155, rfl⟩
abbrev main_call0_call0_c_13 : Ref sig .tc := ⟨.hbm, 156, rfl⟩
abbrev main_call0_call0_v55 : Ref sig .tc := ⟨.hbm, 157, rfl⟩
abbrev main_call0_call0_v56 : Ref sig .tc := ⟨.hbm, 158, rfl⟩
abbrev main_call0_call0_c_14 : Ref sig .tc := ⟨.hbm, 159, rfl⟩
abbrev main_call0_call0_v57 : Ref sig .tc := ⟨.hbm, 160, rfl⟩
abbrev main_call0_call0_v58 : Ref sig .tc := ⟨.hbm, 161, rfl⟩
abbrev main_call0_call0_v59 : Ref sig .tc := ⟨.hbm, 162, rfl⟩
abbrev main_call0_call0_v60 : Ref sig .tc := ⟨.hbm, 163, rfl⟩
abbrev main_call0_call0_v61 : Ref sig .tc := ⟨.hbm, 164, rfl⟩
abbrev main_call0_call0_c_15 : Ref sig .tc := ⟨.hbm, 165, rfl⟩
abbrev main_call0_call0_v62 : Ref sig .tc := ⟨.hbm, 166, rfl⟩
abbrev main_call0_call0_v63 : Ref sig .tc := ⟨.hbm, 167, rfl⟩
abbrev main_call0_call0_c_16 : Ref sig .tc := ⟨.hbm, 168, rfl⟩
abbrev main_call0_call0_v64 : Ref sig .tc := ⟨.hbm, 169, rfl⟩
abbrev main_call0_call0_v65 : Ref sig .tc := ⟨.hbm, 170, rfl⟩
abbrev main_call0_call0_v66 : Ref sig .tc := ⟨.hbm, 171, rfl⟩
abbrev main_call0_call0_v67 : Ref sig .tc := ⟨.hbm, 172, rfl⟩
abbrev main_call0_call0_v68 : Ref sig .tc := ⟨.hbm, 173, rfl⟩
abbrev main_call0_call0_v69 : Ref sig .tc := ⟨.hbm, 174, rfl⟩
abbrev main_call0_call0_v70 : Ref sig .tc := ⟨.hbm, 175, rfl⟩
abbrev main_call0_call0_v71 : Ref sig .tc := ⟨.hbm, 176, rfl⟩
abbrev main_call0_call0_c_17 : Ref sig .tc := ⟨.hbm, 177, rfl⟩
abbrev main_call0_call0_v72 : Ref sig .tc := ⟨.hbm, 178, rfl⟩
abbrev main_call0_call0_v73 : Ref sig .tc := ⟨.hbm, 179, rfl⟩
abbrev main_call0_call0_v74 : Ref sig .tc := ⟨.hbm, 180, rfl⟩
abbrev main_call0_call0_c_18 : Ref sig .tc := ⟨.hbm, 181, rfl⟩
abbrev main_call0_call0_v75 : Ref sig .tc := ⟨.hbm, 182, rfl⟩
abbrev main_call0_call0_v76 : Ref sig .tc := ⟨.hbm, 183, rfl⟩
abbrev main_call0_call0_c_19 : Ref sig .tc := ⟨.hbm, 184, rfl⟩
abbrev main_call0_call0_v77 : Ref sig .tc := ⟨.hbm, 185, rfl⟩
abbrev main_call0_call0_v78 : Ref sig .tc := ⟨.hbm, 186, rfl⟩
abbrev main_call0_call0_v79 : Ref sig .tc := ⟨.hbm, 187, rfl⟩
abbrev main_call0_call0_v80 : Ref sig .tc := ⟨.hbm, 188, rfl⟩
abbrev main_call0_call0_v81 : Ref sig .tc := ⟨.hbm, 189, rfl⟩
abbrev main_call0_call0_c_20 : Ref sig .tc := ⟨.hbm, 190, rfl⟩
abbrev main_call0_call0_v82 : Ref sig .tc := ⟨.hbm, 191, rfl⟩
abbrev main_call0_call0_v83 : Ref sig .tc := ⟨.hbm, 192, rfl⟩
abbrev main_call0_call0_c_21 : Ref sig .tc := ⟨.hbm, 193, rfl⟩
abbrev main_call0_call0_v84 : Ref sig .tc := ⟨.hbm, 194, rfl⟩
abbrev main_call0_call0_v85 : Ref sig .tc := ⟨.hbm, 195, rfl⟩
abbrev main_call0_call0_v86 : Ref sig .tc := ⟨.hbm, 196, rfl⟩
abbrev main_call0_call0_v87 : Ref sig .tc := ⟨.hbm, 197, rfl⟩
abbrev main_call0_call0_v88 : Ref sig .tc := ⟨.hbm, 198, rfl⟩
abbrev main_call0_call0_c_22 : Ref sig .tc := ⟨.hbm, 199, rfl⟩
abbrev main_call0_call0_v89 : Ref sig .tc := ⟨.hbm, 200, rfl⟩
abbrev main_call0_call0_v90 : Ref sig .tc := ⟨.hbm, 201, rfl⟩
abbrev main_call0_call0_c_23 : Ref sig .tc := ⟨.hbm, 202, rfl⟩
abbrev main_call0_call0_v91 : Ref sig .tc := ⟨.hbm, 203, rfl⟩
abbrev main_call0_call0_v92 : Ref sig .tc := ⟨.hbm, 204, rfl⟩
abbrev main_call0_call0_v93 : Ref sig .tc := ⟨.hbm, 205, rfl⟩
abbrev main_call0_call0_v94 : Ref sig .tc := ⟨.hbm, 206, rfl⟩
abbrev main_call0_call0_v95 : Ref sig .tc := ⟨.hbm, 207, rfl⟩
abbrev main_call0_call0_c_24 : Ref sig .tc := ⟨.hbm, 208, rfl⟩
abbrev main_call0_call0_v96 : Ref sig .tc := ⟨.hbm, 209, rfl⟩
abbrev main_call0_call0_v97 : Ref sig .tc := ⟨.hbm, 210, rfl⟩
abbrev main_call0_call0_c_25 : Ref sig .tc := ⟨.hbm, 211, rfl⟩
abbrev main_call0_call0_v98 : Ref sig .tc := ⟨.hbm, 212, rfl⟩
abbrev main_call0_call0_v99 : Ref sig .tc := ⟨.hbm, 213, rfl⟩
abbrev main_call0_call0_v100 : Ref sig .tc := ⟨.hbm, 214, rfl⟩
abbrev main_call0_call0_v101 : Ref sig .tc := ⟨.hbm, 215, rfl⟩
abbrev main_call0_call0_v102 : Ref sig .tc := ⟨.hbm, 216, rfl⟩
abbrev main_call0_call0_v103 : Ref sig .tc := ⟨.hbm, 217, rfl⟩
abbrev main_call0_call0_v104 : Ref sig .tc := ⟨.hbm, 218, rfl⟩
abbrev main_call0_call0_v105 : Ref sig .tc := ⟨.hbm, 219, rfl⟩
abbrev main_call0_call0_c_26 : Ref sig .tc := ⟨.hbm, 220, rfl⟩
abbrev main_call0_call0_v106 : Ref sig .tc := ⟨.hbm, 221, rfl⟩
abbrev main_call0_call0_v107 : Ref sig .tc := ⟨.hbm, 222, rfl⟩
abbrev main_call0_call0_v108 : Ref sig .tc := ⟨.hbm, 223, rfl⟩
abbrev main_call0_call0_c_27 : Ref sig .tc := ⟨.hbm, 224, rfl⟩
abbrev main_call0_call0_v109 : Ref sig .tc := ⟨.hbm, 225, rfl⟩
abbrev main_call0_call0_v110 : Ref sig .tc := ⟨.hbm, 226, rfl⟩
abbrev main_call0_call0_c_28 : Ref sig .tc := ⟨.hbm, 227, rfl⟩
abbrev main_call0_call0_v111 : Ref sig .tc := ⟨.hbm, 228, rfl⟩
abbrev main_call0_call0_v112 : Ref sig .tc := ⟨.hbm, 229, rfl⟩
abbrev main_call0_call0_v113 : Ref sig .tc := ⟨.hbm, 230, rfl⟩
abbrev main_call0_call0_v114 : Ref sig .tc := ⟨.hbm, 231, rfl⟩
abbrev main_call0_call0_v115 : Ref sig .tc := ⟨.hbm, 232, rfl⟩
abbrev main_call0_call0_c_29 : Ref sig .tc := ⟨.hbm, 233, rfl⟩
abbrev main_call0_call0_v116 : Ref sig .tc := ⟨.hbm, 234, rfl⟩
abbrev main_call0_call0_v117 : Ref sig .tc := ⟨.hbm, 235, rfl⟩
abbrev main_call0_call0_c_30 : Ref sig .tc := ⟨.hbm, 236, rfl⟩
abbrev main_call0_call0_v118 : Ref sig .tc := ⟨.hbm, 237, rfl⟩
abbrev main_call0_call0_v119 : Ref sig .tc := ⟨.hbm, 238, rfl⟩
abbrev main_call0_call0_v120 : Ref sig .tc := ⟨.hbm, 239, rfl⟩
abbrev main_call0_call0_v121 : Ref sig .tc := ⟨.hbm, 240, rfl⟩
abbrev main_call0_call0_v122 : Ref sig .tc := ⟨.hbm, 241, rfl⟩
abbrev main_call0_call0_c_31 : Ref sig .tc := ⟨.hbm, 242, rfl⟩
abbrev main_call0_call0_v123 : Ref sig .tc := ⟨.hbm, 243, rfl⟩
abbrev main_call0_call0_v124 : Ref sig .tc := ⟨.hbm, 244, rfl⟩
abbrev main_call0_call0_c_32 : Ref sig .tc := ⟨.hbm, 245, rfl⟩
abbrev main_call0_call0_v125 : Ref sig .tc := ⟨.hbm, 246, rfl⟩
abbrev main_call0_call0_v126 : Ref sig .tc := ⟨.hbm, 247, rfl⟩
abbrev main_call0_call0_v127 : Ref sig .tc := ⟨.hbm, 248, rfl⟩
abbrev main_call0_call0_v128 : Ref sig .tc := ⟨.hbm, 249, rfl⟩
abbrev main_call0_call0_v129 : Ref sig .tc := ⟨.hbm, 250, rfl⟩
abbrev main_call0_call0_c_33 : Ref sig .tc := ⟨.hbm, 251, rfl⟩
abbrev main_call0_call0_v130 : Ref sig .tc := ⟨.hbm, 252, rfl⟩
abbrev main_call0_call0_v131 : Ref sig .tc := ⟨.hbm, 253, rfl⟩
abbrev main_call0_call0_c_34 : Ref sig .tc := ⟨.hbm, 254, rfl⟩
abbrev main_call0_call0_v132 : Ref sig .tc := ⟨.hbm, 255, rfl⟩
abbrev main_call0_call0_v133 : Ref sig .tc := ⟨.hbm, 256, rfl⟩
abbrev main_call0_call0_v134 : Ref sig .tc := ⟨.hbm, 257, rfl⟩
abbrev main_call0_call0_v135 : Ref sig .tc := ⟨.hbm, 258, rfl⟩
abbrev main_call0_call0_v136 : Ref sig .tc := ⟨.hbm, 259, rfl⟩
abbrev main_call0_call0_v137 : Ref sig .tc := ⟨.hbm, 260, rfl⟩
abbrev main_call0_call0_v138 : Ref sig .tc := ⟨.hbm, 261, rfl⟩
abbrev main_call0_call0_v139 : Ref sig .tc := ⟨.hbm, 262, rfl⟩
abbrev main_call0_call0_c_35 : Ref sig .tc := ⟨.hbm, 263, rfl⟩
abbrev main_call0_call0_v140 : Ref sig .tc := ⟨.hbm, 264, rfl⟩
abbrev main_call0_call0_v141 : Ref sig .tc := ⟨.hbm, 265, rfl⟩
abbrev main_call0_call0_v142 : Ref sig .tc := ⟨.hbm, 266, rfl⟩
abbrev main_call0_call0_c_36 : Ref sig .tc := ⟨.hbm, 267, rfl⟩
abbrev main_call0_call0_v143 : Ref sig .tc := ⟨.hbm, 268, rfl⟩
abbrev main_call0_call0_v144 : Ref sig .tc := ⟨.hbm, 269, rfl⟩
abbrev main_call0_call0_c_37 : Ref sig .tc := ⟨.hbm, 270, rfl⟩
abbrev main_call0_call0_v145 : Ref sig .tc := ⟨.hbm, 271, rfl⟩
abbrev main_call0_call0_v146 : Ref sig .tc := ⟨.hbm, 272, rfl⟩
abbrev main_call0_call0_v147 : Ref sig .tc := ⟨.hbm, 273, rfl⟩
abbrev main_call0_call0_v148 : Ref sig .tc := ⟨.hbm, 274, rfl⟩
abbrev main_call0_call0_v149 : Ref sig .tc := ⟨.hbm, 275, rfl⟩
abbrev main_call0_call0_c_38 : Ref sig .tc := ⟨.hbm, 276, rfl⟩
abbrev main_call0_call0_v150 : Ref sig .tc := ⟨.hbm, 277, rfl⟩
abbrev main_call0_call0_v151 : Ref sig .tc := ⟨.hbm, 278, rfl⟩
abbrev main_call0_call0_c_39 : Ref sig .tc := ⟨.hbm, 279, rfl⟩
abbrev main_call0_call0_v152 : Ref sig .tc := ⟨.hbm, 280, rfl⟩
abbrev main_call0_call0_v153 : Ref sig .tc := ⟨.hbm, 281, rfl⟩
abbrev main_call0_call0_v154 : Ref sig .tc := ⟨.hbm, 282, rfl⟩
abbrev main_call0_call0_v155 : Ref sig .tc := ⟨.hbm, 283, rfl⟩
abbrev main_call0_call0_v156 : Ref sig .tc := ⟨.hbm, 284, rfl⟩
abbrev main_call0_call0_c_40 : Ref sig .tc := ⟨.hbm, 285, rfl⟩
abbrev main_call0_call0_v157 : Ref sig .tc := ⟨.hbm, 286, rfl⟩
abbrev main_call0_call0_v158 : Ref sig .tc := ⟨.hbm, 287, rfl⟩
abbrev main_call0_call0_c_41 : Ref sig .tc := ⟨.hbm, 288, rfl⟩
abbrev main_call0_call0_v159 : Ref sig .tc := ⟨.hbm, 289, rfl⟩
abbrev main_call0_call0_v160 : Ref sig .tc := ⟨.hbm, 290, rfl⟩
abbrev main_call0_call0_v161 : Ref sig .tc := ⟨.hbm, 291, rfl⟩
abbrev main_call0_call0_v162 : Ref sig .tc := ⟨.hbm, 292, rfl⟩
abbrev main_call0_call0_v163 : Ref sig .tc := ⟨.hbm, 293, rfl⟩
abbrev main_call0_call0_c_42 : Ref sig .tc := ⟨.hbm, 294, rfl⟩
abbrev main_call0_call0_v164 : Ref sig .tc := ⟨.hbm, 295, rfl⟩
abbrev main_call0_call0_v165 : Ref sig .tc := ⟨.hbm, 296, rfl⟩
abbrev main_call0_call0_c_43 : Ref sig .tc := ⟨.hbm, 297, rfl⟩
abbrev main_call0_call0_v166 : Ref sig .tc := ⟨.hbm, 298, rfl⟩
abbrev main_call0_call0_v167 : Ref sig .tc := ⟨.hbm, 299, rfl⟩
abbrev main_call0_call0_v168 : Ref sig .tc := ⟨.hbm, 300, rfl⟩
abbrev main_call0_call0_v169 : Ref sig .tc := ⟨.hbm, 301, rfl⟩
abbrev main_call0_call0_v170 : Ref sig .tc := ⟨.hbm, 302, rfl⟩
abbrev main_call0_v11_0 : Ref sig .tc := ⟨.hbm, 303, rfl⟩
abbrev main_call0_call0_v172 : Ref sig .tc := ⟨.hbm, 304, rfl⟩
abbrev main_call0_call0_v173 : Ref sig .tc := ⟨.hbm, 305, rfl⟩
abbrev main_call0_call0_c_44 : Ref sig .tc := ⟨.hbm, 306, rfl⟩
abbrev main_call0_call0_v174 : Ref sig .tc := ⟨.hbm, 307, rfl⟩
abbrev main_call0_v11_1 : Ref sig .tc := ⟨.hbm, 308, rfl⟩
abbrev main_call0_v12 : Ref sig .tc := ⟨.hbm, 309, rfl⟩
abbrev main_call0_v13 : Ref sig .tc := ⟨.hbm, 310, rfl⟩
abbrev main_v67 : Ref sig .tc := ⟨.hbm, 311, rfl⟩
abbrev main_v68 : Ref sig .tc := ⟨.hbm, 312, rfl⟩
abbrev main_v69 : Ref sig .tc := ⟨.hbm, 313, rfl⟩
abbrev main_v70 : Ref sig .tc := ⟨.hbm, 314, rfl⟩
abbrev main_v71 : Ref sig .tc := ⟨.hbm, 315, rfl⟩
abbrev main_v72 : Ref sig .tc := ⟨.hbm, 316, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x8 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S1024x98304 : Shape := ⟨2, ![1024, 98304]⟩
abbrev S4x3x1 : Shape := ⟨3, ![4, 3, 1]⟩
abbrev S4x1 : Shape := ⟨2, ![4, 1]⟩
abbrev S1024x26304 : Shape := ⟨2, ![1024, 26304]⟩
abbrev S1024x24000 : Shape := ⟨2, ![1024, 24000]⟩
abbrev S1024x8768x3 : Shape := ⟨3, ![1024, 8768, 3]⟩
abbrev S1x3x1 : Shape := ⟨3, ![1, 3, 1]⟩
abbrev S3x1 : Shape := ⟨2, ![3, 1]⟩
abbrev S1024x8768x1 : Shape := ⟨3, ![1024, 8768, 1]⟩
abbrev S1x1 : Shape := ⟨2, ![1, 1]⟩
abbrev S1 : Shape := ⟨1, ![1]⟩
abbrev S1x1x1 : Shape := ⟨3, ![1, 1, 1]⟩
abbrev S_ : Shape := ⟨0, ![]⟩
abbrev S1024x1 : Shape := ⟨2, ![1024, 1]⟩
abbrev S1024x1x1 : Shape := ⟨3, ![1024, 1, 1]⟩
abbrev S1024x8000x3 : Shape := ⟨3, ![1024, 8000, 3]⟩
abbrev S1024x8000x1 : Shape := ⟨3, ![1024, 8000, 1]⟩
abbrev S1024x32768x1 : Shape := ⟨3, ![1024, 32768, 1]⟩
abbrev S1024x32768 : Shape := ⟨2, ![1024, 32768]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S1024 : Shape := ⟨1, ![1024]⟩
abbrev S3x1024x32768 : Shape := ⟨3, ![3, 1024, 32768]⟩
abbrev S1x1024x32768 : Shape := ⟨3, ![1, 1024, 32768]⟩
abbrev S3x1024 : Shape := ⟨2, ![3, 1024]⟩
abbrev S1x1024 : Shape := ⟨2, ![1, 1024]⟩
abbrev S1024x2 : Shape := ⟨2, ![1024, 2]⟩

abbrev nBuf : Space → Nat
  | .hbm => 668
  | .vmem => 0
  | .smem => 0
  | _ => 0

abbrev hbmTy0_0 (i : Nat) : BufTy := match i % 128 with
  | 0 => ⟨S1024x98304, .f32⟩
  | 1 => ⟨S4x3x1, .f32⟩
  | 2 => ⟨S4x1, .f32⟩
  | 3 => ⟨S1024x26304, .f32⟩
  | 4 => ⟨S1024x24000, .f32⟩
  | 5 => ⟨S1024x24000, .f32⟩
  | 6 => ⟨S1024x24000, .f32⟩
  | 7 => ⟨S1024x8768x3, .f32⟩
  | 8 => ⟨S1x3x1, .f32⟩
  | 9 => ⟨S3x1, .f32⟩
  | 10 => ⟨S1024x8768x1, .f32⟩
  | 11 => ⟨S1x1, .f32⟩
  | 12 => ⟨S1, .f32⟩
  | 13 => ⟨S1x1x1, .f32⟩
  | 14 => ⟨S1024x8768x1, .f32⟩
  | 15 => ⟨S1024x8768x1, .f32⟩
  | 16 => ⟨S_, .f32⟩
  | 17 => ⟨S1024x1, .f32⟩
  | 18 => ⟨S_, .f32⟩
  | 19 => ⟨S1024x1, .f32⟩
  | 20 => ⟨S1024x1, .f32⟩
  | 21 => ⟨S1024x1x1, .f32⟩
  | 22 => ⟨S1024x8768x1, .f32⟩
  | 23 => ⟨S1024x8768x1, .f32⟩
  | 24 => ⟨S1024x8768x1, .f32⟩
  | 25 => ⟨S_, .f32⟩
  | 26 => ⟨S1024x1, .f32⟩
  | 27 => ⟨S1024x1x1, .f32⟩
  | 28 => ⟨S1024x8768x1, .f32⟩
  | 29 => ⟨S1024x8768x1, .f32⟩
  | 30 => ⟨S1024x8000x3, .f32⟩
  | 31 => ⟨S1x3x1, .f32⟩
  | 32 => ⟨S3x1, .f32⟩
  | 33 => ⟨S1024x8000x1, .f32⟩
  | 34 => ⟨S1x1, .f32⟩
  | 35 => ⟨S1, .f32⟩
  | 36 => ⟨S1x1x1, .f32⟩
  | 37 => ⟨S1024x8000x1, .f32⟩
  | 38 => ⟨S1024x8000x1, .f32⟩
  | 39 => ⟨S_, .f32⟩
  | 40 => ⟨S1024x1, .f32⟩
  | 41 => ⟨S_, .f32⟩
  | 42 => ⟨S1024x1, .f32⟩
  | 43 => ⟨S1024x1, .f32⟩
  | 44 => ⟨S1024x1x1, .f32⟩
  | 45 => ⟨S1024x8000x1, .f32⟩
  | 46 => ⟨S1024x8000x1, .f32⟩
  | 47 => ⟨S1024x8000x1, .f32⟩
  | 48 => ⟨S_, .f32⟩
  | 49 => ⟨S1024x1, .f32⟩
  | 50 => ⟨S1024x1x1, .f32⟩
  | 51 => ⟨S1024x8000x1, .f32⟩
  | 52 => ⟨S1024x8000x1, .f32⟩
  | 53 => ⟨S1024x8000x3, .f32⟩
  | 54 => ⟨S1x3x1, .f32⟩
  | 55 => ⟨S3x1, .f32⟩
  | 56 => ⟨S1024x8000x1, .f32⟩
  | 57 => ⟨S1x1, .f32⟩
  | 58 => ⟨S1, .f32⟩
  | 59 => ⟨S1x1x1, .f32⟩
  | 60 => ⟨S1024x8000x1, .f32⟩
  | 61 => ⟨S1024x8000x1, .f32⟩
  | 62 => ⟨S_, .f32⟩
  | 63 => ⟨S1024x1, .f32⟩
  | 64 => ⟨S_, .f32⟩
  | 65 => ⟨S1024x1, .f32⟩
  | 66 => ⟨S1024x1, .f32⟩
  | 67 => ⟨S1024x1x1, .f32⟩
  | 68 => ⟨S1024x8000x1, .f32⟩
  | 69 => ⟨S1024x8000x1, .f32⟩
  | 70 => ⟨S1024x8000x1, .f32⟩
  | 71 => ⟨S_, .f32⟩
  | 72 => ⟨S1024x1, .f32⟩
  | 73 => ⟨S1024x1x1, .f32⟩
  | 74 => ⟨S1024x8000x1, .f32⟩
  | 75 => ⟨S1024x8000x1, .f32⟩
  | 76 => ⟨S1024x8000x3, .f32⟩
  | 77 => ⟨S1x3x1, .f32⟩
  | 78 => ⟨S3x1, .f32⟩
  | 79 => ⟨S1024x8000x1, .f32⟩
  | 80 => ⟨S1x1, .f32⟩
  | 81 => ⟨S1, .f32⟩
  | 82 => ⟨S1x1x1, .f32⟩
  | 83 => ⟨S1024x8000x1, .f32⟩
  | 84 => ⟨S1024x8000x1, .f32⟩
  | 85 => ⟨S_, .f32⟩
  | 86 => ⟨S1024x1, .f32⟩
  | 87 => ⟨S_, .f32⟩
  | 88 => ⟨S1024x1, .f32⟩
  | 89 => ⟨S1024x1, .f32⟩
  | 90 => ⟨S1024x1x1, .f32⟩
  | 91 => ⟨S1024x8000x1, .f32⟩
  | 92 => ⟨S1024x8000x1, .f32⟩
  | 93 => ⟨S1024x8000x1, .f32⟩
  | 94 => ⟨S_, .f32⟩
  | 95 => ⟨S1024x1, .f32⟩
  | 96 => ⟨S1024x1x1, .f32⟩
  | 97 => ⟨S1024x8000x1, .f32⟩
  | 98 => ⟨S1024x8000x1, .f32⟩
  | 99 => ⟨S1024x32768x1, .f32⟩
  | 100 => ⟨S1024x32768, .f32⟩
  | 101 => ⟨S1024x32768, .f32⟩
  | 102 => ⟨S_, .i32⟩
  | 103 => ⟨S_, .i32⟩
  | 104 => ⟨S_, .i32⟩
  | 105 => ⟨S_, .i32⟩
  | 106 => ⟨S1, .i32⟩
  | 107 => ⟨S_, .i32⟩
  | 108 => ⟨S_, .i32⟩
  | 109 => ⟨S_, .i32⟩
  | 110 => ⟨S1, .i32⟩
  | 111 => ⟨S2, .i32⟩
  | 112 => ⟨S1, .i32⟩
  | 113 => ⟨S_, .i32⟩
  | 114 => ⟨S1, .i32⟩
  | 115 => ⟨S_, .i32⟩
  | 116 => ⟨S2, .i64⟩
  | 117 => ⟨S_, .i64⟩
  | 118 => ⟨S2, .i64⟩
  | 119 => ⟨S2, .i64⟩
  | 120 => ⟨S_, .i64⟩
  | 121 => ⟨S2, .i64⟩
  | 122 => ⟨S2, .i64⟩
  | 123 => ⟨S2, .i32⟩
  | 124 => ⟨S2, .i32⟩
  | 125 => ⟨S_, .i32⟩
  | 126 => ⟨S_, .i32⟩
  | 127 => ⟨S_, .i32⟩
  | _ => ⟨S1024x98304, .f32⟩

abbrev hbmTy0_1 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S_, .i32⟩
  | 6 => ⟨S2, .i32⟩
  | 7 => ⟨S2, .i32⟩
  | 8 => ⟨S_, .i32⟩
  | 9 => ⟨S2, .i32⟩
  | 10 => ⟨S2, .i32⟩
  | 11 => ⟨S2, .i32⟩
  | 12 => ⟨S2, .i32⟩
  | 13 => ⟨S2, .i32⟩
  | 14 => ⟨S_, .i32⟩
  | 15 => ⟨S2, .i32⟩
  | 16 => ⟨S2, .i32⟩
  | 17 => ⟨S_, .i32⟩
  | 18 => ⟨S2, .i32⟩
  | 19 => ⟨S2, .i32⟩
  | 20 => ⟨S2, .i32⟩
  | 21 => ⟨S2, .i32⟩
  | 22 => ⟨S2, .i32⟩
  | 23 => ⟨S_, .i32⟩
  | 24 => ⟨S2, .i32⟩
  | 25 => ⟨S2, .i32⟩
  | 26 => ⟨S_, .i32⟩
  | 27 => ⟨S2, .i32⟩
  | 28 => ⟨S2, .i32⟩
  | 29 => ⟨S2, .i32⟩
  | 30 => ⟨S2, .i32⟩
  | 31 => ⟨S2, .i32⟩
  | 32 => ⟨S_, .i32⟩
  | 33 => ⟨S2, .i32⟩
  | 34 => ⟨S2, .i32⟩
  | 35 => ⟨S_, .i32⟩
  | 36 => ⟨S2, .i32⟩
  | 37 => ⟨S2, .i32⟩
  | 38 => ⟨S2, .i32⟩
  | 39 => ⟨S2, .i32⟩
  | 40 => ⟨S2, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S2, .i32⟩
  | 48 => ⟨S_, .i32⟩
  | 49 => ⟨S2, .i32⟩
  | 50 => ⟨S2, .i32⟩
  | 51 => ⟨S_, .i32⟩
  | 52 => ⟨S2, .i32⟩
  | 53 => ⟨S2, .i32⟩
  | 54 => ⟨S2, .i32⟩
  | 55 => ⟨S2, .i32⟩
  | 56 => ⟨S2, .i32⟩
  | 57 => ⟨S_, .i32⟩
  | 58 => ⟨S2, .i32⟩
  | 59 => ⟨S2, .i32⟩
  | 60 => ⟨S_, .i32⟩
  | 61 => ⟨S2, .i32⟩
  | 62 => ⟨S2, .i32⟩
  | 63 => ⟨S2, .i32⟩
  | 64 => ⟨S2, .i32⟩
  | 65 => ⟨S2, .i32⟩
  | 66 => ⟨S_, .i32⟩
  | 67 => ⟨S2, .i32⟩
  | 68 => ⟨S2, .i32⟩
  | 69 => ⟨S_, .i32⟩
  | 70 => ⟨S2, .i32⟩
  | 71 => ⟨S2, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S2, .i32⟩
  | 83 => ⟨S2, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S2, .i32⟩
  | 91 => ⟨S_, .i32⟩
  | 92 => ⟨S2, .i32⟩
  | 93 => ⟨S2, .i32⟩
  | 94 => ⟨S_, .i32⟩
  | 95 => ⟨S2, .i32⟩
  | 96 => ⟨S2, .i32⟩
  | 97 => ⟨S2, .i32⟩
  | 98 => ⟨S2, .i32⟩
  | 99 => ⟨S2, .i32⟩
  | 100 => ⟨S_, .i32⟩
  | 101 => ⟨S2, .i32⟩
  | 102 => ⟨S2, .i32⟩
  | 103 => ⟨S_, .i32⟩
  | 104 => ⟨S2, .i32⟩
  | 105 => ⟨S2, .i32⟩
  | 106 => ⟨S2, .i32⟩
  | 107 => ⟨S2, .i32⟩
  | 108 => ⟨S2, .i32⟩
  | 109 => ⟨S_, .i32⟩
  | 110 => ⟨S2, .i32⟩
  | 111 => ⟨S2, .i32⟩
  | 112 => ⟨S_, .i32⟩
  | 113 => ⟨S2, .i32⟩
  | 114 => ⟨S2, .i32⟩
  | 115 => ⟨S2, .i32⟩
  | 116 => ⟨S2, .i32⟩
  | 117 => ⟨S2, .i32⟩
  | 118 => ⟨S_, .i32⟩
  | 119 => ⟨S2, .i32⟩
  | 120 => ⟨S2, .i32⟩
  | 121 => ⟨S_, .i32⟩
  | 122 => ⟨S2, .i32⟩
  | 123 => ⟨S2, .i32⟩
  | 124 => ⟨S2, .i32⟩
  | 125 => ⟨S2, .i32⟩
  | 126 => ⟨S2, .i32⟩
  | 127 => ⟨S2, .i32⟩
  | _ => ⟨S1024x98304, .f32⟩

abbrev hbmTy0_2 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S2, .i32⟩
  | 6 => ⟨S_, .i32⟩
  | 7 => ⟨S2, .i32⟩
  | 8 => ⟨S2, .i32⟩
  | 9 => ⟨S_, .i32⟩
  | 10 => ⟨S2, .i32⟩
  | 11 => ⟨S2, .i32⟩
  | 12 => ⟨S2, .i32⟩
  | 13 => ⟨S2, .i32⟩
  | 14 => ⟨S2, .i32⟩
  | 15 => ⟨S_, .i32⟩
  | 16 => ⟨S2, .i32⟩
  | 17 => ⟨S2, .i32⟩
  | 18 => ⟨S_, .i32⟩
  | 19 => ⟨S2, .i32⟩
  | 20 => ⟨S2, .i32⟩
  | 21 => ⟨S2, .i32⟩
  | 22 => ⟨S2, .i32⟩
  | 23 => ⟨S2, .i32⟩
  | 24 => ⟨S_, .i32⟩
  | 25 => ⟨S2, .i32⟩
  | 26 => ⟨S2, .i32⟩
  | 27 => ⟨S_, .i32⟩
  | 28 => ⟨S2, .i32⟩
  | 29 => ⟨S2, .i32⟩
  | 30 => ⟨S2, .i32⟩
  | 31 => ⟨S2, .i32⟩
  | 32 => ⟨S2, .i32⟩
  | 33 => ⟨S_, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S2, .i32⟩
  | 41 => ⟨S2, .i32⟩
  | 42 => ⟨S2, .i32⟩
  | 43 => ⟨S2, .i32⟩
  | 44 => ⟨S2, .i32⟩
  | 45 => ⟨S_, .i32⟩
  | 46 => ⟨S2, .i32⟩
  | 47 => ⟨S2, .i32⟩
  | 48 => ⟨S2, .i32⟩
  | 49 => ⟨S_, .i32⟩
  | 50 => ⟨S2, .i32⟩
  | 51 => ⟨S2, .i32⟩
  | 52 => ⟨S_, .i32⟩
  | 53 => ⟨S2, .i32⟩
  | 54 => ⟨S2, .i32⟩
  | 55 => ⟨S2, .i32⟩
  | 56 => ⟨S2, .i32⟩
  | 57 => ⟨S2, .i32⟩
  | 58 => ⟨S_, .i32⟩
  | 59 => ⟨S2, .i32⟩
  | 60 => ⟨S2, .i32⟩
  | 61 => ⟨S_, .i32⟩
  | 62 => ⟨S2, .i32⟩
  | 63 => ⟨S2, .i32⟩
  | 64 => ⟨S2, .i32⟩
  | 65 => ⟨S2, .i32⟩
  | 66 => ⟨S2, .i32⟩
  | 67 => ⟨S_, .i32⟩
  | 68 => ⟨S2, .i32⟩
  | 69 => ⟨S2, .i32⟩
  | 70 => ⟨S_, .i32⟩
  | 71 => ⟨S2, .i32⟩
  | 72 => ⟨S2, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S2, .i32⟩
  | 84 => ⟨S2, .i32⟩
  | 85 => ⟨S2, .i32⟩
  | 86 => ⟨S2, .i32⟩
  | 87 => ⟨S2, .i32⟩
  | 88 => ⟨S_, .i32⟩
  | 89 => ⟨S2, .i32⟩
  | 90 => ⟨S2, .i32⟩
  | 91 => ⟨S2x1, .i32⟩
  | 92 => ⟨S2x1, .i32⟩
  | 93 => ⟨S2x2, .i32⟩
  | 94 => ⟨S1x2, .i32⟩
  | 95 => ⟨S2, .i32⟩
  | 96 => ⟨S1x2, .i32⟩
  | 97 => ⟨S2, .i32⟩
  | 98 => ⟨S1024x32768, .i32⟩
  | 99 => ⟨S_, .f32⟩
  | 100 => ⟨S_, .i32⟩
  | 101 => ⟨S1024, .f32⟩
  | 102 => ⟨S1024, .i32⟩
  | 103 => ⟨S1, .i32⟩
  | 104 => ⟨S_, .i32⟩
  | 105 => ⟨S1, .i32⟩
  | 106 => ⟨S_, .i32⟩
  | 107 => ⟨S3x1024x32768, .i64⟩
  | 108 => ⟨S3x1024x32768, .i64⟩
  | 109 => ⟨S3x1024x32768, .i64⟩
  | 110 => ⟨S_, .i64⟩
  | 111 => ⟨S3x1024x32768, .i64⟩
  | 112 => ⟨S3x1024x32768, .i64⟩
  | 113 => ⟨S_, .i64⟩
  | 114 => ⟨S3x1024x32768, .i64⟩
  | 115 => ⟨S3x1024x32768, .i64⟩
  | 116 => ⟨S_, .i64⟩
  | 117 => ⟨S3x1024x32768, .i64⟩
  | 118 => ⟨S3x1024x32768, .i64⟩
  | 119 => ⟨S3x1024x32768, .i64⟩
  | 120 => ⟨S3x1024x32768, .i64⟩
  | 121 => ⟨S_, .i64⟩
  | 122 => ⟨S3x1024x32768, .i64⟩
  | 123 => ⟨S3x1024x32768, .i64⟩
  | 124 => ⟨S3x1024x32768, .i32⟩
  | 125 => ⟨S3x1024x32768, .i32⟩
  | 126 => ⟨S_, .i32⟩
  | 127 => ⟨S_, .i32⟩
  | _ => ⟨S1024x98304, .f32⟩

abbrev hbmTy0_3 (i : Nat) : BufTy := match i % 128 with
  | 0 => ⟨S_, .i32⟩
  | 1 => ⟨S3x1024x32768, .i32⟩
  | 2 => ⟨S3x1024x32768, .i32⟩
  | 3 => ⟨S3x1024x32768, .i32⟩
  | 4 => ⟨S3x1024x32768, .i32⟩
  | 5 => ⟨S3x1024x32768, .i32⟩
  | 6 => ⟨S_, .i32⟩
  | 7 => ⟨S3x1024x32768, .i32⟩
  | 8 => ⟨S3x1024x32768, .i32⟩
  | 9 => ⟨S_, .i32⟩
  | 10 => ⟨S3x1024x32768, .i32⟩
  | 11 => ⟨S3x1024x32768, .i32⟩
  | 12 => ⟨S3x1024x32768, .i32⟩
  | 13 => ⟨S3x1024x32768, .i32⟩
  | 14 => ⟨S3x1024x32768, .i32⟩
  | 15 => ⟨S_, .i32⟩
  | 16 => ⟨S3x1024x32768, .i32⟩
  | 17 => ⟨S3x1024x32768, .i32⟩
  | 18 => ⟨S_, .i32⟩
  | 19 => ⟨S3x1024x32768, .i32⟩
  | 20 => ⟨S3x1024x32768, .i32⟩
  | 21 => ⟨S3x1024x32768, .i32⟩
  | 22 => ⟨S3x1024x32768, .i32⟩
  | 23 => ⟨S3x1024x32768, .i32⟩
  | 24 => ⟨S_, .i32⟩
  | 25 => ⟨S3x1024x32768, .i32⟩
  | 26 => ⟨S3x1024x32768, .i32⟩
  | 27 => ⟨S_, .i32⟩
  | 28 => ⟨S3x1024x32768, .i32⟩
  | 29 => ⟨S3x1024x32768, .i32⟩
  | 30 => ⟨S3x1024x32768, .i32⟩
  | 31 => ⟨S3x1024x32768, .i32⟩
  | 32 => ⟨S3x1024x32768, .i32⟩
  | 33 => ⟨S_, .i32⟩
  | 34 => ⟨S3x1024x32768, .i32⟩
  | 35 => ⟨S3x1024x32768, .i32⟩
  | 36 => ⟨S_, .i32⟩
  | 37 => ⟨S3x1024x32768, .i32⟩
  | 38 => ⟨S3x1024x32768, .i32⟩
  | 39 => ⟨S3x1024x32768, .i32⟩
  | 40 => ⟨S3x1024x32768, .i32⟩
  | 41 => ⟨S3x1024x32768, .i32⟩
  | 42 => ⟨S3x1024x32768, .i32⟩
  | 43 => ⟨S3x1024x32768, .i32⟩
  | 44 => ⟨S3x1024x32768, .i32⟩
  | 45 => ⟨S_, .i32⟩
  | 46 => ⟨S3x1024x32768, .i32⟩
  | 47 => ⟨S3x1024x32768, .i32⟩
  | 48 => ⟨S3x1024x32768, .i32⟩
  | 49 => ⟨S_, .i32⟩
  | 50 => ⟨S3x1024x32768, .i32⟩
  | 51 => ⟨S3x1024x32768, .i32⟩
  | 52 => ⟨S_, .i32⟩
  | 53 => ⟨S3x1024x32768, .i32⟩
  | 54 => ⟨S3x1024x32768, .i32⟩
  | 55 => ⟨S3x1024x32768, .i32⟩
  | 56 => ⟨S3x1024x32768, .i32⟩
  | 57 => ⟨S3x1024x32768, .i32⟩
  | 58 => ⟨S_, .i32⟩
  | 59 => ⟨S3x1024x32768, .i32⟩
  | 60 => ⟨S3x1024x32768, .i32⟩
  | 61 => ⟨S_, .i32⟩
  | 62 => ⟨S3x1024x32768, .i32⟩
  | 63 => ⟨S3x1024x32768, .i32⟩
  | 64 => ⟨S3x1024x32768, .i32⟩
  | 65 => ⟨S3x1024x32768, .i32⟩
  | 66 => ⟨S3x1024x32768, .i32⟩
  | 67 => ⟨S_, .i32⟩
  | 68 => ⟨S3x1024x32768, .i32⟩
  | 69 => ⟨S3x1024x32768, .i32⟩
  | 70 => ⟨S_, .i32⟩
  | 71 => ⟨S3x1024x32768, .i32⟩
  | 72 => ⟨S3x1024x32768, .i32⟩
  | 73 => ⟨S3x1024x32768, .i32⟩
  | 74 => ⟨S3x1024x32768, .i32⟩
  | 75 => ⟨S3x1024x32768, .i32⟩
  | 76 => ⟨S_, .i32⟩
  | 77 => ⟨S3x1024x32768, .i32⟩
  | 78 => ⟨S3x1024x32768, .i32⟩
  | 79 => ⟨S_, .i32⟩
  | 80 => ⟨S3x1024x32768, .i32⟩
  | 81 => ⟨S3x1024x32768, .i32⟩
  | 82 => ⟨S3x1024x32768, .i32⟩
  | 83 => ⟨S3x1024x32768, .i32⟩
  | 84 => ⟨S3x1024x32768, .i32⟩
  | 85 => ⟨S3x1024x32768, .i32⟩
  | 86 => ⟨S3x1024x32768, .i32⟩
  | 87 => ⟨S3x1024x32768, .i32⟩
  | 88 => ⟨S_, .i32⟩
  | 89 => ⟨S3x1024x32768, .i32⟩
  | 90 => ⟨S3x1024x32768, .i32⟩
  | 91 => ⟨S3x1024x32768, .i32⟩
  | 92 => ⟨S_, .i32⟩
  | 93 => ⟨S3x1024x32768, .i32⟩
  | 94 => ⟨S3x1024x32768, .i32⟩
  | 95 => ⟨S_, .i32⟩
  | 96 => ⟨S3x1024x32768, .i32⟩
  | 97 => ⟨S3x1024x32768, .i32⟩
  | 98 => ⟨S3x1024x32768, .i32⟩
  | 99 => ⟨S3x1024x32768, .i32⟩
  | 100 => ⟨S3x1024x32768, .i32⟩
  | 101 => ⟨S_, .i32⟩
  | 102 => ⟨S3x1024x32768, .i32⟩
  | 103 => ⟨S3x1024x32768, .i32⟩
  | 104 => ⟨S_, .i32⟩
  | 105 => ⟨S3x1024x32768, .i32⟩
  | 106 => ⟨S3x1024x32768, .i32⟩
  | 107 => ⟨S3x1024x32768, .i32⟩
  | 108 => ⟨S3x1024x32768, .i32⟩
  | 109 => ⟨S3x1024x32768, .i32⟩
  | 110 => ⟨S_, .i32⟩
  | 111 => ⟨S3x1024x32768, .i32⟩
  | 112 => ⟨S3x1024x32768, .i32⟩
  | 113 => ⟨S_, .i32⟩
  | 114 => ⟨S3x1024x32768, .i32⟩
  | 115 => ⟨S3x1024x32768, .i32⟩
  | 116 => ⟨S3x1024x32768, .i32⟩
  | 117 => ⟨S3x1024x32768, .i32⟩
  | 118 => ⟨S3x1024x32768, .i32⟩
  | 119 => ⟨S_, .i32⟩
  | 120 => ⟨S3x1024x32768, .i32⟩
  | 121 => ⟨S3x1024x32768, .i32⟩
  | 122 => ⟨S_, .i32⟩
  | 123 => ⟨S3x1024x32768, .i32⟩
  | 124 => ⟨S3x1024x32768, .i32⟩
  | 125 => ⟨S3x1024x32768, .i32⟩
  | 126 => ⟨S3x1024x32768, .i32⟩
  | 127 => ⟨S3x1024x32768, .i32⟩
  | _ => ⟨S1024x98304, .f32⟩

abbrev hbmTy0_4 (i : Nat) : BufTy := match i % 128 with
  | 0 => ⟨S3x1024x32768, .i32⟩
  | 1 => ⟨S3x1024x32768, .i32⟩
  | 2 => ⟨S3x1024x32768, .i32⟩
  | 3 => ⟨S_, .i32⟩
  | 4 => ⟨S3x1024x32768, .i32⟩
  | 5 => ⟨S3x1024x32768, .i32⟩
  | 6 => ⟨S3x1024x32768, .i32⟩
  | 7 => ⟨S_, .i32⟩
  | 8 => ⟨S3x1024x32768, .i32⟩
  | 9 => ⟨S3x1024x32768, .i32⟩
  | 10 => ⟨S_, .i32⟩
  | 11 => ⟨S3x1024x32768, .i32⟩
  | 12 => ⟨S3x1024x32768, .i32⟩
  | 13 => ⟨S3x1024x32768, .i32⟩
  | 14 => ⟨S3x1024x32768, .i32⟩
  | 15 => ⟨S3x1024x32768, .i32⟩
  | 16 => ⟨S_, .i32⟩
  | 17 => ⟨S3x1024x32768, .i32⟩
  | 18 => ⟨S3x1024x32768, .i32⟩
  | 19 => ⟨S_, .i32⟩
  | 20 => ⟨S3x1024x32768, .i32⟩
  | 21 => ⟨S3x1024x32768, .i32⟩
  | 22 => ⟨S3x1024x32768, .i32⟩
  | 23 => ⟨S3x1024x32768, .i32⟩
  | 24 => ⟨S3x1024x32768, .i32⟩
  | 25 => ⟨S_, .i32⟩
  | 26 => ⟨S3x1024x32768, .i32⟩
  | 27 => ⟨S3x1024x32768, .i32⟩
  | 28 => ⟨S_, .i32⟩
  | 29 => ⟨S3x1024x32768, .i32⟩
  | 30 => ⟨S3x1024x32768, .i32⟩
  | 31 => ⟨S3x1024x32768, .i32⟩
  | 32 => ⟨S3x1024x32768, .i32⟩
  | 33 => ⟨S3x1024x32768, .i32⟩
  | 34 => ⟨S_, .i32⟩
  | 35 => ⟨S3x1024x32768, .i32⟩
  | 36 => ⟨S3x1024x32768, .i32⟩
  | 37 => ⟨S_, .i32⟩
  | 38 => ⟨S3x1024x32768, .i32⟩
  | 39 => ⟨S3x1024x32768, .i32⟩
  | 40 => ⟨S3x1024x32768, .i32⟩
  | 41 => ⟨S3x1024x32768, .i32⟩
  | 42 => ⟨S3x1024x32768, .i32⟩
  | 43 => ⟨S3x1024x32768, .i32⟩
  | 44 => ⟨S3x1024x32768, .i32⟩
  | 45 => ⟨S3x1024x32768, .i32⟩
  | 46 => ⟨S_, .i32⟩
  | 47 => ⟨S3x1024x32768, .i32⟩
  | 48 => ⟨S3x1024x32768, .i32⟩
  | 49 => ⟨S3x1024x32768, .i32⟩
  | 50 => ⟨S_, .i32⟩
  | 51 => ⟨S3x1024x32768, .i32⟩
  | 52 => ⟨S3x1024x32768, .i32⟩
  | 53 => ⟨S_, .i32⟩
  | 54 => ⟨S3x1024x32768, .i32⟩
  | 55 => ⟨S3x1024x32768, .i32⟩
  | 56 => ⟨S3x1024x32768, .i32⟩
  | 57 => ⟨S3x1024x32768, .i32⟩
  | 58 => ⟨S3x1024x32768, .i32⟩
  | 59 => ⟨S_, .i32⟩
  | 60 => ⟨S3x1024x32768, .i32⟩
  | 61 => ⟨S3x1024x32768, .i32⟩
  | 62 => ⟨S_, .i32⟩
  | 63 => ⟨S3x1024x32768, .i32⟩
  | 64 => ⟨S3x1024x32768, .i32⟩
  | 65 => ⟨S3x1024x32768, .i32⟩
  | 66 => ⟨S3x1024x32768, .i32⟩
  | 67 => ⟨S3x1024x32768, .i32⟩
  | 68 => ⟨S_, .i32⟩
  | 69 => ⟨S3x1024x32768, .i32⟩
  | 70 => ⟨S3x1024x32768, .i32⟩
  | 71 => ⟨S_, .i32⟩
  | 72 => ⟨S3x1024x32768, .i32⟩
  | 73 => ⟨S3x1024x32768, .i32⟩
  | 74 => ⟨S3x1024x32768, .i32⟩
  | 75 => ⟨S3x1024x32768, .i32⟩
  | 76 => ⟨S3x1024x32768, .i32⟩
  | 77 => ⟨S_, .i32⟩
  | 78 => ⟨S3x1024x32768, .i32⟩
  | 79 => ⟨S3x1024x32768, .i32⟩
  | 80 => ⟨S_, .i32⟩
  | 81 => ⟨S3x1024x32768, .i32⟩
  | 82 => ⟨S3x1024x32768, .i32⟩
  | 83 => ⟨S3x1024x32768, .i32⟩
  | 84 => ⟨S3x1024x32768, .i32⟩
  | 85 => ⟨S3x1024x32768, .i32⟩
  | 86 => ⟨S3x1024x32768, .i32⟩
  | 87 => ⟨S3x1024x32768, .i32⟩
  | 88 => ⟨S3x1024x32768, .i32⟩
  | 89 => ⟨S_, .i32⟩
  | 90 => ⟨S3x1024x32768, .i32⟩
  | 91 => ⟨S3x1024x32768, .i32⟩
  | 92 => ⟨S3x1024x32768, .i32⟩
  | 93 => ⟨S_, .i32⟩
  | 94 => ⟨S3x1024x32768, .i32⟩
  | 95 => ⟨S3x1024x32768, .i32⟩
  | 96 => ⟨S_, .i32⟩
  | 97 => ⟨S3x1024x32768, .i32⟩
  | 98 => ⟨S3x1024x32768, .i32⟩
  | 99 => ⟨S3x1024x32768, .f32⟩
  | 100 => ⟨S_, .f32⟩
  | 101 => ⟨S3x1024x32768, .f32⟩
  | 102 => ⟨S3x1024x32768, .f32⟩
  | 103 => ⟨S_, .f32⟩
  | 104 => ⟨S3x1024x32768, .f32⟩
  | 105 => ⟨S3x1024x32768, .f32⟩
  | 106 => ⟨S_, .f32⟩
  | 107 => ⟨S3x1024x32768, .f32⟩
  | 108 => ⟨S3x1024x32768, .f32⟩
  | 109 => ⟨S_, .f32⟩
  | 110 => ⟨S3x1024x32768, .f32⟩
  | 111 => ⟨S3x1024x32768, .f32⟩
  | 112 => ⟨S3x1024x32768, .f32⟩
  | 113 => ⟨S3x1024x32768, .f32⟩
  | 114 => ⟨S3x1024x32768, .f32⟩
  | 115 => ⟨S3x1024x32768, .f32⟩
  | 116 => ⟨S1x1024x32768, .f32⟩
  | 117 => ⟨S3x1024x32768, .f32⟩
  | 118 => ⟨S3x1024x32768, .f32⟩
  | 119 => ⟨S3x1024x32768, .i32⟩
  | 120 => ⟨S_, .f32⟩
  | 121 => ⟨S_, .i32⟩
  | 122 => ⟨S3x1024, .f32⟩
  | 123 => ⟨S3x1024, .i32⟩
  | 124 => ⟨S1x1024, .i32⟩
  | 125 => ⟨S3x1024, .i32⟩
  | 126 => ⟨S3x1024, .i1⟩
  | 127 => ⟨S_, .i1⟩
  | _ => ⟨S1024x98304, .f32⟩

abbrev hbmTy0_5 (i : Nat) : BufTy := match i % 128 with
  | 0 => ⟨S1024, .i1⟩
  | 1 => ⟨S3x1024, .i32⟩
  | 2 => ⟨S_, .i1⟩
  | 3 => ⟨S_, .i32⟩
  | 4 => ⟨S1024, .i1⟩
  | 5 => ⟨S1024, .i32⟩
  | 6 => ⟨S1024, .i32⟩
  | 7 => ⟨S_, .i32⟩
  | 8 => ⟨S1024, .i32⟩
  | 9 => ⟨S1024, .i1⟩
  | 10 => ⟨S_, .i32⟩
  | 11 => ⟨S1024, .i32⟩
  | 12 => ⟨S1024, .i32⟩
  | 13 => ⟨S1024, .i32⟩
  | 14 => ⟨S_, .i32⟩
  | 15 => ⟨S1024, .i32⟩
  | 16 => ⟨S1024, .i1⟩
  | 17 => ⟨S_, .i32⟩
  | 18 => ⟨S1024, .i32⟩
  | 19 => ⟨S1024, .i32⟩
  | 20 => ⟨S1024, .i32⟩
  | 21 => ⟨S1024x1, .i32⟩
  | 22 => ⟨S1024x1, .i32⟩
  | 23 => ⟨S1024x2, .i32⟩
  | 24 => ⟨S1024, .i32⟩
  | 25 => ⟨S1x1024, .i32⟩
  | 26 => ⟨S1024, .i32⟩
  | 27 => ⟨S1024, .i32⟩
  | _ => ⟨S1024x98304, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S1024x98304, .f32⟩

abbrev bufTy : (tb : Table) → Fin (tcTables nBuf tb) → BufTy
  | .hbm, ⟨i, _⟩ => hbmTy i
  | _, _ => ⟨S1024x98304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_2 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_cst_5 : Ref sig .tc := ⟨.hbm, 62, rfl⟩
abbrev main_v53 : Ref sig .tc := ⟨.hbm, 63, rfl⟩
abbrev main_cst_6 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_cst_7 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_cst_8 : Ref sig .tc := ⟨.hbm, 85, rfl⟩
abbrev main_v73 : Ref sig .tc := ⟨.hbm, 86, rfl⟩
abbrev main_cst_9 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_cst_10 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_c : Ref sig .tc := ⟨.hbm, 102, rfl⟩
abbrev main_c_11 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_c_12 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_call0_v0 : Ref sig .tc := ⟨.hbm, 112, rfl⟩
abbrev main_call0_v1 : Ref sig .tc := ⟨.hbm, 113, rfl⟩
abbrev main_call0_v2 : Ref sig .tc := ⟨.hbm, 114, rfl⟩
abbrev main_call0_v3 : Ref sig .tc := ⟨.hbm, 115, rfl⟩
abbrev main_call0_v4 : Ref sig .tc := ⟨.hbm, 116, rfl⟩
abbrev main_call0_c : Ref sig .tc := ⟨.hbm, 117, rfl⟩
abbrev main_call0_v5 : Ref sig .tc := ⟨.hbm, 118, rfl⟩
abbrev main_call0_v6 : Ref sig .tc := ⟨.hbm, 119, rfl⟩
abbrev main_call0_c_0 : Ref sig .tc := ⟨.hbm, 120, rfl⟩
abbrev main_call0_v7 : Ref sig .tc := ⟨.hbm, 121, rfl⟩
abbrev main_call0_v8 : Ref sig .tc := ⟨.hbm, 122, rfl⟩
abbrev main_call0_v9 : Ref sig .tc := ⟨.hbm, 123, rfl⟩
abbrev main_call0_v10 : Ref sig .tc := ⟨.hbm, 124, rfl⟩
abbrev main_call0_call0_v0 : Ref sig .tc := ⟨.hbm, 125, rfl⟩
abbrev main_call0_call0_c : Ref sig .tc := ⟨.hbm, 126, rfl⟩
abbrev main_call0_call0_v1 : Ref sig .tc := ⟨.hbm, 127, rfl⟩
abbrev main_call0_call0_v2 : Ref sig .tc := ⟨.hbm, 128, rfl⟩
abbrev main_call0_call0_v3 : Ref sig .tc := ⟨.hbm, 129, rfl⟩
abbrev main_call0_call0_v4 : Ref sig .tc := ⟨.hbm, 130, rfl⟩
abbrev main_call0_call0_v5 : Ref sig .tc := ⟨.hbm, 131, rfl⟩
abbrev main_call0_call0_v6 : Ref sig .tc := ⟨.hbm, 132, rfl⟩
abbrev main_call0_call0_c_0 : Ref sig .tc := ⟨.hbm, 133, rfl⟩
abbrev main_call0_call0_v7 : Ref sig .tc := ⟨.hbm, 134, rfl⟩
abbrev main_call0_call0_v8 : Ref sig .tc := ⟨.hbm, 135, rfl⟩
abbrev main_call0_call0_c_1 : Ref sig .tc := ⟨.hbm, 136, rfl⟩
abbrev main_call0_call0_v9 : Ref sig .tc := ⟨.hbm, 137, rfl⟩
abbrev main_call0_call0_v10 : Ref sig .tc := ⟨.hbm, 138, rfl⟩
abbrev main_call0_call0_v11 : Ref sig .tc := ⟨.hbm, 139, rfl⟩
abbrev main_call0_call0_v12 : Ref sig .tc := ⟨.hbm, 140, rfl⟩
abbrev main_call0_call0_v13 : Ref sig .tc := ⟨.hbm, 141, rfl⟩
abbrev main_call0_call0_c_2 : Ref sig .tc := ⟨.hbm, 142, rfl⟩
abbrev main_call0_call0_v14 : Ref sig .tc := ⟨.hbm, 143, rfl⟩
abbrev main_call0_call0_v15 : Ref sig .tc := ⟨.hbm, 144, rfl⟩
abbrev main_call0_call0_c_3 : Ref sig .tc := ⟨.hbm, 145, rfl⟩
abbrev main_call0_call0_v16 : Ref sig .tc := ⟨.hbm, 146, rfl⟩
abbrev main_call0_call0_v17 : Ref sig .tc := ⟨.hbm, 147, rfl⟩
abbrev main_call0_call0_v18 : Ref sig .tc := ⟨.hbm, 148, rfl⟩
abbrev main_call0_call0_v19 : Ref sig .tc := ⟨.hbm, 149, rfl⟩
abbrev main_call0_call0_v20 : Ref sig .tc := ⟨.hbm, 150, rfl⟩
abbrev main_call0_call0_c_4 : Ref sig .tc := ⟨.hbm, 151, rfl⟩
abbrev main_call0_call0_v21 : Ref sig .tc := ⟨.hbm, 152, rfl⟩
abbrev main_call0_call0_v22 : Ref sig .tc := ⟨.hbm, 153, rfl⟩
abbrev main_call0_call0_c_5 : Ref sig .tc := ⟨.hbm, 154, rfl⟩
abbrev main_call0_call0_v23 : Ref sig .tc := ⟨.hbm, 155, rfl⟩
abbrev main_call0_call0_v24 : Ref sig .tc := ⟨.hbm, 156, rfl⟩
abbrev main_call0_call0_v25 : Ref sig .tc := ⟨.hbm, 157, rfl⟩
abbrev main_call0_call0_v26 : Ref sig .tc := ⟨.hbm, 158, rfl⟩
abbrev main_call0_call0_v27 : Ref sig .tc := ⟨.hbm, 159, rfl⟩
abbrev main_call0_call0_c_6 : Ref sig .tc := ⟨.hbm, 160, rfl⟩
abbrev main_call0_call0_v28 : Ref sig .tc := ⟨.hbm, 161, rfl⟩
abbrev main_call0_call0_v29 : Ref sig .tc := ⟨.hbm, 162, rfl⟩
abbrev main_call0_call0_c_7 : Ref sig .tc := ⟨.hbm, 163, rfl⟩
abbrev main_call0_call0_v30 : Ref sig .tc := ⟨.hbm, 164, rfl⟩
abbrev main_call0_call0_v31 : Ref sig .tc := ⟨.hbm, 165, rfl⟩
abbrev main_call0_call0_v32 : Ref sig .tc := ⟨.hbm, 166, rfl⟩
abbrev main_call0_call0_v33 : Ref sig .tc := ⟨.hbm, 167, rfl⟩
abbrev main_call0_call0_v34 : Ref sig .tc := ⟨.hbm, 168, rfl⟩
abbrev main_call0_call0_v35 : Ref sig .tc := ⟨.hbm, 169, rfl⟩
abbrev main_call0_call0_v36 : Ref sig .tc := ⟨.hbm, 170, rfl⟩
abbrev main_call0_call0_v37 : Ref sig .tc := ⟨.hbm, 171, rfl⟩
abbrev main_call0_call0_c_8 : Ref sig .tc := ⟨.hbm, 172, rfl⟩
abbrev main_call0_call0_v38 : Ref sig .tc := ⟨.hbm, 173, rfl⟩
abbrev main_call0_call0_v39 : Ref sig .tc := ⟨.hbm, 174, rfl⟩
abbrev main_call0_call0_v40 : Ref sig .tc := ⟨.hbm, 175, rfl⟩
abbrev main_call0_call0_c_9 : Ref sig .tc := ⟨.hbm, 176, rfl⟩
abbrev main_call0_call0_v41 : Ref sig .tc := ⟨.hbm, 177, rfl⟩
abbrev main_call0_call0_v42 : Ref sig .tc := ⟨.hbm, 178, rfl⟩
abbrev main_call0_call0_c_10 : Ref sig .tc := ⟨.hbm, 179, rfl⟩
abbrev main_call0_call0_v43 : Ref sig .tc := ⟨.hbm, 180, rfl⟩
abbrev main_call0_call0_v44 : Ref sig .tc := ⟨.hbm, 181, rfl⟩
abbrev main_call0_call0_v45 : Ref sig .tc := ⟨.hbm, 182, rfl⟩
abbrev main_call0_call0_v46 : Ref sig .tc := ⟨.hbm, 183, rfl⟩
abbrev main_call0_call0_v47 : Ref sig .tc := ⟨.hbm, 184, rfl⟩
abbrev main_call0_call0_c_11 : Ref sig .tc := ⟨.hbm, 185, rfl⟩
abbrev main_call0_call0_v48 : Ref sig .tc := ⟨.hbm, 186, rfl⟩
abbrev main_call0_call0_v49 : Ref sig .tc := ⟨.hbm, 187, rfl⟩
abbrev main_call0_call0_c_12 : Ref sig .tc := ⟨.hbm, 188, rfl⟩
abbrev main_call0_call0_v50 : Ref sig .tc := ⟨.hbm, 189, rfl⟩
abbrev main_call0_call0_v51 : Ref sig .tc := ⟨.hbm, 190, rfl⟩
abbrev main_call0_call0_v52 : Ref sig .tc := ⟨.hbm, 191, rfl⟩
abbrev main_call0_call0_v53 : Ref sig .tc := ⟨.hbm, 192, rfl⟩
abbrev main_call0_call0_v54 : Ref sig .tc := ⟨.hbm, 193, rfl⟩
abbrev main_call0_call0_c_13 : Ref sig .tc := ⟨.hbm, 194, rfl⟩
abbrev main_call0_call0_v55 : Ref sig .tc := ⟨.hbm, 195, rfl⟩
abbrev main_call0_call0_v56 : Ref sig .tc := ⟨.hbm, 196, rfl⟩
abbrev main_call0_call0_c_14 : Ref sig .tc := ⟨.hbm, 197, rfl⟩
abbrev main_call0_call0_v57 : Ref sig .tc := ⟨.hbm, 198, rfl⟩
abbrev main_call0_call0_v58 : Ref sig .tc := ⟨.hbm, 199, rfl⟩
abbrev main_call0_call0_v59 : Ref sig .tc := ⟨.hbm, 200, rfl⟩
abbrev main_call0_call0_v60 : Ref sig .tc := ⟨.hbm, 201, rfl⟩
abbrev main_call0_call0_v61 : Ref sig .tc := ⟨.hbm, 202, rfl⟩
abbrev main_call0_call0_c_15 : Ref sig .tc := ⟨.hbm, 203, rfl⟩
abbrev main_call0_call0_v62 : Ref sig .tc := ⟨.hbm, 204, rfl⟩
abbrev main_call0_call0_v63 : Ref sig .tc := ⟨.hbm, 205, rfl⟩
abbrev main_call0_call0_c_16 : Ref sig .tc := ⟨.hbm, 206, rfl⟩
abbrev main_call0_call0_v64 : Ref sig .tc := ⟨.hbm, 207, rfl⟩
abbrev main_call0_call0_v65 : Ref sig .tc := ⟨.hbm, 208, rfl⟩
abbrev main_call0_call0_v66 : Ref sig .tc := ⟨.hbm, 209, rfl⟩
abbrev main_call0_call0_v67 : Ref sig .tc := ⟨.hbm, 210, rfl⟩
abbrev main_call0_call0_v68 : Ref sig .tc := ⟨.hbm, 211, rfl⟩
abbrev main_call0_call0_v69 : Ref sig .tc := ⟨.hbm, 212, rfl⟩
abbrev main_call0_call0_v70 : Ref sig .tc := ⟨.hbm, 213, rfl⟩
abbrev main_call0_call0_v71 : Ref sig .tc := ⟨.hbm, 214, rfl⟩
abbrev main_call0_call0_c_17 : Ref sig .tc := ⟨.hbm, 215, rfl⟩
abbrev main_call0_call0_v72 : Ref sig .tc := ⟨.hbm, 216, rfl⟩
abbrev main_call0_call0_v73 : Ref sig .tc := ⟨.hbm, 217, rfl⟩
abbrev main_call0_call0_v74 : Ref sig .tc := ⟨.hbm, 218, rfl⟩
abbrev main_call0_call0_c_18 : Ref sig .tc := ⟨.hbm, 219, rfl⟩
abbrev main_call0_call0_v75 : Ref sig .tc := ⟨.hbm, 220, rfl⟩
abbrev main_call0_call0_v76 : Ref sig .tc := ⟨.hbm, 221, rfl⟩
abbrev main_call0_call0_c_19 : Ref sig .tc := ⟨.hbm, 222, rfl⟩
abbrev main_call0_call0_v77 : Ref sig .tc := ⟨.hbm, 223, rfl⟩
abbrev main_call0_call0_v78 : Ref sig .tc := ⟨.hbm, 224, rfl⟩
abbrev main_call0_call0_v79 : Ref sig .tc := ⟨.hbm, 225, rfl⟩
abbrev main_call0_call0_v80 : Ref sig .tc := ⟨.hbm, 226, rfl⟩
abbrev main_call0_call0_v81 : Ref sig .tc := ⟨.hbm, 227, rfl⟩
abbrev main_call0_call0_c_20 : Ref sig .tc := ⟨.hbm, 228, rfl⟩
abbrev main_call0_call0_v82 : Ref sig .tc := ⟨.hbm, 229, rfl⟩
abbrev main_call0_call0_v83 : Ref sig .tc := ⟨.hbm, 230, rfl⟩
abbrev main_call0_call0_c_21 : Ref sig .tc := ⟨.hbm, 231, rfl⟩
abbrev main_call0_call0_v84 : Ref sig .tc := ⟨.hbm, 232, rfl⟩
abbrev main_call0_call0_v85 : Ref sig .tc := ⟨.hbm, 233, rfl⟩
abbrev main_call0_call0_v86 : Ref sig .tc := ⟨.hbm, 234, rfl⟩
abbrev main_call0_call0_v87 : Ref sig .tc := ⟨.hbm, 235, rfl⟩
abbrev main_call0_call0_v88 : Ref sig .tc := ⟨.hbm, 236, rfl⟩
abbrev main_call0_call0_c_22 : Ref sig .tc := ⟨.hbm, 237, rfl⟩
abbrev main_call0_call0_v89 : Ref sig .tc := ⟨.hbm, 238, rfl⟩
abbrev main_call0_call0_v90 : Ref sig .tc := ⟨.hbm, 239, rfl⟩
abbrev main_call0_call0_c_23 : Ref sig .tc := ⟨.hbm, 240, rfl⟩
abbrev main_call0_call0_v91 : Ref sig .tc := ⟨.hbm, 241, rfl⟩
abbrev main_call0_call0_v92 : Ref sig .tc := ⟨.hbm, 242, rfl⟩
abbrev main_call0_call0_v93 : Ref sig .tc := ⟨.hbm, 243, rfl⟩
abbrev main_call0_call0_v94 : Ref sig .tc := ⟨.hbm, 244, rfl⟩
abbrev main_call0_call0_v95 : Ref sig .tc := ⟨.hbm, 245, rfl⟩
abbrev main_call0_call0_c_24 : Ref sig .tc := ⟨.hbm, 246, rfl⟩
abbrev main_call0_call0_v96 : Ref sig .tc := ⟨.hbm, 247, rfl⟩
abbrev main_call0_call0_v97 : Ref sig .tc := ⟨.hbm, 248, rfl⟩
abbrev main_call0_call0_c_25 : Ref sig .tc := ⟨.hbm, 249, rfl⟩
abbrev main_call0_call0_v98 : Ref sig .tc := ⟨.hbm, 250, rfl⟩
abbrev main_call0_call0_v99 : Ref sig .tc := ⟨.hbm, 251, rfl⟩
abbrev main_call0_call0_v100 : Ref sig .tc := ⟨.hbm, 252, rfl⟩
abbrev main_call0_call0_v101 : Ref sig .tc := ⟨.hbm, 253, rfl⟩
abbrev main_call0_call0_v102 : Ref sig .tc := ⟨.hbm, 254, rfl⟩
abbrev main_call0_call0_v103 : Ref sig .tc := ⟨.hbm, 255, rfl⟩
abbrev main_call0_call0_v104 : Ref sig .tc := ⟨.hbm, 256, rfl⟩
abbrev main_call0_call0_v105 : Ref sig .tc := ⟨.hbm, 257, rfl⟩
abbrev main_call0_call0_c_26 : Ref sig .tc := ⟨.hbm, 258, rfl⟩
abbrev main_call0_call0_v106 : Ref sig .tc := ⟨.hbm, 259, rfl⟩
abbrev main_call0_call0_v107 : Ref sig .tc := ⟨.hbm, 260, rfl⟩
abbrev main_call0_call0_v108 : Ref sig .tc := ⟨.hbm, 261, rfl⟩
abbrev main_call0_call0_c_27 : Ref sig .tc := ⟨.hbm, 262, rfl⟩
abbrev main_call0_call0_v109 : Ref sig .tc := ⟨.hbm, 263, rfl⟩
abbrev main_call0_call0_v110 : Ref sig .tc := ⟨.hbm, 264, rfl⟩
abbrev main_call0_call0_c_28 : Ref sig .tc := ⟨.hbm, 265, rfl⟩
abbrev main_call0_call0_v111 : Ref sig .tc := ⟨.hbm, 266, rfl⟩
abbrev main_call0_call0_v112 : Ref sig .tc := ⟨.hbm, 267, rfl⟩
abbrev main_call0_call0_v113 : Ref sig .tc := ⟨.hbm, 268, rfl⟩
abbrev main_call0_call0_v114 : Ref sig .tc := ⟨.hbm, 269, rfl⟩
abbrev main_call0_call0_v115 : Ref sig .tc := ⟨.hbm, 270, rfl⟩
abbrev main_call0_call0_c_29 : Ref sig .tc := ⟨.hbm, 271, rfl⟩
abbrev main_call0_call0_v116 : Ref sig .tc := ⟨.hbm, 272, rfl⟩
abbrev main_call0_call0_v117 : Ref sig .tc := ⟨.hbm, 273, rfl⟩
abbrev main_call0_call0_c_30 : Ref sig .tc := ⟨.hbm, 274, rfl⟩
abbrev main_call0_call0_v118 : Ref sig .tc := ⟨.hbm, 275, rfl⟩
abbrev main_call0_call0_v119 : Ref sig .tc := ⟨.hbm, 276, rfl⟩
abbrev main_call0_call0_v120 : Ref sig .tc := ⟨.hbm, 277, rfl⟩
abbrev main_call0_call0_v121 : Ref sig .tc := ⟨.hbm, 278, rfl⟩
abbrev main_call0_call0_v122 : Ref sig .tc := ⟨.hbm, 279, rfl⟩
abbrev main_call0_call0_c_31 : Ref sig .tc := ⟨.hbm, 280, rfl⟩
abbrev main_call0_call0_v123 : Ref sig .tc := ⟨.hbm, 281, rfl⟩
abbrev main_call0_call0_v124 : Ref sig .tc := ⟨.hbm, 282, rfl⟩
abbrev main_call0_call0_c_32 : Ref sig .tc := ⟨.hbm, 283, rfl⟩
abbrev main_call0_call0_v125 : Ref sig .tc := ⟨.hbm, 284, rfl⟩
abbrev main_call0_call0_v126 : Ref sig .tc := ⟨.hbm, 285, rfl⟩
abbrev main_call0_call0_v127 : Ref sig .tc := ⟨.hbm, 286, rfl⟩
abbrev main_call0_call0_v128 : Ref sig .tc := ⟨.hbm, 287, rfl⟩
abbrev main_call0_call0_v129 : Ref sig .tc := ⟨.hbm, 288, rfl⟩
abbrev main_call0_call0_c_33 : Ref sig .tc := ⟨.hbm, 289, rfl⟩
abbrev main_call0_call0_v130 : Ref sig .tc := ⟨.hbm, 290, rfl⟩
abbrev main_call0_call0_v131 : Ref sig .tc := ⟨.hbm, 291, rfl⟩
abbrev main_call0_call0_c_34 : Ref sig .tc := ⟨.hbm, 292, rfl⟩
abbrev main_call0_call0_v132 : Ref sig .tc := ⟨.hbm, 293, rfl⟩
abbrev main_call0_call0_v133 : Ref sig .tc := ⟨.hbm, 294, rfl⟩
abbrev main_call0_call0_v134 : Ref sig .tc := ⟨.hbm, 295, rfl⟩
abbrev main_call0_call0_v135 : Ref sig .tc := ⟨.hbm, 296, rfl⟩
abbrev main_call0_call0_v136 : Ref sig .tc := ⟨.hbm, 297, rfl⟩
abbrev main_call0_call0_v137 : Ref sig .tc := ⟨.hbm, 298, rfl⟩
abbrev main_call0_call0_v138 : Ref sig .tc := ⟨.hbm, 299, rfl⟩
abbrev main_call0_call0_v139 : Ref sig .tc := ⟨.hbm, 300, rfl⟩
abbrev main_call0_call0_c_35 : Ref sig .tc := ⟨.hbm, 301, rfl⟩
abbrev main_call0_call0_v140 : Ref sig .tc := ⟨.hbm, 302, rfl⟩
abbrev main_call0_call0_v141 : Ref sig .tc := ⟨.hbm, 303, rfl⟩
abbrev main_call0_call0_v142 : Ref sig .tc := ⟨.hbm, 304, rfl⟩
abbrev main_call0_call0_c_36 : Ref sig .tc := ⟨.hbm, 305, rfl⟩
abbrev main_call0_call0_v143 : Ref sig .tc := ⟨.hbm, 306, rfl⟩
abbrev main_call0_call0_v144 : Ref sig .tc := ⟨.hbm, 307, rfl⟩
abbrev main_call0_call0_c_37 : Ref sig .tc := ⟨.hbm, 308, rfl⟩
abbrev main_call0_call0_v145 : Ref sig .tc := ⟨.hbm, 309, rfl⟩
abbrev main_call0_call0_v146 : Ref sig .tc := ⟨.hbm, 310, rfl⟩
abbrev main_call0_call0_v147 : Ref sig .tc := ⟨.hbm, 311, rfl⟩
abbrev main_call0_call0_v148 : Ref sig .tc := ⟨.hbm, 312, rfl⟩
abbrev main_call0_call0_v149 : Ref sig .tc := ⟨.hbm, 313, rfl⟩
abbrev main_call0_call0_c_38 : Ref sig .tc := ⟨.hbm, 314, rfl⟩
abbrev main_call0_call0_v150 : Ref sig .tc := ⟨.hbm, 315, rfl⟩
abbrev main_call0_call0_v151 : Ref sig .tc := ⟨.hbm, 316, rfl⟩
abbrev main_call0_call0_c_39 : Ref sig .tc := ⟨.hbm, 317, rfl⟩
abbrev main_call0_call0_v152 : Ref sig .tc := ⟨.hbm, 318, rfl⟩
abbrev main_call0_call0_v153 : Ref sig .tc := ⟨.hbm, 319, rfl⟩
abbrev main_call0_call0_v154 : Ref sig .tc := ⟨.hbm, 320, rfl⟩
abbrev main_call0_call0_v155 : Ref sig .tc := ⟨.hbm, 321, rfl⟩
abbrev main_call0_call0_v156 : Ref sig .tc := ⟨.hbm, 322, rfl⟩
abbrev main_call0_call0_c_40 : Ref sig .tc := ⟨.hbm, 323, rfl⟩
abbrev main_call0_call0_v157 : Ref sig .tc := ⟨.hbm, 324, rfl⟩
abbrev main_call0_call0_v158 : Ref sig .tc := ⟨.hbm, 325, rfl⟩
abbrev main_call0_call0_c_41 : Ref sig .tc := ⟨.hbm, 326, rfl⟩
abbrev main_call0_call0_v159 : Ref sig .tc := ⟨.hbm, 327, rfl⟩
abbrev main_call0_call0_v160 : Ref sig .tc := ⟨.hbm, 328, rfl⟩
abbrev main_call0_call0_v161 : Ref sig .tc := ⟨.hbm, 329, rfl⟩
abbrev main_call0_call0_v162 : Ref sig .tc := ⟨.hbm, 330, rfl⟩
abbrev main_call0_call0_v163 : Ref sig .tc := ⟨.hbm, 331, rfl⟩
abbrev main_call0_call0_c_42 : Ref sig .tc := ⟨.hbm, 332, rfl⟩
abbrev main_call0_call0_v164 : Ref sig .tc := ⟨.hbm, 333, rfl⟩
abbrev main_call0_call0_v165 : Ref sig .tc := ⟨.hbm, 334, rfl⟩
abbrev main_call0_call0_c_43 : Ref sig .tc := ⟨.hbm, 335, rfl⟩
abbrev main_call0_call0_v166 : Ref sig .tc := ⟨.hbm, 336, rfl⟩
abbrev main_call0_call0_v167 : Ref sig .tc := ⟨.hbm, 337, rfl⟩
abbrev main_call0_call0_v168 : Ref sig .tc := ⟨.hbm, 338, rfl⟩
abbrev main_call0_call0_v169 : Ref sig .tc := ⟨.hbm, 339, rfl⟩
abbrev main_call0_call0_v170 : Ref sig .tc := ⟨.hbm, 340, rfl⟩
abbrev main_call0_v11_0 : Ref sig .tc := ⟨.hbm, 341, rfl⟩
abbrev main_call0_call0_v172 : Ref sig .tc := ⟨.hbm, 342, rfl⟩
abbrev main_call0_call0_v173 : Ref sig .tc := ⟨.hbm, 343, rfl⟩
abbrev main_call0_call0_c_44 : Ref sig .tc := ⟨.hbm, 344, rfl⟩
abbrev main_call0_call0_v174 : Ref sig .tc := ⟨.hbm, 345, rfl⟩
abbrev main_call0_v11_1 : Ref sig .tc := ⟨.hbm, 346, rfl⟩
abbrev main_call0_v12 : Ref sig .tc := ⟨.hbm, 347, rfl⟩
abbrev main_call0_v13 : Ref sig .tc := ⟨.hbm, 348, rfl⟩
abbrev main_v94 : Ref sig .tc := ⟨.hbm, 349, rfl⟩
abbrev main_v95 : Ref sig .tc := ⟨.hbm, 350, rfl⟩
abbrev main_v96 : Ref sig .tc := ⟨.hbm, 351, rfl⟩
abbrev main_v97 : Ref sig .tc := ⟨.hbm, 352, rfl⟩
abbrev main_v98 : Ref sig .tc := ⟨.hbm, 353, rfl⟩
abbrev main_call1_v0 : Ref sig .tc := ⟨.hbm, 354, rfl⟩
abbrev main_call1_cst : Ref sig .tc := ⟨.hbm, 355, rfl⟩
abbrev main_call1_c : Ref sig .tc := ⟨.hbm, 356, rfl⟩
abbrev main_call1_v1_0 : Ref sig .tc := ⟨.hbm, 357, rfl⟩
abbrev main_v99 : Ref sig .tc := ⟨.hbm, 358, rfl⟩
abbrev main_v100 : Ref sig .tc := ⟨.hbm, 359, rfl⟩
abbrev main_v101 : Ref sig .tc := ⟨.hbm, 360, rfl⟩
abbrev main_v102 : Ref sig .tc := ⟨.hbm, 361, rfl⟩
abbrev main_v103 : Ref sig .tc := ⟨.hbm, 362, rfl⟩
abbrev main_v104 : Ref sig .tc := ⟨.hbm, 363, rfl⟩
abbrev main_v105 : Ref sig .tc := ⟨.hbm, 364, rfl⟩
abbrev main_v106 : Ref sig .tc := ⟨.hbm, 365, rfl⟩
abbrev main_c_13 : Ref sig .tc := ⟨.hbm, 366, rfl⟩
abbrev main_v107 : Ref sig .tc := ⟨.hbm, 367, rfl⟩
abbrev main_v108 : Ref sig .tc := ⟨.hbm, 368, rfl⟩
abbrev main_c_14 : Ref sig .tc := ⟨.hbm, 369, rfl⟩
abbrev main_v109 : Ref sig .tc := ⟨.hbm, 370, rfl⟩
abbrev main_v110 : Ref sig .tc := ⟨.hbm, 371, rfl⟩
abbrev main_c_15 : Ref sig .tc := ⟨.hbm, 372, rfl⟩
abbrev main_v111 : Ref sig .tc := ⟨.hbm, 373, rfl⟩
abbrev main_v112 : Ref sig .tc := ⟨.hbm, 374, rfl⟩
abbrev main_v113 : Ref sig .tc := ⟨.hbm, 375, rfl⟩
abbrev main_v114 : Ref sig .tc := ⟨.hbm, 376, rfl⟩
abbrev main_c_16 : Ref sig .tc := ⟨.hbm, 377, rfl⟩
abbrev main_v115 : Ref sig .tc := ⟨.hbm, 378, rfl⟩
abbrev main_v116 : Ref sig .tc := ⟨.hbm, 379, rfl⟩
abbrev main_v117 : Ref sig .tc := ⟨.hbm, 380, rfl⟩
abbrev main_v118 : Ref sig .tc := ⟨.hbm, 381, rfl⟩
abbrev main_call2_v0 : Ref sig .tc := ⟨.hbm, 382, rfl⟩
abbrev main_call2_c : Ref sig .tc := ⟨.hbm, 383, rfl⟩
abbrev main_call2_v1 : Ref sig .tc := ⟨.hbm, 384, rfl⟩
abbrev main_call2_v2 : Ref sig .tc := ⟨.hbm, 385, rfl⟩
abbrev main_call2_v3 : Ref sig .tc := ⟨.hbm, 386, rfl⟩
abbrev main_call2_v4 : Ref sig .tc := ⟨.hbm, 387, rfl⟩
abbrev main_call2_v5 : Ref sig .tc := ⟨.hbm, 388, rfl⟩
abbrev main_call2_v6 : Ref sig .tc := ⟨.hbm, 389, rfl⟩
abbrev main_call2_c_0 : Ref sig .tc := ⟨.hbm, 390, rfl⟩
abbrev main_call2_v7 : Ref sig .tc := ⟨.hbm, 391, rfl⟩
abbrev main_call2_v8 : Ref sig .tc := ⟨.hbm, 392, rfl⟩
abbrev main_call2_c_1 : Ref sig .tc := ⟨.hbm, 393, rfl⟩
abbrev main_call2_v9 : Ref sig .tc := ⟨.hbm, 394, rfl⟩
abbrev main_call2_v10 : Ref sig .tc := ⟨.hbm, 395, rfl⟩
abbrev main_call2_v11 : Ref sig .tc := ⟨.hbm, 396, rfl⟩
abbrev main_call2_v12 : Ref sig .tc := ⟨.hbm, 397, rfl⟩
abbrev main_call2_v13 : Ref sig .tc := ⟨.hbm, 398, rfl⟩
abbrev main_call2_c_2 : Ref sig .tc := ⟨.hbm, 399, rfl⟩
abbrev main_call2_v14 : Ref sig .tc := ⟨.hbm, 400, rfl⟩
abbrev main_call2_v15 : Ref sig .tc := ⟨.hbm, 401, rfl⟩
abbrev main_call2_c_3 : Ref sig .tc := ⟨.hbm, 402, rfl⟩
abbrev main_call2_v16 : Ref sig .tc := ⟨.hbm, 403, rfl⟩
abbrev main_call2_v17 : Ref sig .tc := ⟨.hbm, 404, rfl⟩
abbrev main_call2_v18 : Ref sig .tc := ⟨.hbm, 405, rfl⟩
abbrev main_call2_v19 : Ref sig .tc := ⟨.hbm, 406, rfl⟩
abbrev main_call2_v20 : Ref sig .tc := ⟨.hbm, 407, rfl⟩
abbrev main_call2_c_4 : Ref sig .tc := ⟨.hbm, 408, rfl⟩
abbrev main_call2_v21 : Ref sig .tc := ⟨.hbm, 409, rfl⟩
abbrev main_call2_v22 : Ref sig .tc := ⟨.hbm, 410, rfl⟩
abbrev main_call2_c_5 : Ref sig .tc := ⟨.hbm, 411, rfl⟩
abbrev main_call2_v23 : Ref sig .tc := ⟨.hbm, 412, rfl⟩
abbrev main_call2_v24 : Ref sig .tc := ⟨.hbm, 413, rfl⟩
abbrev main_call2_v25 : Ref sig .tc := ⟨.hbm, 414, rfl⟩
abbrev main_call2_v26 : Ref sig .tc := ⟨.hbm, 415, rfl⟩
abbrev main_call2_v27 : Ref sig .tc := ⟨.hbm, 416, rfl⟩
abbrev main_call2_c_6 : Ref sig .tc := ⟨.hbm, 417, rfl⟩
abbrev main_call2_v28 : Ref sig .tc := ⟨.hbm, 418, rfl⟩
abbrev main_call2_v29 : Ref sig .tc := ⟨.hbm, 419, rfl⟩
abbrev main_call2_c_7 : Ref sig .tc := ⟨.hbm, 420, rfl⟩
abbrev main_call2_v30 : Ref sig .tc := ⟨.hbm, 421, rfl⟩
abbrev main_call2_v31 : Ref sig .tc := ⟨.hbm, 422, rfl⟩
abbrev main_call2_v32 : Ref sig .tc := ⟨.hbm, 423, rfl⟩
abbrev main_call2_v33 : Ref sig .tc := ⟨.hbm, 424, rfl⟩
abbrev main_call2_v34 : Ref sig .tc := ⟨.hbm, 425, rfl⟩
abbrev main_call2_v35 : Ref sig .tc := ⟨.hbm, 426, rfl⟩
abbrev main_call2_v36 : Ref sig .tc := ⟨.hbm, 427, rfl⟩
abbrev main_call2_v37 : Ref sig .tc := ⟨.hbm, 428, rfl⟩
abbrev main_call2_c_8 : Ref sig .tc := ⟨.hbm, 429, rfl⟩
abbrev main_call2_v38 : Ref sig .tc := ⟨.hbm, 430, rfl⟩
abbrev main_call2_v39 : Ref sig .tc := ⟨.hbm, 431, rfl⟩
abbrev main_call2_v40 : Ref sig .tc := ⟨.hbm, 432, rfl⟩
abbrev main_call2_c_9 : Ref sig .tc := ⟨.hbm, 433, rfl⟩
abbrev main_call2_v41 : Ref sig .tc := ⟨.hbm, 434, rfl⟩
abbrev main_call2_v42 : Ref sig .tc := ⟨.hbm, 435, rfl⟩
abbrev main_call2_c_10 : Ref sig .tc := ⟨.hbm, 436, rfl⟩
abbrev main_call2_v43 : Ref sig .tc := ⟨.hbm, 437, rfl⟩
abbrev main_call2_v44 : Ref sig .tc := ⟨.hbm, 438, rfl⟩
abbrev main_call2_v45 : Ref sig .tc := ⟨.hbm, 439, rfl⟩
abbrev main_call2_v46 : Ref sig .tc := ⟨.hbm, 440, rfl⟩
abbrev main_call2_v47 : Ref sig .tc := ⟨.hbm, 441, rfl⟩
abbrev main_call2_c_11 : Ref sig .tc := ⟨.hbm, 442, rfl⟩
abbrev main_call2_v48 : Ref sig .tc := ⟨.hbm, 443, rfl⟩
abbrev main_call2_v49 : Ref sig .tc := ⟨.hbm, 444, rfl⟩
abbrev main_call2_c_12 : Ref sig .tc := ⟨.hbm, 445, rfl⟩
abbrev main_call2_v50 : Ref sig .tc := ⟨.hbm, 446, rfl⟩
abbrev main_call2_v51 : Ref sig .tc := ⟨.hbm, 447, rfl⟩
abbrev main_call2_v52 : Ref sig .tc := ⟨.hbm, 448, rfl⟩
abbrev main_call2_v53 : Ref sig .tc := ⟨.hbm, 449, rfl⟩
abbrev main_call2_v54 : Ref sig .tc := ⟨.hbm, 450, rfl⟩
abbrev main_call2_c_13 : Ref sig .tc := ⟨.hbm, 451, rfl⟩
abbrev main_call2_v55 : Ref sig .tc := ⟨.hbm, 452, rfl⟩
abbrev main_call2_v56 : Ref sig .tc := ⟨.hbm, 453, rfl⟩
abbrev main_call2_c_14 : Ref sig .tc := ⟨.hbm, 454, rfl⟩
abbrev main_call2_v57 : Ref sig .tc := ⟨.hbm, 455, rfl⟩
abbrev main_call2_v58 : Ref sig .tc := ⟨.hbm, 456, rfl⟩
abbrev main_call2_v59 : Ref sig .tc := ⟨.hbm, 457, rfl⟩
abbrev main_call2_v60 : Ref sig .tc := ⟨.hbm, 458, rfl⟩
abbrev main_call2_v61 : Ref sig .tc := ⟨.hbm, 459, rfl⟩
abbrev main_call2_c_15 : Ref sig .tc := ⟨.hbm, 460, rfl⟩
abbrev main_call2_v62 : Ref sig .tc := ⟨.hbm, 461, rfl⟩
abbrev main_call2_v63 : Ref sig .tc := ⟨.hbm, 462, rfl⟩
abbrev main_call2_c_16 : Ref sig .tc := ⟨.hbm, 463, rfl⟩
abbrev main_call2_v64 : Ref sig .tc := ⟨.hbm, 464, rfl⟩
abbrev main_call2_v65 : Ref sig .tc := ⟨.hbm, 465, rfl⟩
abbrev main_call2_v66 : Ref sig .tc := ⟨.hbm, 466, rfl⟩
abbrev main_call2_v67 : Ref sig .tc := ⟨.hbm, 467, rfl⟩
abbrev main_call2_v68 : Ref sig .tc := ⟨.hbm, 468, rfl⟩
abbrev main_call2_v69 : Ref sig .tc := ⟨.hbm, 469, rfl⟩
abbrev main_call2_v70 : Ref sig .tc := ⟨.hbm, 470, rfl⟩
abbrev main_call2_v71 : Ref sig .tc := ⟨.hbm, 471, rfl⟩
abbrev main_call2_c_17 : Ref sig .tc := ⟨.hbm, 472, rfl⟩
abbrev main_call2_v72 : Ref sig .tc := ⟨.hbm, 473, rfl⟩
abbrev main_call2_v73 : Ref sig .tc := ⟨.hbm, 474, rfl⟩
abbrev main_call2_v74 : Ref sig .tc := ⟨.hbm, 475, rfl⟩
abbrev main_call2_c_18 : Ref sig .tc := ⟨.hbm, 476, rfl⟩
abbrev main_call2_v75 : Ref sig .tc := ⟨.hbm, 477, rfl⟩
abbrev main_call2_v76 : Ref sig .tc := ⟨.hbm, 478, rfl⟩
abbrev main_call2_c_19 : Ref sig .tc := ⟨.hbm, 479, rfl⟩
abbrev main_call2_v77 : Ref sig .tc := ⟨.hbm, 480, rfl⟩
abbrev main_call2_v78 : Ref sig .tc := ⟨.hbm, 481, rfl⟩
abbrev main_call2_v79 : Ref sig .tc := ⟨.hbm, 482, rfl⟩
abbrev main_call2_v80 : Ref sig .tc := ⟨.hbm, 483, rfl⟩
abbrev main_call2_v81 : Ref sig .tc := ⟨.hbm, 484, rfl⟩
abbrev main_call2_c_20 : Ref sig .tc := ⟨.hbm, 485, rfl⟩
abbrev main_call2_v82 : Ref sig .tc := ⟨.hbm, 486, rfl⟩
abbrev main_call2_v83 : Ref sig .tc := ⟨.hbm, 487, rfl⟩
abbrev main_call2_c_21 : Ref sig .tc := ⟨.hbm, 488, rfl⟩
abbrev main_call2_v84 : Ref sig .tc := ⟨.hbm, 489, rfl⟩
abbrev main_call2_v85 : Ref sig .tc := ⟨.hbm, 490, rfl⟩
abbrev main_call2_v86 : Ref sig .tc := ⟨.hbm, 491, rfl⟩
abbrev main_call2_v87 : Ref sig .tc := ⟨.hbm, 492, rfl⟩
abbrev main_call2_v88 : Ref sig .tc := ⟨.hbm, 493, rfl⟩
abbrev main_call2_c_22 : Ref sig .tc := ⟨.hbm, 494, rfl⟩
abbrev main_call2_v89 : Ref sig .tc := ⟨.hbm, 495, rfl⟩
abbrev main_call2_v90 : Ref sig .tc := ⟨.hbm, 496, rfl⟩
abbrev main_call2_c_23 : Ref sig .tc := ⟨.hbm, 497, rfl⟩
abbrev main_call2_v91 : Ref sig .tc := ⟨.hbm, 498, rfl⟩
abbrev main_call2_v92 : Ref sig .tc := ⟨.hbm, 499, rfl⟩
abbrev main_call2_v93 : Ref sig .tc := ⟨.hbm, 500, rfl⟩
abbrev main_call2_v94 : Ref sig .tc := ⟨.hbm, 501, rfl⟩
abbrev main_call2_v95 : Ref sig .tc := ⟨.hbm, 502, rfl⟩
abbrev main_call2_c_24 : Ref sig .tc := ⟨.hbm, 503, rfl⟩
abbrev main_call2_v96 : Ref sig .tc := ⟨.hbm, 504, rfl⟩
abbrev main_call2_v97 : Ref sig .tc := ⟨.hbm, 505, rfl⟩
abbrev main_call2_c_25 : Ref sig .tc := ⟨.hbm, 506, rfl⟩
abbrev main_call2_v98 : Ref sig .tc := ⟨.hbm, 507, rfl⟩
abbrev main_call2_v99 : Ref sig .tc := ⟨.hbm, 508, rfl⟩
abbrev main_call2_v100 : Ref sig .tc := ⟨.hbm, 509, rfl⟩
abbrev main_call2_v101 : Ref sig .tc := ⟨.hbm, 510, rfl⟩
abbrev main_call2_v102 : Ref sig .tc := ⟨.hbm, 511, rfl⟩
abbrev main_call2_v103 : Ref sig .tc := ⟨.hbm, 512, rfl⟩
abbrev main_call2_v104 : Ref sig .tc := ⟨.hbm, 513, rfl⟩
abbrev main_call2_v105 : Ref sig .tc := ⟨.hbm, 514, rfl⟩
abbrev main_call2_c_26 : Ref sig .tc := ⟨.hbm, 515, rfl⟩
abbrev main_call2_v106 : Ref sig .tc := ⟨.hbm, 516, rfl⟩
abbrev main_call2_v107 : Ref sig .tc := ⟨.hbm, 517, rfl⟩
abbrev main_call2_v108 : Ref sig .tc := ⟨.hbm, 518, rfl⟩
abbrev main_call2_c_27 : Ref sig .tc := ⟨.hbm, 519, rfl⟩
abbrev main_call2_v109 : Ref sig .tc := ⟨.hbm, 520, rfl⟩
abbrev main_call2_v110 : Ref sig .tc := ⟨.hbm, 521, rfl⟩
abbrev main_call2_c_28 : Ref sig .tc := ⟨.hbm, 522, rfl⟩
abbrev main_call2_v111 : Ref sig .tc := ⟨.hbm, 523, rfl⟩
abbrev main_call2_v112 : Ref sig .tc := ⟨.hbm, 524, rfl⟩
abbrev main_call2_v113 : Ref sig .tc := ⟨.hbm, 525, rfl⟩
abbrev main_call2_v114 : Ref sig .tc := ⟨.hbm, 526, rfl⟩
abbrev main_call2_v115 : Ref sig .tc := ⟨.hbm, 527, rfl⟩
abbrev main_call2_c_29 : Ref sig .tc := ⟨.hbm, 528, rfl⟩
abbrev main_call2_v116 : Ref sig .tc := ⟨.hbm, 529, rfl⟩
abbrev main_call2_v117 : Ref sig .tc := ⟨.hbm, 530, rfl⟩
abbrev main_call2_c_30 : Ref sig .tc := ⟨.hbm, 531, rfl⟩
abbrev main_call2_v118 : Ref sig .tc := ⟨.hbm, 532, rfl⟩
abbrev main_call2_v119 : Ref sig .tc := ⟨.hbm, 533, rfl⟩
abbrev main_call2_v120 : Ref sig .tc := ⟨.hbm, 534, rfl⟩
abbrev main_call2_v121 : Ref sig .tc := ⟨.hbm, 535, rfl⟩
abbrev main_call2_v122 : Ref sig .tc := ⟨.hbm, 536, rfl⟩
abbrev main_call2_c_31 : Ref sig .tc := ⟨.hbm, 537, rfl⟩
abbrev main_call2_v123 : Ref sig .tc := ⟨.hbm, 538, rfl⟩
abbrev main_call2_v124 : Ref sig .tc := ⟨.hbm, 539, rfl⟩
abbrev main_call2_c_32 : Ref sig .tc := ⟨.hbm, 540, rfl⟩
abbrev main_call2_v125 : Ref sig .tc := ⟨.hbm, 541, rfl⟩
abbrev main_call2_v126 : Ref sig .tc := ⟨.hbm, 542, rfl⟩
abbrev main_call2_v127 : Ref sig .tc := ⟨.hbm, 543, rfl⟩
abbrev main_call2_v128 : Ref sig .tc := ⟨.hbm, 544, rfl⟩
abbrev main_call2_v129 : Ref sig .tc := ⟨.hbm, 545, rfl⟩
abbrev main_call2_c_33 : Ref sig .tc := ⟨.hbm, 546, rfl⟩
abbrev main_call2_v130 : Ref sig .tc := ⟨.hbm, 547, rfl⟩
abbrev main_call2_v131 : Ref sig .tc := ⟨.hbm, 548, rfl⟩
abbrev main_call2_c_34 : Ref sig .tc := ⟨.hbm, 549, rfl⟩
abbrev main_call2_v132 : Ref sig .tc := ⟨.hbm, 550, rfl⟩
abbrev main_call2_v133 : Ref sig .tc := ⟨.hbm, 551, rfl⟩
abbrev main_call2_v134 : Ref sig .tc := ⟨.hbm, 552, rfl⟩
abbrev main_call2_v135 : Ref sig .tc := ⟨.hbm, 553, rfl⟩
abbrev main_call2_v136 : Ref sig .tc := ⟨.hbm, 554, rfl⟩
abbrev main_call2_v137 : Ref sig .tc := ⟨.hbm, 555, rfl⟩
abbrev main_call2_v138 : Ref sig .tc := ⟨.hbm, 556, rfl⟩
abbrev main_call2_v139 : Ref sig .tc := ⟨.hbm, 557, rfl⟩
abbrev main_call2_c_35 : Ref sig .tc := ⟨.hbm, 558, rfl⟩
abbrev main_call2_v140 : Ref sig .tc := ⟨.hbm, 559, rfl⟩
abbrev main_call2_v141 : Ref sig .tc := ⟨.hbm, 560, rfl⟩
abbrev main_call2_v142 : Ref sig .tc := ⟨.hbm, 561, rfl⟩
abbrev main_call2_c_36 : Ref sig .tc := ⟨.hbm, 562, rfl⟩
abbrev main_call2_v143 : Ref sig .tc := ⟨.hbm, 563, rfl⟩
abbrev main_call2_v144 : Ref sig .tc := ⟨.hbm, 564, rfl⟩
abbrev main_call2_c_37 : Ref sig .tc := ⟨.hbm, 565, rfl⟩
abbrev main_call2_v145 : Ref sig .tc := ⟨.hbm, 566, rfl⟩
abbrev main_call2_v146 : Ref sig .tc := ⟨.hbm, 567, rfl⟩
abbrev main_call2_v147 : Ref sig .tc := ⟨.hbm, 568, rfl⟩
abbrev main_call2_v148 : Ref sig .tc := ⟨.hbm, 569, rfl⟩
abbrev main_call2_v149 : Ref sig .tc := ⟨.hbm, 570, rfl⟩
abbrev main_call2_c_38 : Ref sig .tc := ⟨.hbm, 571, rfl⟩
abbrev main_call2_v150 : Ref sig .tc := ⟨.hbm, 572, rfl⟩
abbrev main_call2_v151 : Ref sig .tc := ⟨.hbm, 573, rfl⟩
abbrev main_call2_c_39 : Ref sig .tc := ⟨.hbm, 574, rfl⟩
abbrev main_call2_v152 : Ref sig .tc := ⟨.hbm, 575, rfl⟩
abbrev main_call2_v153 : Ref sig .tc := ⟨.hbm, 576, rfl⟩
abbrev main_call2_v154 : Ref sig .tc := ⟨.hbm, 577, rfl⟩
abbrev main_call2_v155 : Ref sig .tc := ⟨.hbm, 578, rfl⟩
abbrev main_call2_v156 : Ref sig .tc := ⟨.hbm, 579, rfl⟩
abbrev main_call2_c_40 : Ref sig .tc := ⟨.hbm, 580, rfl⟩
abbrev main_call2_v157 : Ref sig .tc := ⟨.hbm, 581, rfl⟩
abbrev main_call2_v158 : Ref sig .tc := ⟨.hbm, 582, rfl⟩
abbrev main_call2_c_41 : Ref sig .tc := ⟨.hbm, 583, rfl⟩
abbrev main_call2_v159 : Ref sig .tc := ⟨.hbm, 584, rfl⟩
abbrev main_call2_v160 : Ref sig .tc := ⟨.hbm, 585, rfl⟩
abbrev main_call2_v161 : Ref sig .tc := ⟨.hbm, 586, rfl⟩
abbrev main_call2_v162 : Ref sig .tc := ⟨.hbm, 587, rfl⟩
abbrev main_call2_v163 : Ref sig .tc := ⟨.hbm, 588, rfl⟩
abbrev main_call2_c_42 : Ref sig .tc := ⟨.hbm, 589, rfl⟩
abbrev main_call2_v164 : Ref sig .tc := ⟨.hbm, 590, rfl⟩
abbrev main_call2_v165 : Ref sig .tc := ⟨.hbm, 591, rfl⟩
abbrev main_call2_c_43 : Ref sig .tc := ⟨.hbm, 592, rfl⟩
abbrev main_call2_v166 : Ref sig .tc := ⟨.hbm, 593, rfl⟩
abbrev main_call2_v167 : Ref sig .tc := ⟨.hbm, 594, rfl⟩
abbrev main_call2_v168 : Ref sig .tc := ⟨.hbm, 595, rfl⟩
abbrev main_call2_v169 : Ref sig .tc := ⟨.hbm, 596, rfl⟩
abbrev main_call2_v170 : Ref sig .tc := ⟨.hbm, 597, rfl⟩
abbrev main_v119_0 : Ref sig .tc := ⟨.hbm, 598, rfl⟩
abbrev main_call2_v172 : Ref sig .tc := ⟨.hbm, 599, rfl⟩
abbrev main_call2_v173 : Ref sig .tc := ⟨.hbm, 600, rfl⟩
abbrev main_call2_c_44 : Ref sig .tc := ⟨.hbm, 601, rfl⟩
abbrev main_call2_v174 : Ref sig .tc := ⟨.hbm, 602, rfl⟩
abbrev main_v119_1 : Ref sig .tc := ⟨.hbm, 603, rfl⟩
abbrev main_v120 : Ref sig .tc := ⟨.hbm, 604, rfl⟩
abbrev main_c_17 : Ref sig .tc := ⟨.hbm, 605, rfl⟩
abbrev main_v121 : Ref sig .tc := ⟨.hbm, 606, rfl⟩
abbrev main_v122 : Ref sig .tc := ⟨.hbm, 607, rfl⟩
abbrev main_c_18 : Ref sig .tc := ⟨.hbm, 608, rfl⟩
abbrev main_v123 : Ref sig .tc := ⟨.hbm, 609, rfl⟩
abbrev main_v124 : Ref sig .tc := ⟨.hbm, 610, rfl⟩
abbrev main_v125 : Ref sig .tc := ⟨.hbm, 611, rfl⟩
abbrev main_cst_19 : Ref sig .tc := ⟨.hbm, 612, rfl⟩
abbrev main_v126 : Ref sig .tc := ⟨.hbm, 613, rfl⟩
abbrev main_v127 : Ref sig .tc := ⟨.hbm, 614, rfl⟩
abbrev main_cst_20 : Ref sig .tc := ⟨.hbm, 615, rfl⟩
abbrev main_v128 : Ref sig .tc := ⟨.hbm, 616, rfl⟩
abbrev main_v129 : Ref sig .tc := ⟨.hbm, 617, rfl⟩
abbrev main_cst_21 : Ref sig .tc := ⟨.hbm, 618, rfl⟩
abbrev main_v130 : Ref sig .tc := ⟨.hbm, 619, rfl⟩
abbrev main_v131 : Ref sig .tc := ⟨.hbm, 620, rfl⟩
abbrev main_cst_22 : Ref sig .tc := ⟨.hbm, 621, rfl⟩
abbrev main_v132 : Ref sig .tc := ⟨.hbm, 622, rfl⟩
abbrev main_v133 : Ref sig .tc := ⟨.hbm, 623, rfl⟩
abbrev main_v134 : Ref sig .tc := ⟨.hbm, 624, rfl⟩
abbrev main_v135 : Ref sig .tc := ⟨.hbm, 625, rfl⟩
abbrev main_v136 : Ref sig .tc := ⟨.hbm, 626, rfl⟩
abbrev main_v137 : Ref sig .tc := ⟨.hbm, 627, rfl⟩
abbrev main_v138 : Ref sig .tc := ⟨.hbm, 628, rfl⟩
abbrev main_v139 : Ref sig .tc := ⟨.hbm, 629, rfl⟩
abbrev main_v140 : Ref sig .tc := ⟨.hbm, 630, rfl⟩
abbrev main_call3_v0 : Ref sig .tc := ⟨.hbm, 631, rfl⟩
abbrev main_call3_cst : Ref sig .tc := ⟨.hbm, 632, rfl⟩
abbrev main_call3_c : Ref sig .tc := ⟨.hbm, 633, rfl⟩
abbrev main_call3_v1_0 : Ref sig .tc := ⟨.hbm, 634, rfl⟩
abbrev main_v141 : Ref sig .tc := ⟨.hbm, 635, rfl⟩
abbrev main_v142 : Ref sig .tc := ⟨.hbm, 636, rfl⟩
abbrev main_v143 : Ref sig .tc := ⟨.hbm, 637, rfl⟩
abbrev main_v144 : Ref sig .tc := ⟨.hbm, 638, rfl⟩
abbrev main_c_23 : Ref sig .tc := ⟨.hbm, 639, rfl⟩
abbrev main_v145 : Ref sig .tc := ⟨.hbm, 640, rfl⟩
abbrev main_call4_v0 : Ref sig .tc := ⟨.hbm, 641, rfl⟩
abbrev main_call4_c : Ref sig .tc := ⟨.hbm, 642, rfl⟩
abbrev main_call4_c_0 : Ref sig .tc := ⟨.hbm, 643, rfl⟩
abbrev main_call4_v1_0 : Ref sig .tc := ⟨.hbm, 644, rfl⟩
abbrev main_v146 : Ref sig .tc := ⟨.hbm, 645, rfl⟩
abbrev main_v147 : Ref sig .tc := ⟨.hbm, 646, rfl⟩
abbrev main_c_24 : Ref sig .tc := ⟨.hbm, 647, rfl⟩
abbrev main_v148 : Ref sig .tc := ⟨.hbm, 648, rfl⟩
abbrev main_v149 : Ref sig .tc := ⟨.hbm, 649, rfl⟩
abbrev main_c_25 : Ref sig .tc := ⟨.hbm, 650, rfl⟩
abbrev main_v150 : Ref sig .tc := ⟨.hbm, 651, rfl⟩
abbrev main_v151 : Ref sig .tc := ⟨.hbm, 652, rfl⟩
abbrev main_v152 : Ref sig .tc := ⟨.hbm, 653, rfl⟩
abbrev main_c_26 : Ref sig .tc := ⟨.hbm, 654, rfl⟩
abbrev main_v153 : Ref sig .tc := ⟨.hbm, 655, rfl⟩
abbrev main_v154 : Ref sig .tc := ⟨.hbm, 656, rfl⟩
abbrev main_c_27 : Ref sig .tc := ⟨.hbm, 657, rfl⟩
abbrev main_v155 : Ref sig .tc := ⟨.hbm, 658, rfl⟩
abbrev main_v156 : Ref sig .tc := ⟨.hbm, 659, rfl⟩
abbrev main_v157 : Ref sig .tc := ⟨.hbm, 660, rfl⟩
abbrev main_v158 : Ref sig .tc := ⟨.hbm, 661, rfl⟩
abbrev main_v159 : Ref sig .tc := ⟨.hbm, 662, rfl⟩
abbrev main_v160 : Ref sig .tc := ⟨.hbm, 663, rfl⟩
abbrev main_v161 : Ref sig .tc := ⟨.hbm, 664, rfl⟩
abbrev main_v162 : Ref sig .tc := ⟨.hbm, 665, rfl⟩
abbrev main_v163 : Ref sig .tc := ⟨.hbm, 666, rfl⟩
abbrev main_v164 : Ref sig .tc := ⟨.hbm, 667, rfl⟩

abbrev nD : Nat := 1
abbrev τ : Topo := Topo.v7x

variable {F : FTy → Type} [FloatOps F]
-- ==== Proof.Lines.lean ====
/-
  Straight lines of host operations, read as a system of equations.

  When every operation of a line writes a buffer of its own, and reads only buffers that come before it, the
  contents after the whole line satisfy each operation's equation at once: "the result buffer holds the
  operation's function of what the operand buffers hold", all read in one and the same final valuation.  A
  `Block p` packages, for a piece of program `p`, its operations and the conjunction of those equations; blocks
  of consecutive pieces compose, so that the block of a called function is built once, for any buffers.
-/
module

public import Idealize.ShloMosaic.Lib.StableHlo.RunHlo

@[expose] public section

noncomputable section

namespace Lines

open Idealize.ShloMosaic Idealize.ShloMosaic.StableHlo Idealize.SL.Sem

variable {nD : Nat} {τ : Topo} {sig : RefSig} {Val : EltTy → Type} {Λ : Labels}

/-- What a TensorCore buffer holds in a valuation. -/
abbrev at' (W : Valuation τ sig Val) (r : Ref sig .tc) : r.ty.Contents Val := W (Proc.devRef .tc r)

/-- What the buffer of a tensor value holds, at the value's type. -/
def get {T : BufTy} (x : TRef sig T) (W : Valuation τ sig Val) : T.Contents Val :=
  x.ofBuf (at' W x.ref)

/-- The number of a buffer in its space. -/
def key (r : Ref sig .tc) : ℕ := r.idx.val

/-- `op` writes exactly `y`, and what it writes is decided by the buffers `rs`. -/
structure Writes (op : HloOp τ sig Val) (y : Ref sig .tc) (rs : List (Ref sig .tc)) : Prop where
  writes : op.writes = {Proc.devRef .tc y}
  inside : op.bufs ⊆ tcRefs τ sig
  fresh : op.fresh = ∅
  reads : ∀ F G : Valuation τ sig Val, (∀ r ∈ rs, at' F r = at' G r) → at' (op.result F) y = at' (op.result G) y

/-- The operations of a line with what each writes and reads. -/
inductive Line : List (HloOp τ sig Val) → List (Ref sig .tc × List (Ref sig .tc)) → Prop
  | nil : Line [] []
  | cons {op y rs ops l} (h : Writes op y rs) (t : Line ops l) : Line (op :: ops) ((y, rs) :: l)

/-- Two lines, one after the other. -/
theorem Line.append {o₁ o₂ : List (HloOp τ sig Val)} {l₁ l₂} (h₁ : Line o₁ l₁) (h₂ : Line o₂ l₂) :
    Line (o₁ ++ o₂) (l₁ ++ l₂) := by
  induction h₁ with
  | nil => exact h₂
  | cons h _ ih => exact .cons h ih

/-- Each result's number is at least `n`, above the numbers it reads, and the later ones are above it. -/
def increasing : ℕ → List (Ref sig .tc × List (Ref sig .tc)) → Bool
  | _, [] => true
  | n, (y, rs) :: l => Nat.ble n (key y) && rs.all (fun r => Nat.blt (key r) (key y)) && increasing (key y + 1) l

/-- Buffers numbered below `n` keep their contents. -/
theorem Line.keeps {ops : List (HloOp τ sig Val)} {l} (h : Line ops l) :
    ∀ (n : ℕ) (V : Valuation τ sig Val), increasing n l = true → ∀ r : Ref sig .tc, key r < n →
      at' (after ops V) r = at' V r := by
  induction h with
  | nil => intro n V _ r _; rfl
  | @cons op y rs ops l hw _ ih =>
    intro n V hi r hr
    simp only [increasing, Bool.and_eq_true, Nat.ble_eq] at hi
    obtain ⟨⟨h1, -⟩, h3⟩ := hi
    have hne : r ≠ y := fun e => by subst e; omega
    have := ih (key y + 1) (op.result V) h3 r (by omega)
    refine this.trans (HloOp.result_of_not_mem _ _ ?_)
    rw [hw.writes, Finset.mem_singleton]
    exact devRef_ne_of_ne hne

/-- After the line, running any of its operations again changes nothing. -/
theorem Line.fixed {ops : List (HloOp τ sig Val)} {l} (h : Line ops l) :
    ∀ (n : ℕ) (V : Valuation τ sig Val), increasing n l = true →
      ∀ op ∈ ops, op.result (after ops V) = after ops V := by
  induction h with
  | nil => intro n V _ op h; exact absurd h (List.not_mem_nil)
  | @cons op y rs ops l hw ht ih =>
    intro n V hi o ho
    have hi' := hi
    simp only [increasing, Bool.and_eq_true, Nat.ble_eq, List.all_eq_true, Nat.blt_eq] at hi
    obtain ⟨⟨h1, h2⟩, h3⟩ := hi
    rcases List.mem_cons.mp ho with rfl | ho
    · have hk := ht.keeps (key y + 1) (o.result V) h3
      funext b
      by_cases hb : b ∈ o.writes
      · rw [hw.writes, Finset.mem_singleton] at hb
        subst hb
        refine Eq.trans ?_ (hk y (by omega)).symm
        refine hw.reads _ _ fun r hr => ?_
        have hlt := h2 r hr
        have hne : r ≠ y := fun e => by subst e; omega
        refine (hk r (by omega)).trans (HloOp.result_of_not_mem _ _ ?_)
        rw [hw.writes, Finset.mem_singleton]
        exact devRef_ne_of_ne hne
      · exact HloOp.result_of_not_mem _ _ hb
    · exact ih (key y + 1) (op.result V) h3 o ho

/-- Every operation of a line touches only buffers it may. -/
theorem Line.inside {ops : List (HloOp τ sig Val)} {l} (h : Line ops l) :
    ops.Forall fun op => op.bufs ⊆ tcRefs τ sig := by
  induction h with
  | nil => exact trivial
  | cons hw _ ih => exact List.forall_cons _ _ _ |>.mpr ⟨hw.inside, ih⟩

/-- No operation of a line needs fresh buffers. -/
theorem Line.fresh {ops : List (HloOp τ sig Val)} {l} (h : Line ops l) : ∀ op ∈ ops, op.fresh = ∅ := by
  induction h with
  | nil => intro op h; exact absurd h (List.not_mem_nil)
  | cons hw _ ih =>
    intro o ho
    rcases List.mem_cons.mp ho with rfl | ho
    · exact hw.fresh
    · exact ih o ho

/-- A piece of program that is a line of operations, with the equations its results satisfy. -/
structure Block (p : Prog (TpuEff nD τ sig Val Λ .tc) PUnit) where
  ops : List (HloOp τ sig Val)
  refs : List (Ref sig .tc × List (Ref sig .tc))
  holds : Valuation τ sig Val → Prop
  isSeq : p = seq ops
  line : Line ops refs
  holds_of : ∀ W : Valuation τ sig Val, (∀ op ∈ ops, op.result W = W) → holds W

namespace Block

/-- Nothing to run. -/
def done : Block (pure ⟨⟩ : Prog (TpuEff nD τ sig Val Λ .tc) PUnit) where
  ops := []
  refs := []
  holds _ := True
  isSeq := rfl
  line := .nil
  holds_of _ _ := trivial

/-- One piece after another. -/
def bind {p q : Prog (TpuEff nD τ sig Val Λ .tc) PUnit} (a : Block p) (b : Block q) : Block (p >>= fun _ => q) where
  ops := a.ops ++ b.ops
  refs := a.refs ++ b.refs
  holds W := a.holds W ∧ b.holds W
  isSeq := by rw [seq_append, ← a.isSeq, ← b.isSeq]
  line := a.line.append b.line
  holds_of W h := ⟨a.holds_of W fun o ho => h o (List.mem_append_left _ ho),
    b.holds_of W fun o ho => h o (List.mem_append_right _ ho)⟩

/-- The same for a line given as a list. -/
def cons {op : HloOp τ sig Val} {ops : List (HloOp τ sig Val)}
    (a : Block (hlo rfl op fun _ => .ret ⟨⟩ : Prog (TpuEff nD τ sig Val Λ .tc) PUnit))
    (b : Block (seq ops : Prog (TpuEff nD τ sig Val Λ .tc) PUnit)) :
    Block (seq (op :: ops) : Prog (TpuEff nD τ sig Val Λ .tc) PUnit) :=
  a.bind b

/-- One operation. -/
def step (op : HloOp τ sig Val) (y : Ref sig .tc) (rs : List (Ref sig .tc)) (w : Writes op y rs)
    (E : Valuation τ sig Val → Prop) (hE : ∀ W : Valuation τ sig Val, at' (op.result W) y = at' W y → E W) :
    Block (hlo rfl op fun _ => .ret ⟨⟩ : Prog (TpuEff nD τ sig Val Λ .tc) PUnit) where
  ops := [op]
  refs := [(y, rs)]
  holds := E
  isSeq := by
    simp only [seq]
    rfl
  line := .cons w .nil
  holds_of W h := hE W (congrFun (h op (List.mem_singleton_self _)) _)

section Builders

variable (x a b c e y : Ref sig .tc)

def nullary (v : y.ty.Contents Val) (hy) :
    Block (hlo rfl (StableHlo.nullary y v hy) fun _ => .ret ⟨⟩ : Prog (TpuEff nD τ sig Val Λ .tc) PUnit) :=
  step _ y [] ⟨rfl, nullary_bufs_sub .., rfl, fun F G h => by
      refine (nullary_result ..).trans (Eq.trans ?_ (nullary_result ..).symm)
      rfl⟩
    (fun W => at' W y = v) fun W h => h.symm.trans (nullary_result ..)

def unary (f : x.ty.Contents Val → y.ty.Contents Val) (hx hy) :
    Block (hlo rfl (StableHlo.unary x y f hx hy) fun _ => .ret ⟨⟩ : Prog (TpuEff nD τ sig Val Λ .tc) PUnit) :=
  step _ y [x] ⟨rfl, unary_bufs_sub .., rfl, fun F G h => by
      refine (unary_result ..).trans (Eq.trans ?_ (unary_result ..).symm)
      rw [show F (Proc.devRef .tc x) = G (Proc.devRef .tc x) from h x (by simp)]⟩
    (fun W => at' W y = f (at' W x)) fun W h => h.symm.trans (unary_result ..)

def binary (f : a.ty.Contents Val → b.ty.Contents Val → y.ty.Contents Val) (ha hb hy) :
    Block (hlo rfl (StableHlo.binary a b y f ha hb hy) fun _ => .ret ⟨⟩ : Prog (TpuEff nD τ sig Val Λ .tc) PUnit) :=
  step _ y [a, b] ⟨rfl, binary_bufs_sub .., rfl, fun F G h => by
      refine (binary_result ..).trans (Eq.trans ?_ (binary_result ..).symm)
      rw [show F (Proc.devRef .tc a) = G (Proc.devRef .tc a) from h a (by simp), show F (Proc.devRef .tc b) = G (Proc.devRef .tc b) from h b (by simp)]⟩
    (fun W => at' W y = f (at' W a) (at' W b)) fun W h => h.symm.trans (binary_result ..)

def ternary (f : c.ty.Contents Val → a.ty.Contents Val → b.ty.Contents Val → y.ty.Contents Val) (hc ha hb hy) :
    Block (hlo rfl (StableHlo.ternary c a b y f hc ha hb hy) fun _ => .ret ⟨⟩ : Prog (TpuEff nD τ sig Val Λ .tc) PUnit) :=
  step _ y [c, a, b] ⟨rfl, ternary_bufs_sub .., rfl, fun F G h => by
      refine (ternary_result ..).trans (Eq.trans ?_ (ternary_result ..).symm)
      rw [show F (Proc.devRef .tc c) = G (Proc.devRef .tc c) from h c (by simp), show F (Proc.devRef .tc a) = G (Proc.devRef .tc a) from h a (by simp), show F (Proc.devRef .tc b) = G (Proc.devRef .tc b) from h b (by simp)]⟩
    (fun W => at' W y = f (at' W c) (at' W a) (at' W b)) fun W h => h.symm.trans (ternary_result ..)

def quaternary (f : a.ty.Contents Val → b.ty.Contents Val → c.ty.Contents Val → e.ty.Contents Val → y.ty.Contents Val)
    (ha hb hc he hy) :
    Block (hlo rfl (StableHlo.quaternary a b c e y f ha hb hc he hy) fun _ => .ret ⟨⟩ : Prog (TpuEff nD τ sig Val Λ .tc) PUnit) :=
  step _ y [a, b, c, e] ⟨rfl, quaternary_bufs_sub .., rfl, fun F G h => by
      refine (quaternary_result ..).trans (Eq.trans ?_ (quaternary_result ..).symm)
      rw [show F (Proc.devRef .tc a) = G (Proc.devRef .tc a) from h a (by simp), show F (Proc.devRef .tc b) = G (Proc.devRef .tc b) from h b (by simp), show F (Proc.devRef .tc c) = G (Proc.devRef .tc c) from h c (by simp), show F (Proc.devRef .tc e) = G (Proc.devRef .tc e) from h e (by simp)]⟩
    (fun W => at' W y = f (at' W a) (at' W b) (at' W c) (at' W e)) fun W h => h.symm.trans (quaternary_result ..)

def reshape (he : x.ty.elt = y.ty.elt) (hn : x.ty.shape.ShapeCasts y.ty.shape) (hx hy) :
    Block (hlo rfl (StableHlo.reshape (Val := Val) x y he hn hx hy) fun _ => .ret ⟨⟩ : Prog (TpuEff nD τ sig Val Λ .tc) PUnit) :=
  step _ y [x] ⟨rfl, reshape_bufs_sub .., rfl, fun F G h => by
      refine (reshape_result ..).trans (Eq.trans ?_ (reshape_result ..).symm)
      rw [show F (Proc.devRef .tc x) = G (Proc.devRef .tc x) from h x (by simp)]⟩
    (fun W => at' W y = fun i => he ▸ shapeCast y.ty.shape (at' W x) hn i) fun W h => h.symm.trans (reshape_result ..)

def nary {n : Nat} (xs : Fin n → Ref sig .tc) (f : ((k : Fin n) → (xs k).ty.Contents Val) → y.ty.Contents Val) (hxs hy) :
    Block (hlo rfl (StableHlo.nary xs y f hxs hy) fun _ => .ret ⟨⟩ : Prog (TpuEff nD τ sig Val Λ .tc) PUnit) :=
  step _ y (List.ofFn xs) ⟨rfl, nary_bufs_sub .., rfl, fun F G h => by
      refine (nary_result ..).trans (Eq.trans ?_ (nary_result ..).symm)
      exact congrArg f (funext fun k => h (xs k) (List.mem_ofFn.mpr ⟨k, rfl⟩))⟩
    (fun W => at' W y = f fun k => at' W (xs k)) fun W h => h.symm.trans (nary_result ..)

end Builders

section Typed

variable {T Tx Ta Tb Tc Te Ty : BufTy}

/-- Storing contents and reading them back. -/
theorem ofBuf_toBuf (y : TRef sig Ty) (v : Ty.Contents Val) : y.ofBuf (y.toBuf v) = v := by
  simp only [TRef.ofBuf, TRef.toBuf, cast_cast, cast_eq]

def nullaryT (y : TRef sig Ty) (v : Ty.Contents Val) :
    Block (hlo rfl (TRef.nullary y v) fun _ => .ret ⟨⟩ : Prog (TpuEff nD τ sig Val Λ .tc) PUnit) :=
  step _ y.ref [] ⟨rfl, nullary_bufs_sub .., rfl, fun F G h => by
      refine (nullary_result ..).trans (Eq.trans ?_ (nullary_result ..).symm)
      rfl⟩
    (fun W => get y W = v) fun W h => by
      refine (congrArg y.ofBuf (h.symm.trans (nullary_result ..))).trans ?_
      exact ofBuf_toBuf ..

def unaryT (x : TRef sig Tx) (y : TRef sig Ty) (f : Tx.Contents Val → Ty.Contents Val) :
    Block (hlo rfl (TRef.unary x y f) fun _ => .ret ⟨⟩ : Prog (TpuEff nD τ sig Val Λ .tc) PUnit) :=
  step _ y.ref [x.ref] ⟨rfl, unary_bufs_sub .., rfl, fun F G h => by
      refine (unary_result ..).trans (Eq.trans ?_ (unary_result ..).symm)
      rw [show F (Proc.devRef .tc x.ref) = G (Proc.devRef .tc x.ref) from h x.ref (by simp)]⟩
    (fun W => get y W = f (get x W)) fun W h => by
      refine (congrArg y.ofBuf (h.symm.trans (unary_result ..))).trans ?_
      exact ofBuf_toBuf ..

def binaryT (a : TRef sig Ta) (b : TRef sig Tb) (y : TRef sig Ty) (f : Ta.Contents Val → Tb.Contents Val → Ty.Contents Val) :
    Block (hlo rfl (TRef.binary a b y f) fun _ => .ret ⟨⟩ : Prog (TpuEff nD τ sig Val Λ .tc) PUnit) :=
  step _ y.ref [a.ref, b.ref] ⟨rfl, binary_bufs_sub .., rfl, fun F G h => by
      refine (binary_result ..).trans (Eq.trans ?_ (binary_result ..).symm)
      rw [show F (Proc.devRef .tc a.ref) = G (Proc.devRef .tc a.ref) from h a.ref (by simp), show F (Proc.devRef .tc b.ref) = G (Proc.devRef .tc b.ref) from h b.ref (by simp)]⟩
    (fun W => get y W = f (get a W) (get b W)) fun W h => by
      refine (congrArg y.ofBuf (h.symm.trans (binary_result ..))).trans ?_
      exact ofBuf_toBuf ..

def ternaryT (c : TRef sig Tc) (a : TRef sig Ta) (b : TRef sig Tb) (y : TRef sig Ty)
    (f : Tc.Contents Val → Ta.Contents Val → Tb.Contents Val → Ty.Contents Val) :
    Block (hlo rfl (TRef.ternary c a b y f) fun _ => .ret ⟨⟩ : Prog (TpuEff nD τ sig Val Λ .tc) PUnit) :=
  step _ y.ref [c.ref, a.ref, b.ref] ⟨rfl, ternary_bufs_sub .., rfl, fun F G h => by
      refine (ternary_result ..).trans (Eq.trans ?_ (ternary_result ..).symm)
      rw [show F (Proc.devRef .tc c.ref) = G (Proc.devRef .tc c.ref) from h c.ref (by simp), show F (Proc.devRef .tc a.ref) = G (Proc.devRef .tc a.ref) from h a.ref (by simp), show F (Proc.devRef .tc b.ref) = G (Proc.devRef .tc b.ref) from h b.ref (by simp)]⟩
    (fun W => get y W = f (get c W) (get a W) (get b W)) fun W h => by
      refine (congrArg y.ofBuf (h.symm.trans (ternary_result ..))).trans ?_
      exact ofBuf_toBuf ..

def quaternaryT (a : TRef sig Ta) (b : TRef sig Tb) (c : TRef sig Tc) (e : TRef sig Te) (y : TRef sig Ty)
    (f : Ta.Contents Val → Tb.Contents Val → Tc.Contents Val → Te.Contents Val → Ty.Contents Val) :
    Block (hlo rfl (TRef.quaternary a b c e y f) fun _ => .ret ⟨⟩ : Prog (TpuEff nD τ sig Val Λ .tc) PUnit) :=
  step _ y.ref [a.ref, b.ref, c.ref, e.ref] ⟨rfl, quaternary_bufs_sub .., rfl, fun F G h => by
      refine (quaternary_result ..).trans (Eq.trans ?_ (quaternary_result ..).symm)
      rw [show F (Proc.devRef .tc a.ref) = G (Proc.devRef .tc a.ref) from h a.ref (by simp), show F (Proc.devRef .tc b.ref) = G (Proc.devRef .tc b.ref) from h b.ref (by simp), show F (Proc.devRef .tc c.ref) = G (Proc.devRef .tc c.ref) from h c.ref (by simp), show F (Proc.devRef .tc e.ref) = G (Proc.devRef .tc e.ref) from h e.ref (by simp)]⟩
    (fun W => get y W = f (get a W) (get b W) (get c W) (get e W)) fun W h => by
      refine (congrArg y.ofBuf (h.symm.trans (quaternary_result ..))).trans ?_
      exact ofBuf_toBuf ..

def reshapeT (x : TRef sig Tx) (y : TRef sig Ty) (he : Tx.elt = Ty.elt) (hn : Tx.shape.ShapeCasts Ty.shape) :
    Block (hlo rfl (TRef.reshape (Val := Val) x y he hn) fun _ => .ret ⟨⟩ : Prog (TpuEff nD τ sig Val Λ .tc) PUnit) :=
  step _ y.ref [x.ref] ⟨rfl, reshape_bufs_sub .., rfl, fun F G h => by
      refine (reshape_result ..).trans (Eq.trans ?_ (reshape_result ..).symm)
      rw [show F (Proc.devRef .tc x.ref) = G (Proc.devRef .tc x.ref) from h x.ref (by simp)]⟩
    (fun W => get y W = fun i => he ▸ shapeCast Ty.shape (get x W) hn i) fun W h => by
      refine (congrArg y.ofBuf (h.symm.trans (reshape_result ..))).trans ?_
      obtain ⟨xr, xe, _, _⟩ := x
      obtain ⟨yr, ye, _, _⟩ := y
      subst xe
      subst ye
      rfl

end Typed

/-- The equations hold after the piece's operations, from any contents. -/
theorem holds_after {p : Prog (TpuEff nD τ sig Val Λ .tc) PUnit} (b : Block p) (h : increasing 0 b.refs = true)
    (V : Valuation τ sig Val) : b.holds (after b.ops V) :=
  b.holds_of _ (b.line.fixed 0 V h)

end Block

/-- A list of operations with the equations its results satisfy. -/
structure Sys (ops : List (HloOp τ sig Val)) where
  refs : List (Ref sig .tc × List (Ref sig .tc))
  holds : Valuation τ sig Val → Prop
  line : Line ops refs
  holds_of : ∀ W : Valuation τ sig Val, (∀ op ∈ ops, op.result W = W) → holds W

namespace Sys

/-- Nothing to run. -/
def nil : Sys ([] : List (HloOp τ sig Val)) where
  refs := []
  holds _ := True
  line := .nil
  holds_of _ _ := trivial

/-- A first operation. -/
def cons {op : HloOp τ sig Val} {p : Prog (TpuEff nD τ sig Val Λ .tc) PUnit} (b : Block p) (h : b.ops = [op])
    {ops : List (HloOp τ sig Val)} (s : Sys ops) : Sys (op :: ops) where
  refs := b.refs ++ s.refs
  holds W := b.holds W ∧ s.holds W
  line := by
    have := b.line.append s.line
    rw [h] at this
    exact this
  holds_of W hW := ⟨b.holds_of W fun o ho => hW o (by rw [h, List.mem_singleton] at ho; exact ho ▸ List.mem_cons_self),
    s.holds_of W fun o ho => hW o (List.mem_cons_of_mem _ ho)⟩

/-- One list after another. -/
def append {o₁ o₂ : List (HloOp τ sig Val)} (a : Sys o₁) (b : Sys o₂) : Sys (o₁ ++ o₂) where
  refs := a.refs ++ b.refs
  holds W := a.holds W ∧ b.holds W
  line := a.line.append b.line
  holds_of W h := ⟨a.holds_of W fun o ho => h o (List.mem_append_left _ ho),
    b.holds_of W fun o ho => h o (List.mem_append_right _ ho)⟩

section Builders

variable (Λ) (nD) {ops : List (HloOp τ sig Val)}

def nullary {y : Ref sig .tc} {v hy} (s : Sys ops) : Sys (StableHlo.nullary y v hy :: ops) :=
  cons (Block.nullary (nD := nD) (Λ := Λ) y v hy) rfl s

def unary {x y : Ref sig .tc} {f : x.ty.Contents Val → y.ty.Contents Val} {hx hy} (s : Sys ops) :
    Sys (StableHlo.unary x y f hx hy :: ops) :=
  cons (Block.unary (nD := nD) (Λ := Λ) x y f hx hy) rfl s

def binary {a b y : Ref sig .tc} {f : a.ty.Contents Val → b.ty.Contents Val → y.ty.Contents Val} {ha hb hy}
    (s : Sys ops) : Sys (StableHlo.binary a b y f ha hb hy :: ops) :=
  cons (Block.binary (nD := nD) (Λ := Λ) a b y f ha hb hy) rfl s

def reshape {x y : Ref sig .tc} {he : x.ty.elt = y.ty.elt} {hn : x.ty.shape.ShapeCasts y.ty.shape} {hx hy}
    (s : Sys ops) : Sys (StableHlo.reshape x y he hn hx hy :: ops) :=
  cons (Block.reshape (nD := nD) (Λ := Λ) x y he hn hx hy) rfl s

def nary {n : Nat} {xs : Fin n → Ref sig .tc} {y : Ref sig .tc}
    {f : ((k : Fin n) → (xs k).ty.Contents Val) → y.ty.Contents Val} {hxs hy} (s : Sys ops) :
    Sys (StableHlo.nary xs y f hxs hy :: ops) :=
  cons (Block.nary (nD := nD) (Λ := Λ) y xs f hxs hy) rfl s

variable {T Tx Ta Tb Ty : BufTy}

def nullaryT {y : TRef sig Ty} {v : Ty.Contents Val} (s : Sys ops) : Sys (TRef.nullary y v :: ops) :=
  cons (Block.nullaryT (nD := nD) (Λ := Λ) y v) rfl s

def unaryT {x : TRef sig Tx} {y : TRef sig Ty} {f : Tx.Contents Val → Ty.Contents Val} (s : Sys ops) :
    Sys (TRef.unary x y f :: ops) :=
  cons (Block.unaryT (nD := nD) (Λ := Λ) x y f) rfl s

def binaryT {a : TRef sig Ta} {b : TRef sig Tb} {y : TRef sig Ty} {f : Ta.Contents Val → Tb.Contents Val → Ty.Contents Val}
    (s : Sys ops) : Sys (TRef.binary a b y f :: ops) :=
  cons (Block.binaryT (nD := nD) (Λ := Λ) a b y f) rfl s

def reshapeT {x : TRef sig Tx} {y : TRef sig Ty} {he : Tx.elt = Ty.elt} {hn : Tx.shape.ShapeCasts Ty.shape}
    (s : Sys ops) : Sys (TRef.reshape x y he hn :: ops) :=
  cons (Block.reshapeT (nD := nD) (Λ := Λ) x y he hn) rfl s

end Builders

end Sys

end Lines

end
-- ==== Proof.RefLine.lean ====
/-
  The reference program as one straight line: the blocks of its called functions, of its four stretches and of
  the whole, with the equations between its buffers.
-/
module

public import proofs.«01_k».proof.Proof.Gen.ReferenceIdeal
public import proofs.«01_k».proof.Proof.Lines
public import Idealize.ShloMosaic.PureOps.Ideal
public import Idealize.ShloMosaic.Lib.Quiescent

@[expose] public section

set_option maxRecDepth 16384
set_option maxHeartbeats 2000000

noncomputable section

namespace Cert.ReferenceIdeal.Line

open Idealize.ShloMosaic Idealize.ShloMosaic.StableHlo Idealize.SL.Sem Lines Lines.Block

variable {F : FTy → Type} [FloatOps F]

/-- The generator on two counters, in its four parts. -/
def key0 (arg0 arg1 : TRef sig ⟨S_, .i32⟩) (arg2 arg3 : TRef sig ⟨S2, .i32⟩) (φ : fn_threefry2x32.Bufs) : Block (fn_threefry2x32.body_part0 (F := F) arg0 arg1 arg2 arg3 φ) := by
    delta fn_threefry2x32.body_part0
    repeat (first
      | with_reducible exact binaryT .. | with_reducible exact unaryT .. | with_reducible exact nullaryT .. | with_reducible exact quaternaryT .. | with_reducible exact reshapeT ..
      | with_reducible exact ternaryT .. | exact done | refine Block.bind ?_ ?_)

def key1 (arg0 arg1 : TRef sig ⟨S_, .i32⟩) (arg2 arg3 : TRef sig ⟨S2, .i32⟩) (φ : fn_threefry2x32.Bufs) : Block (fn_threefry2x32.body_part1 (F := F) arg0 arg1 arg2 arg3 φ) := by
    delta fn_threefry2x32.body_part1
    repeat (first
      | with_reducible exact binaryT .. | with_reducible exact unaryT .. | with_reducible exact nullaryT .. | with_reducible exact quaternaryT .. | with_reducible exact reshapeT ..
      | with_reducible exact ternaryT .. | exact done | refine Block.bind ?_ ?_)

def key2 (arg0 arg1 : TRef sig ⟨S_, .i32⟩) (arg2 arg3 : TRef sig ⟨S2, .i32⟩) (φ : fn_threefry2x32.Bufs) : Block (fn_threefry2x32.body_part2 (F := F) arg0 arg1 arg2 arg3 φ) := by
    delta fn_threefry2x32.body_part2
    repeat (first
      | with_reducible exact binaryT .. | with_reducible exact unaryT .. | with_reducible exact nullaryT .. | with_reducible exact quaternaryT .. | with_reducible exact reshapeT ..
      | with_reducible exact ternaryT .. | exact done | refine Block.bind ?_ ?_)

def key3 (arg0 arg1 : TRef sig ⟨S_, .i32⟩) (arg2 arg3 : TRef sig ⟨S2, .i32⟩) (φ : fn_threefry2x32.Bufs) : Block (fn_threefry2x32.body_part3 (F := F) arg0 arg1 arg2 arg3 φ) := by
    delta fn_threefry2x32.body_part3
    repeat (first
      | with_reducible exact binaryT .. | with_reducible exact unaryT .. | with_reducible exact nullaryT .. | with_reducible exact quaternaryT .. | with_reducible exact reshapeT ..
      | with_reducible exact ternaryT .. | exact done | refine Block.bind ?_ ?_)

/-- The four parts in order. -/
def key (arg0 arg1 : TRef sig ⟨S_, .i32⟩) (arg2 arg3 : TRef sig ⟨S2, .i32⟩) (φ : fn_threefry2x32.Bufs) : Block (fn_threefry2x32.body (F := F) arg0 arg1 arg2 arg3 φ) :=
  (key0 arg0 arg1 arg2 arg3 φ).bind <| (key1 arg0 arg1 arg2 arg3 φ).bind <|
    (key2 arg0 arg1 arg2 arg3 φ).bind (key3 arg0 arg1 arg2 arg3 φ)

/-- The generator on a whole array of counters, in its four parts. -/
def bits0 (arg0 arg1 : TRef sig ⟨S_, .i32⟩) (arg2 arg3 : TRef sig ⟨S3x1024x32768, .i32⟩) (φ : fn_threefry2x32_0.Bufs) : Block (fn_threefry2x32_0.body_part0 (F := F) arg0 arg1 arg2 arg3 φ) := by
    delta fn_threefry2x32_0.body_part0
    repeat (first
      | with_reducible exact binaryT .. | with_reducible exact unaryT .. | with_reducible exact nullaryT .. | with_reducible exact quaternaryT .. | with_reducible exact reshapeT ..
      | with_reducible exact ternaryT .. | exact done | refine Block.bind ?_ ?_)

def bits1 (arg0 arg1 : TRef sig ⟨S_, .i32⟩) (arg2 arg3 : TRef sig ⟨S3x1024x32768, .i32⟩) (φ : fn_threefry2x32_0.Bufs) : Block (fn_threefry2x32_0.body_part1 (F := F) arg0 arg1 arg2 arg3 φ) := by
    delta fn_threefry2x32_0.body_part1
    repeat (first
      | with_reducible exact binaryT .. | with_reducible exact unaryT .. | with_reducible exact nullaryT .. | with_reducible exact quaternaryT .. | with_reducible exact reshapeT ..
      | with_reducible exact ternaryT .. | exact done | refine Block.bind ?_ ?_)

def bits2 (arg0 arg1 : TRef sig ⟨S_, .i32⟩) (arg2 arg3 : TRef sig ⟨S3x1024x32768, .i32⟩) (φ : fn_threefry2x32_0.Bufs) : Block (fn_threefry2x32_0.body_part2 (F := F) arg0 arg1 arg2 arg3 φ) := by
    delta fn_threefry2x32_0.body_part2
    repeat (first
      | with_reducible exact binaryT .. | with_reducible exact unaryT .. | with_reducible exact nullaryT .. | with_reducible exact quaternaryT .. | with_reducible exact reshapeT ..
      | with_reducible exact ternaryT .. | exact done | refine Block.bind ?_ ?_)

def bits3 (arg0 arg1 : TRef sig ⟨S_, .i32⟩) (arg2 arg3 : TRef sig ⟨S3x1024x32768, .i32⟩) (φ : fn_threefry2x32_0.Bufs) : Block (fn_threefry2x32_0.body_part3 (F := F) arg0 arg1 arg2 arg3 φ) := by
    delta fn_threefry2x32_0.body_part3
    repeat (first
      | with_reducible exact binaryT .. | with_reducible exact unaryT .. | with_reducible exact nullaryT .. | with_reducible exact quaternaryT .. | with_reducible exact reshapeT ..
      | with_reducible exact ternaryT .. | exact done | refine Block.bind ?_ ?_)

/-- The four parts in order. -/
def bits (arg0 arg1 : TRef sig ⟨S_, .i32⟩) (arg2 arg3 : TRef sig ⟨S3x1024x32768, .i32⟩) (φ : fn_threefry2x32_0.Bufs) : Block (fn_threefry2x32_0.body (F := F) arg0 arg1 arg2 arg3 φ) :=
  (bits0 arg0 arg1 arg2 arg3 φ).bind <| (bits1 arg0 arg1 arg2 arg3 φ).bind <|
    (bits2 arg0 arg1 arg2 arg3 φ).bind (bits3 arg0 arg1 arg2 arg3 φ)

/-- The split of the key. -/
def split (arg0 : TRef sig ⟨S2, .i32⟩) (φ : fn_threefry_split.Bufs) : Block (fn_threefry_split.body (F := F) arg0 φ) := by
    delta fn_threefry_split.body
    repeat (first
      | with_reducible exact key .. | with_reducible exact binaryT .. | with_reducible exact unaryT .. | with_reducible exact nullaryT .. | with_reducible exact reshapeT ..
      | exact done | refine Block.bind ?_ ?_)

/-- The search along a row. -/
def best (arg0 : TRef sig ⟨S1024x32768, .f32⟩) (φ : fn_argmax.Bufs) : Block (fn_argmax.body (F := F) arg0 φ) := by
    delta fn_argmax.body
    repeat (first
      | with_reducible exact binaryT .. | with_reducible exact unaryT .. | with_reducible exact nullaryT .. | with_reducible exact quaternaryT .. | with_reducible exact reshapeT ..
      | with_reducible exact ternaryT .. | exact done | refine Block.bind ?_ ?_)

/-- The search along a draw. -/
def draw (arg0 : TRef sig ⟨S3x1024x32768, .f32⟩) (φ : fn_argmax_1.Bufs) : Block (fn_argmax_1.body (F := F) arg0 φ) := by
    delta fn_argmax_1.body
    repeat (first
      | with_reducible exact binaryT .. | with_reducible exact unaryT .. | with_reducible exact nullaryT .. | with_reducible exact quaternaryT .. | with_reducible exact reshapeT ..
      | with_reducible exact ternaryT .. | exact done | refine Block.bind ?_ ?_)

/-- The search among the flags. -/
def first (arg0 : TRef sig ⟨S3x1024, .i1⟩) (φ : fn_argmax_2.Bufs) : Block (fn_argmax_2.body (F := F) arg0 φ) := by
    delta fn_argmax_2.body
    repeat (first
      | with_reducible exact binaryT .. | with_reducible exact unaryT .. | with_reducible exact nullaryT .. | with_reducible exact quaternaryT .. | with_reducible exact reshapeT ..
      | with_reducible exact ternaryT .. | exact done | refine Block.bind ?_ ?_)

/-- The final choice. -/
def pick (arg0 : TRef sig ⟨S1024, .i1⟩) (arg1 arg2 : TRef sig ⟨S1024, .i32⟩) (φ : fn_where.Bufs) : Block (fn_where.body (F := F) arg0 arg1 arg2 φ) := by
    delta fn_where.body
    repeat (first
      | with_reducible exact binaryT .. | with_reducible exact unaryT .. | with_reducible exact nullaryT .. | with_reducible exact quaternaryT .. | with_reducible exact reshapeT ..
      | with_reducible exact ternaryT .. | exact done | refine Block.bind ?_ ?_)

/-- The main program, in its four parts. -/
def main0 (d : Dev nD) : Block (main_part0 (F := F) d) := by
    delta main_part0
    repeat (first
      | with_reducible exact Block.binary .. | with_reducible exact Block.unary .. | with_reducible exact Block.nullary .. | with_reducible exact Block.reshape .. | with_reducible exact Block.ternary ..
      | with_reducible exact Block.nary .. | with_reducible exact split .. | with_reducible exact bits .. | with_reducible exact best .. | with_reducible exact draw .. | with_reducible exact Line.first .. | with_reducible exact pick ..
      | exact done | refine Block.bind ?_ ?_)

def main1 (d : Dev nD) : Block (main_part1 (F := F) d) := by
    delta main_part1
    repeat (first
      | with_reducible exact Block.binary .. | with_reducible exact Block.unary .. | with_reducible exact Block.nullary .. | with_reducible exact Block.reshape .. | with_reducible exact Block.ternary ..
      | with_reducible exact Block.nary .. | with_reducible exact split .. | with_reducible exact bits .. | with_reducible exact best .. | with_reducible exact draw .. | with_reducible exact Line.first .. | with_reducible exact pick ..
      | exact done | refine Block.bind ?_ ?_)

def main2 (d : Dev nD) : Block (main_part2 (F := F) d) := by
    delta main_part2
    repeat (first
      | with_reducible exact Block.binary .. | with_reducible exact Block.unary .. | with_reducible exact Block.nullary .. | with_reducible exact Block.reshape .. | with_reducible exact Block.ternary ..
      | with_reducible exact Block.nary .. | with_reducible exact split .. | with_reducible exact bits .. | with_reducible exact best .. | with_reducible exact draw .. | with_reducible exact Line.first .. | with_reducible exact pick ..
      | exact done | refine Block.bind ?_ ?_)

def main3 (d : Dev nD) : Block (main_part3 (F := F) d) := by
    delta main_part3
    repeat (first
      | with_reducible exact Block.binary .. | with_reducible exact Block.unary .. | with_reducible exact Block.nullary .. | with_reducible exact Block.reshape .. | with_reducible exact Block.ternary ..
      | with_reducible exact Block.nary .. | with_reducible exact split .. | with_reducible exact bits .. | with_reducible exact best .. | with_reducible exact draw .. | with_reducible exact Line.first .. | with_reducible exact pick ..
      | exact done | refine Block.bind ?_ ?_)

/-- The whole program. -/
def all (d : Dev nD) : Block (main (F := F) d) :=
  (main0 d).bind <| (main1 d).bind <| (main2 d).bind (main3 d)

/-- The buffers are written in increasing order. -/
theorem increasing_all (d : Dev nD) : increasing 3 (all (F := Ideal) d).refs = true := by
  have h : ∀ d : Dev nD, d = 0 := by decide
  rw [h d]
  decide +kernel

/-- Running the reference ends with every TensorCore buffer at what its line of operations leaves there. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ (d : Dev nD) (b : Ref sig .tc),
        r.2.mem ((d.tc : Thread nD τ).loc b) = after (all (F := Ideal) d).ops (launchContents m d) (Proc.devRef .tc b)) :=
  run_seq (by decide) (by decide) defs main (fun d => (all d).ops) (fun d => (all d).isSeq) (fun d => (all d).line.inside) m ρ
    (fun d => (all d).line.fresh)

/-- A buffer numbered below the first result keeps its launch contents. -/
theorem kept (d : Dev nD) (V : Valuation τ sig (Elt Ideal)) (r : Ref sig .tc) (h : Lines.key r < 3) :
    after (all (F := Ideal) d).ops V (Proc.devRef .tc r) = V (Proc.devRef .tc r) :=
  (all d).line.keeps 3 V (increasing_all d) r h

/-- Every equation of the program holds of what its line leaves. -/
theorem holds (d : Dev nD) (V : Valuation τ sig (Elt Ideal)) :
    (all (F := Ideal) d).holds (after (all (F := Ideal) d).ops V) :=
  (all d).holds_of _ ((all d).line.fixed 3 V (increasing_all d))

/-- The reference's arguments end unchanged and its counters at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  θ_run_mono (run m ρ) fun r h =>
    ⟨fun c => ⟨(h c main_arg0).trans (kept c _ main_arg0 (by decide)), (h c main_arg1).trans (kept c _ main_arg1 (by decide)),
      (h c main_arg2).trans (kept c _ main_arg2 (by decide))⟩, sem_eq_zero_of_no_sems rfl _⟩

end Cert.ReferenceIdeal.Line
-- ==== Proof.Threefry.lean ====
module

public import Idealize.ShloMosaic.PureOps.Ideal
public import Idealize.ShloMosaic.PureOps.Vector

@[expose] public section

/-!
# The counter-based generator, one word at a time

Both programs draw their random words with the twenty-round Threefry generator on two 32-bit words.
This file writes the generator as a plain function of a key and a counter, and the noise that is made of
one drawn word.
-/

namespace Sampler

open Idealize.ShloMosaic

/-- A 32-bit word. -/
abbrev Word := BitVec 32

/-- One round: add the second word to the first, rotate the second one left by `l` (`r = 32 - l`), and
    exclusive-or the sum into it. -/
def mix (l r : Word) (s : Word × Word) : Word × Word :=
  (s.1 + s.2, (s.1 + s.2) ^^^ ((s.2 <<< l) ||| (s.2 >>> r)))

/-- The four rounds of an odd group. -/
def roundsA (s : Word × Word) : Word × Word := mix 6#32 26#32 (mix 26#32 6#32 (mix 15#32 17#32 (mix 13#32 19#32 s)))

/-- The four rounds of an even group. -/
def roundsB (s : Word × Word) : Word × Word := mix 24#32 8#32 (mix 16#32 16#32 (mix 29#32 3#32 (mix 17#32 15#32 s)))

/-- Between two groups the key words are added in, and the number of the group. -/
def inject (a b n : Word) (s : Word × Word) : Word × Word := (s.1 + a, (s.2 + b) + n)

/-- The third key word. -/
def parity (k0 k1 : Word) : Word := (k0 ^^^ k1) ^^^ 466688986#32

/-- The twenty rounds on the counter `(x0, x1)` under the key `(k0, k1)`. -/
def threefry (k0 k1 x0 x1 : Word) : Word × Word :=
  inject (parity k0 k1) k0 5#32 (roundsA (inject k1 (parity k0 k1) 4#32 (roundsB (inject k0 k1 3#32 (roundsA
    (inject (parity k0 k1) k0 2#32 (roundsB (inject k1 (parity k0 k1) 1#32 (roundsA (x0 + k0, x1 + k1))))))))))

/-- The word drawn at a counter below `2 ^ 32`: the two outputs folded into one. -/
def draw (k0 k1 n : Word) : Word := (threefry k0 k1 0#32 n).1 ^^^ (threefry k0 k1 0#32 n).2

/-- The number in `[0, 1)` that a word's upper 23 bits are the mantissa of. -/
noncomputable def fraction (w : Word) : Ideal .f32 :=
  FloatOps.subf (FloatOps.ofBits .f32 ((w >>> 9#32) ||| 1065353216#32) : Ideal .f32)
    (FloatOps.ofBits .f32 0x3F800000#32)

/-- The noise made of a word: `- log (- log u)` for `u` the fraction above plus the least positive normal
    number. -/
noncomputable def noise (w : Word) : Ideal .f32 :=
  FloatOps.subf (FloatOps.ofBits .f32 0x00000000#32) (FloatOps.log (φ := .f32)
    (FloatOps.subf (FloatOps.ofBits .f32 0x00000000#32) (FloatOps.log (φ := .f32)
      (FloatOps.addf (fraction w) (FloatOps.ofBits .f32 0x00800000#32)))))

end Sampler

end
-- ==== Proof.Spec.lean ====
module

public import proofs.«01_k».proof.Proof.Threefry
public import Idealize.ShloMosaic.PureOps.Ideal.Laws
public import Mathlib.Algebra.BigOperators.Intervals
public import Mathlib.Order.Filter.Extr

@[expose] public section

/-!
# What one row of the sampler computes

A row holds 32768 triples of numbers. They fall into four stretches, each with its own three weights and its own
bias; a triple's logit is its weighted sum plus the bias. A softmax over each stretch gives the probabilities. The
answer compares the most probable place of the row with three noisy draws.
-/

noncomputable section

namespace Sampler

open Idealize.ShloMosaic Finset

/-- The stretch a place lies in. -/
def stretch (h : ℕ) : ℕ := if h < 8768 then 0 else if h < 16768 then 1 else if h < 24768 then 2 else 3

/-- The first place of a stretch. -/
def start : ℕ → ℕ
  | 0 => 0
  | 1 => 8768
  | 2 => 16768
  | _ => 24768

/-- How many places a stretch has. -/
def count : ℕ → ℕ
  | 0 => 8768
  | _ => 8000

/-- The tallest value of a stretch. -/
def top (g : ℕ → EReal) (s : ℕ) : EReal := (range (count s)).sup fun j => g (start s + j)

/-- Every value relative to the tallest of its stretch, exponentiated. -/
def weight (g : ℕ → EReal) (h : ℕ) : EReal := Ideal.exp (g h - top g (stretch h))

/-- The weights of a stretch, summed. -/
def total (w : ℕ → EReal) (s : ℕ) : EReal := ∑ j ∈ range (count s), w (start s + j)

/-- The softmax over each stretch. -/
def prob (g : ℕ → EReal) (h : ℕ) : EReal := Ideal.div (weight g h) (total (weight g) (stretch h))

/-- The logit of a place: the row's triple there against the stretch's weights, plus its bias. -/
def logit (x : ℕ → EReal) (w : ℕ → ℕ → EReal) (b : ℕ → EReal) (h : ℕ) : EReal :=
  x (3 * h) * w (stretch h) 0 + x (3 * h + 1) * w (stretch h) 1 + x (3 * h + 2) * w (stretch h) 2 + b (stretch h)

/-- A place's log-probability with the noise of draw `e` at row `n`. -/
def score (p : ℕ → EReal) (k0 k1 : Word) (e n h : ℕ) : EReal :=
  Ideal.log (p h) + noise (draw k0 k1 (BitVec.ofNat 32 (e * 33554432 + n * 32768 + h)))

/-- The place `k` holds the tallest value, and every place before it holds less. -/
def IsFirst (v : ℕ → EReal) (k : ℕ) : Prop :=
  k < 32768 ∧ (∀ h < 32768, v h ≤ v k) ∧ ∀ h < k, v h < v k

/-- There is a first tallest place, -/
theorem exists_isFirst (v : ℕ → EReal) : ∃ k, IsFirst v k := by
  classical
  obtain ⟨m, hm, hmax⟩ := exists_max_image (range 32768) v ⟨0, by simp⟩
  have hex : ∃ k, k < 32768 ∧ v m ≤ v k := ⟨m, mem_range.mp hm, le_rfl⟩
  refine ⟨Nat.find hex, (Nat.find_spec hex).1, fun h hh => (hmax h (mem_range.mpr hh)).trans (Nat.find_spec hex).2,
    fun h hh => ?_⟩
  have := Nat.find_min hex hh
  have hlt : h < 32768 := hh.trans (Nat.find_spec hex).1
  exact (not_le.mp fun hle => this ⟨hlt, hle⟩).trans_le (Nat.find_spec hex).2

/-- The first place of the tallest value. -/
def first (v : ℕ → EReal) : ℕ := Classical.choose (exists_isFirst v)

/-- `first` is one, -/
theorem first_spec (v : ℕ → EReal) : IsFirst v (first v) := Classical.choose_spec (exists_isFirst v)

/-- it is the only one, -/
theorem IsFirst.eq_first {v : ℕ → EReal} {k : ℕ} (h : IsFirst v k) : k = first v := by
  obtain ⟨a, b, c⟩ := h
  obtain ⟨a', b', c'⟩ := first_spec v
  rcases lt_trichotomy k (first v) with hl | he | hl
  · exact absurd (c' k hl) (not_lt.mpr (b _ a'))
  · exact he
  · exact absurd (c _ hl) (not_lt.mpr (b' _ a))

/-- and it depends only on the values at the places. -/
theorem first_congr {v w : ℕ → EReal} (h : ∀ k < 32768, v k = w k) : first v = first w := by
  obtain ⟨a, b, c⟩ := first_spec v
  refine IsFirst.eq_first ⟨a, fun k hk => ?_, fun k hk => ?_⟩
  · rw [← h k hk, ← h _ a]; exact b k hk
  · rw [← h k (hk.trans a), ← h _ a]; exact c k hk

/-- The answer of a row with probabilities `p`: the first draw if it agrees with the most probable place, else the
    second if that agrees, else the third. -/
def pick (p : ℕ → EReal) (k0 k1 : Word) (n : ℕ) : ℕ :=
  if first (score p k0 k1 0 n) = first p then first (score p k0 k1 0 n)
  else if first (score p k0 k1 1 n) = first p then first (score p k0 k1 1 n)
  else first (score p k0 k1 2 n)

/-! ## Runs of places, cut into rows of lanes -/

/-- The tallest over two runs laid end to end. -/
theorem sup_range_add (g : ℕ → EReal) (p q : ℕ) :
    (range (p + q)).sup g = max ((range p).sup g) ((range q).sup fun j => g (p + j)) := by
  refine eq_of_forall_ge_iff fun c => ?_
  rw [max_le_iff, Finset.sup_le_iff, Finset.sup_le_iff, Finset.sup_le_iff]
  simp only [mem_range]
  constructor
  · exact fun h => ⟨fun j hj => h j (by omega), fun j hj => h _ (by omega)⟩
  · rintro ⟨h, h'⟩ j hj
    rcases Nat.lt_or_ge j p with hp | hp
    · exact h j hp
    · have := h' (j - p) (by omega)
      rwa [Nat.add_sub_cancel' hp] at this

/-- The tallest over `m` rows of 128. -/
theorem sup_rows (g : ℕ → EReal) (m : ℕ) :
    (univ : Finset (Fin m × Fin 128)).sup (fun x => g (128 * x.1.val + x.2.val)) = (range (128 * m)).sup g := by
  refine eq_of_forall_ge_iff fun c => ?_
  rw [Finset.sup_le_iff, Finset.sup_le_iff]
  simp only [mem_range, mem_univ, forall_true_left]
  constructor
  · intro h j hj
    have := h (⟨j / 128, by omega⟩, ⟨j % 128, by omega⟩)
    rwa [show 128 * (j / 128) + j % 128 = j by omega] at this
  · rintro h ⟨a, b⟩
    exact h _ (by have := a.isLt; have := b.isLt; dsimp only; omega)

/-- The tallest over `m` rows of 128, from the place `a` on. -/
theorem sup_rows_from (g : ℕ → EReal) (a m : ℕ) :
    (univ : Finset (Fin m × Fin 128)).sup (fun x => g (a + 128 * x.1.val + x.2.val))
      = (range (128 * m)).sup fun j => g (a + j) := by
  rw [← sup_rows (fun j => g (a + j))]
  simp only [Nat.add_assoc]

/-- The tallest over 64 lanes of one row, from the place `a` on. -/
theorem sup_lanes_from (g : ℕ → EReal) (a : ℕ) :
    (univ : Finset (Fin 1 × Fin 64)).sup (fun x => g (a + x.2.val)) = (range 64).sup fun j => g (a + j) := by
  refine eq_of_forall_ge_iff fun c => ?_
  rw [Finset.sup_le_iff, Finset.sup_le_iff]
  simp only [mem_range, mem_univ, forall_true_left]
  exact ⟨fun h j hj => h (0, ⟨j, hj⟩), fun h x => h _ x.2.isLt⟩

/-- The sum over `m` rows of 128. -/
theorem sum_rows (g : ℕ → EReal) (m : ℕ) :
    (∑ x : Fin m, ∑ y : Fin 128, g (128 * x.val + y.val)) = ∑ j ∈ range (128 * m), g j := by
  rw [Fin.sum_univ_eq_sum_range (fun a => ∑ y : Fin 128, g (128 * a + y.val))]
  induction m with
  | zero => simp
  | succ m ih =>
    rw [sum_range_succ, ih, Nat.mul_succ, sum_range_add, Fin.sum_univ_eq_sum_range (fun b => g (128 * m + b))]

/-- The sum over `m` rows of 128, from the place `a` on. -/
theorem sum_rows_from (g : ℕ → EReal) (a m : ℕ) :
    (∑ x : Fin m, ∑ y : Fin 128, g (a + 128 * x.val + y.val)) = ∑ j ∈ range (128 * m), g (a + j) := by
  rw [← sum_rows (fun j => g (a + j))]
  simp only [Nat.add_assoc]

/-- The sum over 64 lanes of one row, from the place `a` on. -/
theorem sum_lanes_from (g : ℕ → EReal) (a : ℕ) :
    (∑ _x : Fin 1, ∑ y : Fin 64, g (a + y.val)) = ∑ j ∈ range 64, g (a + j) := by
  rw [Fin.sum_univ_one, Fin.sum_univ_eq_sum_range (fun j => g (a + j))]

/-- A maximum from the least value up, as a supremum. -/
theorem fold_max_eq_sup {ι : Type} (s : Finset ι) (f : ι → EReal) :
    s.fold max (Ideal.ofBits .f32 0xFF800000#32) f = s.sup f := by
  have : Ideal.ofBits .f32 0xFF800000#32 = ⊥ := by simp [Ideal.ofBits, Ideal.ieee]
  rw [this]; rfl

end Sampler

end
-- ==== Proof.KernelBits.lean ====
module

public import proofs.«01_k».proof.Proof.Threefry
public import proofs.«01_k».proof.Proof.Gen.KernelIdeal.Skeleton

@[expose] public section

set_option maxRecDepth 16384

/-!
# The random words of the kernel's block

At every entry of the block the kernel runs the generator on that entry's own counter. The rounds are cut
at different places in the three draws; each lemma below follows one stretch, from the words it starts with
to the words it leaves.
-/

noncomputable section

namespace Cert.KernelIdeal.Bits

open Idealize.ShloMosaic Cert.KernelIdeal Cert.KernelIdeal.Gen Sampler

variable (i : S8x256x128.Idx)

/-- The word operations, read at an index. -/
theorem add_at (x y : IVec S8x256x128 32) : addi x y i = x i + y i := rfl
theorem xor_at (x y : IVec S8x256x128 32) : xori x y i = x i ^^^ y i := rfl
theorem or_at (x y : IVec S8x256x128 32) : ori x y i = x i ||| y i := rfl
theorem spread_at (k : Word) : broadcast S8x256x128 k i = k := rfl

/-- Shifts by less than the word width. -/
theorem left_at (x : IVec S8x256x128 32) (k : Word) (hk : k.toNat < 32) :
    shli x (broadcast S8x256x128 k) i = x i <<< k := if_pos hk

theorem right_at (x : IVec S8x256x128 32) (k : Word) (hk : k.toNat < 32) :
    shrui x (broadcast S8x256x128 k) i = x i >>> k := if_pos hk

/-- The name of the tallest entry of each row of the block: the least number among the entries that equal
    the row's maximum. -/
def earliest (h : IVec S8x256x128 32) (v : FVec Ideal S8x256x128 .f32) : IVec S8 32 :=
  multiReductionI .minsi [1, 2] S8
    (select (cmpf .oeq v (broadcastTo S8x256x128 (shapeCast S8x1x1
      (multiReduction .maximumf [1, 2] S8 v 0xFF800000#32 reduces_S8x256x128_S8 (.inl rfl) rfl)
      shapeCasts_S8_S8x1x1) broadcasts_S8x1x1_S8x256x128)) h (broadcast S8x256x128 32768#32))
    2147483647#32 reduces_S8x256x128_S8 rfl

section First

variable (a k0 k1 : Word) (h : IVec S8x256x128 32)

/-- Where the first stretch of the first draw ends. -/
def a1 (k0 k1 c : Word) : Word × Word := mix 26#32 6#32 (mix 15#32 17#32 (mix 13#32 19#32 (0#32 + k0, c + k1)))

/-- Where the second stretch ends. -/
def a2 (k0 k1 : Word) (s : Word × Word) : Word × Word :=
  inject (parity k0 k1) k0 2#32 (roundsB (inject k1 (parity k0 k1) 1#32 (mix 6#32 26#32 s)))

/-- Where the third stretch ends. -/
def a3 (k0 k1 : Word) (s : Word × Word) : Word × Word := mix 29#32 3#32 (mix 17#32 15#32 (inject k0 k1 3#32 (roundsA s)))

/-- Where the fourth stretch ends: only the last addition of the key is left. -/
def a4 (k0 k1 : Word) (s : Word × Word) : Word × Word :=
  roundsA (inject k1 (parity k0 k1) 4#32 (mix 24#32 8#32 (mix 16#32 16#32 s)))

/-- The first draw, stage by stage: each stage of the kernel runs some rounds of the generator. -/
theorem first1 (c : Word) (hc : k0_pay12 (F := Ideal) a h k1 i = c + k1) :
    k0_pay19 (F := Ideal) a h k0 k1 i = (a1 k0 k1 c).2 ∧
    k0_pay20 (F := Ideal) a h k0 k1 i = (a1 k0 k1 c).1 + (a1 k0 k1 c).2 ∧
    k0_pay21 (F := Ideal) a h k0 k1 i = (a1 k0 k1 c).2 <<< 6#32 := by
  simp (disch := decide) only [k0_pay13, k0_pay14, k0_pay15, k0_pay16, k0_pay17, k0_pay18,
    k0_pay19, k0_pay20, k0_pay21, add_at, xor_at, or_at, left_at, right_at, spread_at, mix, roundsA, roundsB,
    inject, BitVec.zero_add, BitVec.add_zero, and_self, a1, hc]

variable (x y z : IVec S8x256x128 32) (s : Word × Word)

theorem first2 (hx : x i = s.2) (hy : y i = s.1 + s.2) (hz : z i = s.2 <<< 6#32) :
    k0_pay30 (F := Ideal) k0 k1 (parity k0 k1) x y z i = (a2 k0 k1 s).2 ∧
    k0_pay31 (F := Ideal) k0 k1 (parity k0 k1) x y z i = (a2 k0 k1 s).1 + (a2 k0 k1 s).2 ∧
    k0_pay32 (F := Ideal) k0 k1 (parity k0 k1) x y z i = (a2 k0 k1 s).2 <<< 13#32 := by
  simp (disch := decide) only [k0_pay22, k0_pay23, k0_pay24, k0_pay25, k0_pay26, k0_pay27, k0_pay28,
    k0_pay29, k0_pay30, k0_pay31, k0_pay32, add_at, xor_at, or_at, left_at, right_at, spread_at, mix,
    roundsA, roundsB, inject, BitVec.zero_add, BitVec.add_zero, and_self, a2, hx, hy, hz]

theorem first3 (hx : x i = s.2) (hy : y i = s.1 + s.2) (hz : z i = s.2 <<< 13#32) :
    k0_pay43 (F := Ideal) k0 k1 x y z 19#32 i = (a3 k0 k1 s).2 ∧
    k0_pay44 (F := Ideal) k0 k1 x y z 19#32 i = (a3 k0 k1 s).1 + (a3 k0 k1 s).2 ∧
    k0_pay45 (F := Ideal) k0 k1 x y z 19#32 i = (a3 k0 k1 s).2 <<< 16#32 := by
  simp (disch := decide) only [k0_pay33, k0_pay34, k0_pay35, k0_pay36, k0_pay37, k0_pay38, k0_pay39,
    k0_pay40, k0_pay41, k0_pay42, k0_pay43, k0_pay44, k0_pay45, add_at, xor_at, or_at, left_at, right_at,
    spread_at, mix, roundsA, roundsB, inject, BitVec.zero_add, BitVec.add_zero, and_self, a3, hx, hy, hz]

theorem first4 (hx : x i = s.2) (hy : y i = s.1 + s.2) (hz : z i = s.2 <<< 16#32) :
    k0_pay56 (F := Ideal) k1 (parity k0 k1) x y z i = (a4 k0 k1 s).2 ∧
    k0_pay57 (F := Ideal) k1 (parity k0 k1) x y z i = (a4 k0 k1 s).1 + parity k0 k1 ∧
    k0_pay58 (F := Ideal) k0 i = k0 := by
  simp (disch := decide) only [k0_pay46, k0_pay47, k0_pay48, k0_pay49, k0_pay50, k0_pay51, k0_pay52,
    k0_pay53, k0_pay54, k0_pay55, k0_pay56, k0_pay57, k0_pay58, add_at, xor_at, or_at, left_at, right_at,
    spread_at, mix, roundsA, roundsB, inject, BitVec.zero_add, BitVec.add_zero, and_self, a4, hx, hy, hz]

theorem first5 (lp : FVec Ideal S8x256x128 .f32) (w : S8x256x128.Idx → Word)
    (hw : ∀ i, y i ^^^ (x i + z i + 5#32) = w i) :
    k0_pay59 (F := Ideal) h lp x y z = earliest h (fun i => FloatOps.addf (lp i) (noise (w i))) := by
  obtain rfl : (fun i => y i ^^^ (x i + z i + 5#32)) = w := funext hw
  rfl

end First

section Second

variable (k0 k1 : Word)

/-- Where the first stretch of the second draw ends. -/
def b1 (k0 k1 c : Word) : Word × Word := mix 13#32 19#32 (0#32 + k0, c + k1)

/-- Where the second stretch ends. -/
def b2 (k0 k1 : Word) (s : Word × Word) : Word × Word :=
  mix 16#32 16#32 (mix 29#32 3#32 (mix 17#32 15#32 (inject k1 (parity k0 k1) 1#32 (mix 6#32 26#32 (mix 26#32 6#32 (mix 15#32 17#32 s))))))

/-- Where the third stretch ends. -/
def b3 (k0 k1 : Word) (s : Word × Word) : Word × Word :=
  inject k0 k1 3#32 (roundsA (inject (parity k0 k1) k0 2#32 (mix 24#32 8#32 s)))

/-- Where the fourth stretch ends. -/
def b4 (k0 k1 : Word) (s : Word × Word) : Word × Word :=
  mix 15#32 17#32 (mix 13#32 19#32 (inject k1 (parity k0 k1) 4#32 (mix 24#32 8#32 (mix 16#32 16#32 (mix 29#32 3#32 (mix 17#32 15#32 s))))))

/-- The drawn word from there. -/
def b5 (k0 k1 : Word) (s : Word × Word) : Word :=
  (inject (parity k0 k1) k0 5#32 (mix 6#32 26#32 (mix 26#32 6#32 s))).1 ^^^ (inject (parity k0 k1) k0 5#32 (mix 6#32 26#32 (mix 26#32 6#32 s))).2

variable (x y z t h : IVec S8x256x128 32) (s : Word × Word)

/-- The second draw, whose counters are 33554432 further on. -/
theorem second1 (c : Word) (hx : x i + 33554432#32 = c + k1) :
    k0_pay63 (F := Ideal) k0 x i = (b1 k0 k1 c).1 + (b1 k0 k1 c).2 ∧
    k0_pay64 (F := Ideal) k0 x i = (b1 k0 k1 c).2 <<< 15#32 ∧
    k0_pay65 (F := Ideal) k0 x i = (b1 k0 k1 c).2 >>> 17#32 := by
  simp (disch := decide) only [k0_pay60, k0_pay61, k0_pay62, k0_pay63, k0_pay64, k0_pay65, add_at, xor_at,
    or_at, left_at, right_at, spread_at, mix, roundsA, roundsB, inject, BitVec.zero_add, BitVec.add_zero, and_self, b1,
    hx]

theorem second2 (hx : x i = s.1 + s.2) (hy : y i = s.2 <<< 15#32) (hz : z i = s.2 >>> 17#32) :
    k0_pay76 (F := Ideal) k1 (parity k0 k1) x y z i = (b2 k0 k1 s).2 ∧
    k0_pay77 (F := Ideal) k1 (parity k0 k1) x y z i = (b2 k0 k1 s).1 + (b2 k0 k1 s).2 ∧
    k0_pay78 (F := Ideal) k1 (parity k0 k1) x y z i = (b2 k0 k1 s).2 <<< 24#32 := by
  simp (disch := decide) only [k0_pay66, k0_pay67, k0_pay68, k0_pay69, k0_pay70, k0_pay71, k0_pay72,
    k0_pay73, k0_pay74, k0_pay75, k0_pay76, k0_pay77, k0_pay78, add_at, xor_at, or_at, left_at, right_at,
    spread_at, mix, roundsA, roundsB, inject, BitVec.zero_add, BitVec.add_zero, and_self, b2, hx, hy, hz]

theorem second3 (hx : x i = s.2) (hy : y i = s.1 + s.2) (hz : z i = s.2 <<< 24#32) :
    k0_pay89 (F := Ideal) k0 k1 (parity k0 k1) x y z k0_pay79 i = (b3 k0 k1 s).1 + (b3 k0 k1 s).2 ∧
    k0_pay90 (F := Ideal) k0 k1 (parity k0 k1) x y z k0_pay79 i = (b3 k0 k1 s).2 <<< 17#32 ∧
    k0_pay91 (F := Ideal) k0 k1 (parity k0 k1) x y z k0_pay79 i = (b3 k0 k1 s).2 >>> 15#32 := by
  simp (disch := decide) only [k0_pay79, k0_pay80, k0_pay81, k0_pay82, k0_pay83, k0_pay84, k0_pay85,
    k0_pay86, k0_pay87, k0_pay88, k0_pay89, k0_pay90, k0_pay91, add_at, xor_at, or_at, left_at, right_at,
    spread_at, mix, roundsA, roundsB, inject, BitVec.zero_add, BitVec.add_zero, and_self, b3, hx, hy, hz]

theorem second4 (hx : x i = s.1 + s.2) (hy : y i = s.2 <<< 17#32) (hz : z i = s.2 >>> 15#32) :
    k0_pay102 (F := Ideal) k1 (parity k0 k1) x y z i = (b4 k0 k1 s).2 ∧
    k0_pay103 (F := Ideal) k1 (parity k0 k1) x y z i = (b4 k0 k1 s).1 + (b4 k0 k1 s).2 ∧
    k0_pay104 (F := Ideal) k1 (parity k0 k1) x y z i = (b4 k0 k1 s).2 <<< 26#32 := by
  simp (disch := decide) only [k0_pay92, k0_pay93, k0_pay94, k0_pay95, k0_pay96, k0_pay97, k0_pay98,
    k0_pay99, k0_pay100, k0_pay101, k0_pay102, k0_pay103, k0_pay104, add_at, xor_at, or_at, left_at,
    right_at, spread_at, mix, roundsA, roundsB, inject, BitVec.zero_add, BitVec.add_zero, and_self, b4, hx, hy, hz]

theorem second5 (lp : FVec Ideal S8x256x128 .f32) (u : S8x256x128.Idx → Word × Word)
    (hx : ∀ i, x i = (u i).2) (hy : ∀ i, y i = (u i).1 + (u i).2) (hz : ∀ i, z i = (u i).2 <<< 26#32) :
    k0_pay106 (F := Ideal) h lp k0 (parity k0 k1) x y z k0_pay105
      = earliest h (fun i => FloatOps.addf (lp i) (noise (b5 k0 k1 (u i)))) := by
  unfold k0_pay106
  refine congrArg (earliest h) (funext fun i => ?_)
  refine congrArg (FloatOps.addf (lp i)) (congrArg noise ?_)
  simp (disch := decide) only [k0_pay105, add_at, xor_at, or_at, left_at, right_at, spread_at, mix,
    roundsA, roundsB, inject, BitVec.zero_add, BitVec.add_zero, and_self, b5, hx, hy, hz]

end Second

section Third

variable (k0 k1 : Word)

/-- Where the first stretch of the third draw ends. -/
def c1 (k0 k1 : Word) (s : Word × Word) : Word × Word :=
  mix 29#32 3#32 (mix 17#32 15#32 (inject k1 (parity k0 k1) 1#32 (roundsA s)))

/-- Where the second stretch ends. -/
def c2 (k0 k1 : Word) (s : Word × Word) : Word × Word :=
  mix 26#32 6#32 (mix 15#32 17#32 (mix 13#32 19#32 (inject (parity k0 k1) k0 2#32 (mix 24#32 8#32 (mix 16#32 16#32 s)))))

/-- Where the third stretch ends. -/
def c3 (k0 k1 : Word) (s : Word × Word) : Word × Word :=
  mix 13#32 19#32 (inject k1 (parity k0 k1) 4#32 (roundsB (inject k0 k1 3#32 (mix 6#32 26#32 s))))

/-- The drawn word from there. -/
def c4 (k0 k1 : Word) (s : Word × Word) : Word :=
  (inject (parity k0 k1) k0 5#32 (mix 6#32 26#32 (mix 26#32 6#32 (mix 15#32 17#32 s)))).1
    ^^^ (inject (parity k0 k1) k0 5#32 (mix 6#32 26#32 (mix 26#32 6#32 (mix 15#32 17#32 s)))).2

variable (x y h : IVec S8x256x128 32) (s : Word × Word)

/-- The third draw, whose counters are 67108864 further on. -/
theorem third0 (c : Word) (hx : x i + 67108864#32 = c + k1) :
    k0_pay107 x i = c + k1 ∧ k0_pay108 (F := Ideal) k0 x i = (0#32 + k0) + (c + k1) := by
  simp (disch := decide) only [k0_pay107, k0_pay108, add_at, xor_at, or_at, left_at, right_at, spread_at,
    mix, roundsA, roundsB, inject, BitVec.zero_add, BitVec.add_zero, and_self, hx]

theorem third1 (hx : x i = s.2) (hy : y i = s.1 + s.2) :
    k0_pay118 (F := Ideal) k1 x (parity k0 k1) y i = (c1 k0 k1 s).1 ∧
    k0_pay119 (F := Ideal) k1 x (parity k0 k1) y i = (c1 k0 k1 s).2 := by
  simp (disch := decide) only [k0_pay109, k0_pay110, k0_pay111, k0_pay112, k0_pay113, k0_pay114, k0_pay115,
    k0_pay116, k0_pay117, k0_pay118, k0_pay119, add_at, xor_at, or_at, left_at, right_at, spread_at, mix,
    roundsA, roundsB, inject, BitVec.zero_add, BitVec.add_zero, and_self, c1, hx, hy]

theorem third2 (hx : x i = s.1) (hy : y i = s.2) :
    k0_pay130 (F := Ideal) k0 (parity k0 k1) x y i = (c2 k0 k1 s).1 + (c2 k0 k1 s).2 ∧
    k0_pay131 (F := Ideal) k0 (parity k0 k1) x y i = ((c2 k0 k1 s).2 <<< 6#32 ||| (c2 k0 k1 s).2 >>> 26#32) := by
  simp (disch := decide) only [k0_pay120, k0_pay121, k0_pay122, k0_pay123, k0_pay124, k0_pay125, k0_pay126,
    k0_pay127, k0_pay128, k0_pay129, k0_pay130, k0_pay131, add_at, xor_at, or_at, left_at, right_at,
    spread_at, mix, roundsA, roundsB, inject, BitVec.zero_add, BitVec.add_zero, and_self, c2, hx, hy]

theorem third3 (hx : x i = s.1 + s.2) (hy : y i = (s.2 <<< 6#32 ||| s.2 >>> 26#32)) :
    k0_pay141 (F := Ideal) k0 k1 (parity k0 k1) x y i = (c3 k0 k1 s).1 ∧
    k0_pay142 (F := Ideal) k0 k1 (parity k0 k1) x y i = (c3 k0 k1 s).2 := by
  simp (disch := decide) only [k0_pay132, k0_pay133, k0_pay134, k0_pay135, k0_pay136, k0_pay137, k0_pay138,
    k0_pay139, k0_pay140, k0_pay141, k0_pay142, add_at, xor_at, or_at, left_at, right_at, spread_at, mix,
    roundsA, roundsB, inject, BitVec.zero_add, BitVec.add_zero, and_self, c3, hx, hy]

theorem third4 (lp : FVec Ideal S8x256x128 .f32) (u : S8x256x128.Idx → Word × Word)
    (hx : ∀ i, x i = (u i).1) (hy : ∀ i, y i = (u i).2) :
    k0_pay143 (F := Ideal) lp k0 (parity k0 k1) x y
      = (fun i => FloatOps.addf (lp i) (noise (c4 k0 k1 (u i)))) := by
  unfold k0_pay143
  refine funext fun i => ?_
  refine congrArg (FloatOps.addf (lp i)) (congrArg noise ?_)
  simp (disch := decide) only [add_at, xor_at, or_at, left_at, right_at, spread_at, mix, roundsA, roundsB,
    inject, BitVec.zero_add, BitVec.add_zero, and_self, c4, hx, hy]

end Third

end Cert.KernelIdeal.Bits

end

end
-- ==== Proof.KernelScores.lean ====
module

public import proofs.«01_k».proof.Proof.Gen.KernelIdeal.Skeleton
public import proofs.«01_k».proof.Proof.Spec
public import proofs.«01_k».proof.Proof.KernelBits
public import Idealize.ShloMosaic.Lib.Pointwise

@[expose] public section

set_option maxRecDepth 16384
set_option maxHeartbeats 2000000

/-!
# The probabilities of the kernel's block

The block holds the places of a row as 256 rows of 128 lanes. The seams between the stretches fall inside rows 68
and 193, so the kernel reduces each stretch in a part of whole rows and a part of half a row.
-/

noncomputable section

namespace Cert.KernelIdeal.Scores

open Idealize.ShloMosaic Cert.KernelIdeal Cert.KernelIdeal.Gen Sampler Finset

/-- The kernel's three products at a place, in either of the orders it adds them. -/
theorem logit_at (x : Vec Ideal S8x256x384 .f32) (t : Vec Ideal S384x384 .bf16) (w : Vec Ideal S3x256x128 .bf16)
    (c : Vec Ideal S1x256x128 .f32)
    (ht : ∀ j k : Fin 384, t (ix2 j k) = if j.val = 3 * (k.val % 128) + k.val / 128 then (1 : EReal) else 0)
    (X : ℕ → EReal) (W : ℕ → ℕ → EReal) (B : ℕ → EReal) (b : Fin 8)
    (hx : ∀ (r : Fin 256) (q : Fin 384), x (ix3 b r q) = X (384 * r.val + q.val))
    (hw : ∀ (k : Fin 3) (r : Fin 256) (l : Fin 128), w (ix3 k r l) = W (stretch (128 * r.val + l.val)) k.val)
    (hc : ∀ (r : Fin 256) (l : Fin 128), c (ix3 0 r l) = B (stretch (128 * r.val + l.val)))
    (r : Fin 256) (l : Fin 128) :
    k0_pay2 (F := Ideal) x t w c (ix3 b r l) = logit X W B (128 * r.val + l.val) := by
  have pickOne : ∀ (r : Fin 256) (k : Fin 384), (∑ j : Fin 384, x (ix3 b r j) * t (ix2 j k))
      = X (384 * r.val + (3 * (k.val % 128) + k.val / 128)) := by
    intro r k
    have hk := k.isLt
    rw [Finset.sum_eq_single (⟨3 * (k.val % 128) + k.val / 128, by omega⟩ : Fin 384)]
    · rw [ht, if_pos rfl, mul_one, hx]
    · intro j _ hj
      rw [ht, if_neg fun e => hj (Fin.ext e), mul_zero]
    · exact fun h => absurd (mem_univ _) h
  pointwise [k0_pay2]
  simp only [pickOne, hw, hc]
  have hl := l.isLt
  have hr := r.isLt
  have e0 : 384 * r.val + (3 * (l.val % 128) + l.val / 128) = 3 * (128 * r.val + l.val) := by omega
  have e1 : 384 * r.val + (3 * ((128 + l.val) % 128) + (128 + l.val) / 128) = 3 * (128 * r.val + l.val) + 1 := by omega
  have e2 : 384 * r.val + (3 * ((256 + l.val) % 128) + (256 + l.val) / 128) = 3 * (128 * r.val + l.val) + 2 := by omega
  have f0 : ((0 : Fin 3) : ℕ) = 0 := rfl
  have f1 : ((1 : Fin 3) : ℕ) = 1 := rfl
  have f2 : ((2 : Fin 3) : ℕ) = 2 := rfl
  rw [logit]
  congr 1
  split_ifs
  all_goals
    try simp (disch := omega) only [Nat.add_sub_of_le]
    try simp (disch := omega) only [Nat.sub_sub, Nat.reduceAdd, Nat.add_sub_of_le]
    simp only [e0, e1, e2, f0, f1, f2]
    ac_rfl

/-- The tallest of each stretch, as the kernel puts it together. -/
theorem top_zero (g : ℕ → EReal) : top g 0 = max ((range 8704).sup g) ((range 64).sup fun j => g (8704 + j)) := by
  rw [top, show count 0 = 8704 + 64 from rfl, sup_range_add]
  simp only [start, Nat.zero_add]

/-- The tallest of a stretch, in the two pieces in which it is computed. -/
theorem top_one (g : ℕ → EReal) :
    top g 1 = max ((range 64).sup fun j => g (8768 + j)) ((range 7936).sup fun j => g (8832 + j)) := by
  rw [top, show count 1 = 64 + 7936 from rfl, sup_range_add]
  simp only [start, ← Nat.add_assoc, Nat.reduceAdd]

theorem top_two (g : ℕ → EReal) :
    top g 2 = max ((range 7936).sup fun j => g (16768 + j)) ((range 64).sup fun j => g (24704 + j)) := by
  rw [top, show count 2 = 7936 + 64 from rfl, sup_range_add]
  simp only [start, ← Nat.add_assoc, Nat.reduceAdd]

theorem top_three (g : ℕ → EReal) :
    top g 3 = max ((range 64).sup fun j => g (24768 + j)) ((range 7936).sup fun j => g (24832 + j)) := by
  rw [top, show count 3 = 64 + 7936 from rfl, sup_range_add]
  simp only [start, ← Nat.add_assoc, Nat.reduceAdd]

/-- The total of a stretch, in the two pieces in which it is computed. -/
theorem total_zero (g : ℕ → EReal) : total g 0 = (∑ j ∈ range 8704, g j) + ∑ j ∈ range 64, g (8704 + j) := by
  rw [total, show count 0 = 8704 + 64 from rfl, sum_range_add]
  simp only [start, Nat.zero_add]

theorem total_one (g : ℕ → EReal) :
    total g 1 = (∑ j ∈ range 64, g (8768 + j)) + ∑ j ∈ range 7936, g (8832 + j) := by
  rw [total, show count 1 = 64 + 7936 from rfl, sum_range_add]
  simp only [start, ← Nat.add_assoc, Nat.reduceAdd]

theorem total_two (g : ℕ → EReal) :
    total g 2 = (∑ j ∈ range 7936, g (16768 + j)) + ∑ j ∈ range 64, g (24704 + j) := by
  rw [total, show count 2 = 7936 + 64 from rfl, sum_range_add]
  simp only [start, ← Nat.add_assoc, Nat.reduceAdd]

theorem total_three (g : ℕ → EReal) :
    total g 3 = (∑ j ∈ range 64, g (24768 + j)) + ∑ j ∈ range 7936, g (24832 + j) := by
  rw [total, show count 3 = 64 + 7936 from rfl, sum_range_add]
  simp only [start, ← Nat.add_assoc, Nat.reduceAdd]

section

variable (b : Fin 8) (v : FVec Ideal S8x256x128 .f32) (g : ℕ → EReal)
  (hv : ∀ (r : Fin 256) (l : Fin 128), v (ix3 b r l) = g (128 * r.val + l.val))

include hv

/-- The first piece of a stretch, read from the block: its maximum, -/
theorem max_at : multiReduction .maximumf [1, 2] S8 (extractStridedSlice S8x68x128 ![0, 0, 0] v
      slices_S8x256x128_o0_0_0_S8x68x128) 0xFF800000#32 reduces_S8x68x128_S8 (.inl rfl) rfl (ix1 b)
    = (range 8704).sup g := by
  pointwise
  rw [fold_max_eq_sup]
  simp only [hv]
  exact sup_rows g 68

/-- the weight of a place, -/
theorem weight_at (m : FVec Ideal S8 .f32) (hm : m (ix1 b) = (range 8704).sup g) (r : Fin 256) (l : Fin 128) :
    k0_pay4 (F := Ideal) v m (ix3 b r l) = weight g (128 * r.val + l.val) := by
  have f68 : ((68 : Fin 256) : ℕ) = 68 := rfl
  have f193 : ((193 : Fin 256) : ℕ) = 193 := rfl
  pointwise [k0_pay4]
  simp only [hv, hm, fold_max_eq_sup, f68, f193, Nat.mul_add, ← Nat.add_assoc, Nat.reduceMul, Nat.reduceAdd,
    sup_rows_from, sup_lanes_from, ← top_zero, ← top_one, ← top_two, ← top_three]
  have hl := l.isLt
  have hr := r.isLt
  rw [weight]
  congr 2
  unfold stretch
  split_ifs <;> first | (exfalso; omega) | rfl

/-- The probabilities of the block, from its weights. -/
theorem quotient_at (z : FVec Ideal S8x1x1 .f32) (y : FVec Ideal S8x1x64 .f32)
    (hz : z (ix3 b 0 0) = ∑ j ∈ range 8704, g j) (hy : ∀ l : Fin 64, y (ix3 b 0 l) = g (8704 + l.val))
    (r : Fin 256) (l : Fin 128) :
    k0_pay7 (F := Ideal) v z y (ix3 b r l) = Ideal.div (g (128 * r.val + l.val)) (total g (stretch (128 * r.val + l.val))) := by
  have f68 : ((68 : Fin 256) : ℕ) = 68 := rfl
  have f193 : ((193 : Fin 256) : ℕ) = 193 := rfl
  have hy' : ∀ (x : Fin 1) (l : Fin 64), y (ix3 b x l) = g (8704 + l.val) := fun x l => by rw [Subsingleton.elim x 0, hy]
  pointwise [k0_pay7]
  simp only [hv, hz, hy', f68, f193, Nat.mul_add, ← Nat.add_assoc, Nat.reduceMul, Nat.reduceAdd,
    sum_rows_from, sum_lanes_from, ← total_zero, ← total_one, ← total_two, ← total_three]
  have hl := l.isLt
  have hr := r.isLt
  congr 1
  unfold stretch
  split_ifs <;> first | (exfalso; omega) | rfl

/-- and its sum. -/
theorem sum_at : shapeCast S8x1x1 (multiReduction .add [1, 2] S8 (extractStridedSlice S8x68x128 ![0, 0, 0] v
      slices_S8x256x128_o0_0_0_S8x68x128) 0x00000000#32 reduces_S8x68x128_S8 (.inl rfl) rfl) shapeCasts_S8_S8x1x1 (ix3 b 0 0)
    = ∑ j ∈ range 8704, g j := by
  pointwise
  simp only [hv]
  exact sum_rows g 68

end

/-- The probabilities of the block, from its logits. -/
theorem prob_at (b : Fin 8) (v : FVec Ideal S8x256x128 .f32) (g : ℕ → EReal)
    (hv : ∀ (r : Fin 256) (l : Fin 128), v (ix3 b r l) = g (128 * r.val + l.val))
    (m : FVec Ideal S8 .f32) (hm : m (ix1 b) = (range 8704).sup g) (r : Fin 256) (l : Fin 128) :
    k0_pay7 (F := Ideal) (k0_pay4 v m) (k0_pay5 v m) (k0_pay6 v m) (ix3 b r l) = prob g (128 * r.val + l.val) := by
  have hw := weight_at b v g hv m hm
  refine quotient_at b (k0_pay4 v m) (weight g) hw _ _ (sum_at b _ _ hw) (fun l => ?_) r l
  delta k0_pay6
  generalize k0_pay4 (F := Ideal) v m = u at hw
  pointwise
  rw [hw]
  rfl

end Cert.KernelIdeal.Scores

end
-- ==== Proof.KernelFirst.lean ====
module

public import proofs.«01_k».proof.Proof.KernelScores

@[expose] public section

set_option maxRecDepth 16384
set_option maxHeartbeats 2000000

/-!
# The kernel's arg max

The kernel finds the tallest value of a row, keeps the number of every place that equals it, puts 32768 at the
others, and takes the least.
-/

noncomputable section

namespace Cert.KernelIdeal.First

open Idealize.ShloMosaic Cert.KernelIdeal Cert.KernelIdeal.Gen Sampler Finset Bits

/-- The lesser of two signed words. -/
theorem toInt_minsi (x y : Word) : (IntOp.minsi x y).toInt = min x.toInt y.toInt := by
  unfold IntOp.minsi
  by_cases h : x.slt y = true
  · rw [if_pos h, min_eq_left]
    exact (BitVec.slt_iff_toInt_lt.mp h).le
  · rw [if_neg h, min_eq_right]
    exact not_lt.mp fun e => h (BitVec.slt_iff_toInt_lt.mpr e)

/-- What lies below a fold of lesser words. -/
theorem le_fold_minsi {ι : Type} (s : Finset ι) (init : Word) (f : ι → Word) (c : ℤ) :
    c ≤ (s.fold (IKind.op .minsi) init f).toInt ↔ c ≤ init.toInt ∧ ∀ i ∈ s, c ≤ (f i).toInt := by
  classical
  induction s using Finset.induction_on with
  | empty => simp
  | insert a s ha ih =>
    rw [Finset.fold_insert ha, show ∀ x y, IKind.op .minsi x y = IntOp.minsi x y from fun _ _ => rfl, toInt_minsi,
      le_min_iff, ih, Finset.forall_mem_insert]
    tauto

/-- A least of numbers, where one of them is least. -/
theorem fold_minsi_eq {ι : Type} (s : Finset ι) (init : Word) (f : ι → Word) (k : Word) (hi : k.toInt ≤ init.toInt)
    (hm : ∃ i ∈ s, f i = k) (hl : ∀ i ∈ s, k.toInt ≤ (f i).toInt) : s.fold (IKind.op .minsi) init f = k := by
  refine BitVec.eq_of_toInt_eq (le_antisymm ?_ ((le_fold_minsi s init f _).mpr ⟨hi, hl⟩))
  obtain ⟨i, his, rfl⟩ := hm
  exact ((le_fold_minsi s init f _).mp le_rfl).2 i his

/-- Small numbers keep their value as signed words. -/
theorem toInt_small {k : ℕ} (h : k < 2147483648) : (BitVec.ofNat 32 k).toInt = k := by
  rw [BitVec.toInt_eq_toNat_of_lt (by rw [BitVec.toNat_ofNat]; omega), BitVec.toNat_ofNat]
  norm_cast
  omega

/-- The number of a place. -/
theorem place_at (b : Fin 8) (r : Fin 256) (l : Fin 128) : k0_pay8 (ix3 b r l) = BitVec.ofNat 32 (128 * r.val + l.val) := by
  pointwise [k0_pay8]
  show BitVec.ofNat 32 r.val * 128#32 + BitVec.ofNat 32 l.val = _
  have hr := r.isLt
  have hl := l.isLt
  apply BitVec.eq_of_toNat_eq
  simp only [BitVec.toNat_add, BitVec.toNat_mul, BitVec.toNat_ofNat]
  omega

/-- The least place among those that hold the maximum is the first tallest one. -/
theorem earliest_at (b : Fin 8) (v : FVec Ideal S8x256x128 .f32) (g : ℕ → EReal)
    (hv : ∀ (r : Fin 256) (l : Fin 128), v (ix3 b r l) = g (128 * r.val + l.val)) :
    earliest k0_pay8 v (ix1 b) = BitVec.ofNat 32 (first g) := by
  have htop : ∀ (r : Fin 256) (l : Fin 128), broadcastTo S8x256x128 (shapeCast S8x1x1
      (multiReduction .maximumf [1, 2] S8 v 0xFF800000#32 reduces_S8x256x128_S8 (.inl rfl) rfl)
      shapeCasts_S8_S8x1x1) broadcasts_S8x1x1_S8x256x128 (ix3 b r l) = (range 32768).sup g := by
    intro r l
    pointwise
    rw [fold_max_eq_sup]
    simp only [hv]
    exact sup_rows g 256
  obtain ⟨h1, h2, h3⟩ := first_spec g
  have hsup : (range 32768).sup g = g (first g) :=
    le_antisymm (Finset.sup_le fun h hh => h2 h (mem_range.mp hh)) (Finset.le_sup (mem_range.mpr h1))
  have hsel : ∀ (r : Fin 256) (l : Fin 128), select (cmpf .oeq v (broadcastTo S8x256x128 (shapeCast S8x1x1
      (multiReduction .maximumf [1, 2] S8 v 0xFF800000#32 reduces_S8x256x128_S8 (.inl rfl) rfl)
      shapeCasts_S8_S8x1x1) broadcasts_S8x1x1_S8x256x128)) k0_pay8 (broadcast S8x256x128 32768#32) (ix3 b r l)
      = if g (128 * r.val + l.val) = g (first g) then BitVec.ofNat 32 (128 * r.val + l.val) else 32768#32 := by
    intro r l
    rw [ValueIdx.select_apply, ValueIdx.cmpf_apply, htop, place_at, hv, hsup]
    show Scalar.select (BitVec.ofBool (decide _)) _ _ = _
    by_cases h : g (128 * r.val + l.val) = g (first g)
    · rw [if_pos h, decide_eq_true h]; rfl
    · rw [if_neg h, decide_eq_false h]; rfl
  have hdrop : ∀ (b' : Fin 8) (r : Fin 256) (l : Fin 128),
      reduces_S8x256x128_S8.drop (ix3 b' r l) = ix1 b ↔ b' = b := by
    intro b' r l
    constructor
    · intro e
      have := congrFun e 0
      have h0 := Shape.Reduces.drop_apply_val_of_eq reduces_S8x256x128_S8 (ix3 b' r l) 0 0
      rw [this] at h0
      exact Fin.ext h0.symm
    · rintro rfl
      funext a
      fin_cases a
      exact Fin.ext (Shape.Reduces.drop_apply_val_of_eq reduces_S8x256x128_S8 (ix3 b' r l) 0 0)
  refine (multiReductionI_eq_fold .minsi _ _ _ _ _).trans (fold_minsi_eq _ _ _ _ ?_ ?_ ?_)
  · rw [toInt_small (by omega)]
    have : (2147483647#32 : Word).toInt = 2147483647 := by decide
    rw [this]; omega
  · refine ⟨ix3 b ⟨first g / 128, by omega⟩ ⟨first g % 128, by omega⟩, ?_, ?_⟩
    · rw [mem_filter]; exact ⟨mem_univ _, (hdrop _ _ _).mpr rfl⟩
    · refine (hsel _ _).trans ?_
      have e : 128 * (first g / 128) + first g % 128 = first g := by omega
      dsimp only
      rw [e, if_pos rfl]
  · intro i hi
    obtain ⟨b', r, l, rfl⟩ : ∃ (b' : Fin 8) (r : Fin 256) (l : Fin 128), i = ix3 b' r l := ⟨i 0, i 1, i 2, eq_ix3 i⟩
    obtain rfl := (hdrop _ _ _).mp (mem_filter.mp hi).2
    refine le_of_le_of_eq ?_ (congrArg BitVec.toInt (hsel r l)).symm
    have hr := r.isLt
    have hl := l.isLt
    split_ifs with h
    · rw [toInt_small (by omega), toInt_small (by omega)]
      by_contra hlt
      have := h3 (128 * r.val + l.val) (by omega)
      exact absurd h this.ne
    · rw [toInt_small (by omega), show (32768#32 : Word).toInt = 32768 by decide]
      omega

end Cert.KernelIdeal.First

end
-- ==== Proof.KernelDraws.lean ====
module

public import proofs.«01_k».proof.Proof.KernelFirst

@[expose] public section

set_option maxRecDepth 16384
set_option maxHeartbeats 2000000

/-!
# The kernel's three draws and its answer

The stretches of the generator put end to end, for each of the three draws, and what the kernel stores.
-/

noncomputable section

namespace Cert.KernelIdeal.Draws

open Idealize.ShloMosaic Cert.KernelIdeal Cert.KernelIdeal.Gen Sampler Bits First

/-- The last words of each draw are the exclusive or of the final pair. -/
theorem draw_of_first (k0 k1 c : Word) :
    (a4 k0 k1 (a3 k0 k1 (a2 k0 k1 (a1 k0 k1 c)))).2 + k0 + 5#32
      = (threefry k0 k1 0#32 c).2 ∧
    (a4 k0 k1 (a3 k0 k1 (a2 k0 k1 (a1 k0 k1 c)))).1 + parity k0 k1 = (threefry k0 k1 0#32 c).1 := by
  simp only [threefry, a1, a2, a3, a4, roundsA, roundsB, inject, and_self]

theorem draw_of_second (k0 k1 c : Word) :
    b5 k0 k1 (b4 k0 k1 (b3 k0 k1 (b2 k0 k1 (b1 k0 k1 c)))) = draw k0 k1 c := by
  simp only [draw, threefry, b1, b2, b3, b4, b5, roundsA, roundsB]

theorem draw_of_third (k0 k1 c : Word) :
    c4 k0 k1 (c3 k0 k1 (c2 k0 k1 (c1 k0 k1 (0#32 + k0, c + k1)))) = draw k0 k1 c := by
  simp only [draw, threefry, c1, c2, c3, c4, roundsA, roundsB]

variable (a k0 k1 : Word) (h : IVec S8x256x128 32) (lp : FVec Ideal S8x256x128 .f32) (n : S8x256x128.Idx → Word)

/-- The rounds of the first draw, chained. -/
theorem first_draw {p1 p2 p3 q1 q2 q3 r1 r2 r3 s1 s2 s3 : IVec S8x256x128 32}
    (hc : ∀ i, k0_pay12 (F := Ideal) a h k1 i = n i + k1)
    (hp1 : p1 = k0_pay19 (F := Ideal) a h k0 k1) (hp2 : p2 = k0_pay20 (F := Ideal) a h k0 k1)
    (hp3 : p3 = k0_pay21 (F := Ideal) a h k0 k1)
    (hq1 : q1 = k0_pay30 (F := Ideal) k0 k1 (parity k0 k1) p1 p2 p3)
    (hq2 : q2 = k0_pay31 (F := Ideal) k0 k1 (parity k0 k1) p1 p2 p3)
    (hq3 : q3 = k0_pay32 (F := Ideal) k0 k1 (parity k0 k1) p1 p2 p3)
    (hr1 : r1 = k0_pay43 (F := Ideal) k0 k1 q1 q2 q3 19#32)
    (hr2 : r2 = k0_pay44 (F := Ideal) k0 k1 q1 q2 q3 19#32)
    (hr3 : r3 = k0_pay45 (F := Ideal) k0 k1 q1 q2 q3 19#32)
    (hs1 : s1 = k0_pay56 (F := Ideal) k1 (parity k0 k1) r1 r2 r3)
    (hs2 : s2 = k0_pay57 (F := Ideal) k1 (parity k0 k1) r1 r2 r3)
    (hs3 : s3 = k0_pay58 (F := Ideal) k0) :
    k0_pay59 (F := Ideal) h lp s1 s2 s3 = earliest h (fun i => FloatOps.addf (lp i) (noise (draw k0 k1 (n i)))) := by
  refine first5 h s1 s2 s3 lp _ fun i => ?_
  obtain ⟨e1, e2, e3⟩ := first1 i a k0 k1 h (n i) (hc i)
  rw [← hp1] at e1; rw [← hp2] at e2; rw [← hp3] at e3
  obtain ⟨f1, f2, f3⟩ := first2 i k0 k1 p1 p2 p3 _ e1 e2 e3
  rw [← hq1] at f1; rw [← hq2] at f2; rw [← hq3] at f3
  obtain ⟨g1, g2, g3⟩ := first3 i k0 k1 q1 q2 q3 _ f1 f2 f3
  rw [← hr1] at g1; rw [← hr2] at g2; rw [← hr3] at g3
  obtain ⟨d1, d2, d3⟩ := first4 i k0 k1 r1 r2 r3 _ g1 g2 g3
  rw [← hs1] at d1; rw [← hs2] at d2; rw [← hs3] at d3
  obtain ⟨z1, z2⟩ := draw_of_first k0 k1 (n i)
  rw [d1, d2, d3, z1, z2, draw]

/-- The rounds of the second draw, chained. -/
theorem second_draw {x p1 p2 p3 q1 q2 q3 r1 r2 r3 s1 s2 s3 : IVec S8x256x128 32}
    (hc : ∀ i, x i + 33554432#32 = n i + k1)
    (hp1 : p1 = k0_pay63 (F := Ideal) k0 x) (hp2 : p2 = k0_pay64 (F := Ideal) k0 x) (hp3 : p3 = k0_pay65 (F := Ideal) k0 x)
    (hq1 : q1 = k0_pay76 (F := Ideal) k1 (parity k0 k1) p1 p2 p3)
    (hq2 : q2 = k0_pay77 (F := Ideal) k1 (parity k0 k1) p1 p2 p3)
    (hq3 : q3 = k0_pay78 (F := Ideal) k1 (parity k0 k1) p1 p2 p3)
    (hr1 : r1 = k0_pay89 (F := Ideal) k0 k1 (parity k0 k1) q1 q2 q3 k0_pay79)
    (hr2 : r2 = k0_pay90 (F := Ideal) k0 k1 (parity k0 k1) q1 q2 q3 k0_pay79)
    (hr3 : r3 = k0_pay91 (F := Ideal) k0 k1 (parity k0 k1) q1 q2 q3 k0_pay79)
    (hs1 : s1 = k0_pay102 (F := Ideal) k1 (parity k0 k1) r1 r2 r3)
    (hs2 : s2 = k0_pay103 (F := Ideal) k1 (parity k0 k1) r1 r2 r3)
    (hs3 : s3 = k0_pay104 (F := Ideal) k1 (parity k0 k1) r1 r2 r3) :
    k0_pay106 (F := Ideal) h lp k0 (parity k0 k1) s1 s2 s3 k0_pay105
      = earliest h (fun i => FloatOps.addf (lp i) (noise (draw k0 k1 (n i)))) := by
  have key : ∀ i, s1 i = (b4 k0 k1 (b3 k0 k1 (b2 k0 k1 (b1 k0 k1 (n i))))).2 ∧
      s2 i = (b4 k0 k1 (b3 k0 k1 (b2 k0 k1 (b1 k0 k1 (n i))))).1 + (b4 k0 k1 (b3 k0 k1 (b2 k0 k1 (b1 k0 k1 (n i))))).2 ∧
      s3 i = (b4 k0 k1 (b3 k0 k1 (b2 k0 k1 (b1 k0 k1 (n i))))).2 <<< 26#32 := by
    intro i
    obtain ⟨e1, e2, e3⟩ := second1 i k0 k1 x (n i) (hc i)
    rw [← hp1] at e1; rw [← hp2] at e2; rw [← hp3] at e3
    obtain ⟨f1, f2, f3⟩ := second2 i k0 k1 p1 p2 p3 _ e1 e2 e3
    rw [← hq1] at f1; rw [← hq2] at f2; rw [← hq3] at f3
    obtain ⟨g1, g2, g3⟩ := second3 i k0 k1 q1 q2 q3 _ f1 f2 f3
    rw [← hr1] at g1; rw [← hr2] at g2; rw [← hr3] at g3
    obtain ⟨d1, d2, d3⟩ := second4 i k0 k1 r1 r2 r3 _ g1 g2 g3
    rw [← hs1] at d1; rw [← hs2] at d2; rw [← hs3] at d3
    exact ⟨d1, d2, d3⟩
  rw [second5 k0 k1 s1 s2 s3 h lp _ (fun i => (key i).1) (fun i => (key i).2.1) (fun i => (key i).2.2)]
  simp only [draw_of_second]

/-- The rounds of the third draw, chained. -/
theorem third_draw {x p1 p2 q1 q2 r1 r2 s1 s2 : IVec S8x256x128 32}
    (hc : ∀ i, x i + 67108864#32 = n i + k1)
    (hp1 : p1 = k0_pay107 x) (hp2 : p2 = k0_pay108 (F := Ideal) k0 x)
    (hq1 : q1 = k0_pay118 (F := Ideal) k1 p1 (parity k0 k1) p2) (hq2 : q2 = k0_pay119 (F := Ideal) k1 p1 (parity k0 k1) p2)
    (hr1 : r1 = k0_pay130 (F := Ideal) k0 (parity k0 k1) q1 q2) (hr2 : r2 = k0_pay131 (F := Ideal) k0 (parity k0 k1) q1 q2)
    (hs1 : s1 = k0_pay141 (F := Ideal) k0 k1 (parity k0 k1) r1 r2)
    (hs2 : s2 = k0_pay142 (F := Ideal) k0 k1 (parity k0 k1) r1 r2) :
    k0_pay143 (F := Ideal) lp k0 (parity k0 k1) s1 s2 = fun i => FloatOps.addf (lp i) (noise (draw k0 k1 (n i))) := by
  have key : ∀ i, s1 i = (c3 k0 k1 (c2 k0 k1 (c1 k0 k1 (0#32 + k0, n i + k1)))).1 ∧
      s2 i = (c3 k0 k1 (c2 k0 k1 (c1 k0 k1 (0#32 + k0, n i + k1)))).2 := by
    intro i
    obtain ⟨e1, e2⟩ := third0 i k0 k1 x (n i) (hc i)
    rw [← hp1] at e1; rw [← hp2] at e2
    obtain ⟨f1, f2⟩ := third1 i k0 k1 p1 p2 (0#32 + k0, n i + k1) e1 e2
    rw [← hq1] at f1; rw [← hq2] at f2
    obtain ⟨g1, g2⟩ := third2 i k0 k1 q1 q2 _ f1 f2
    rw [← hr1] at g1; rw [← hr2] at g2
    obtain ⟨d1, d2⟩ := third3 i k0 k1 r1 r2 _ g1 g2
    rw [← hs1] at d1; rw [← hs2] at d2
    exact ⟨d1, d2⟩
  rw [third4 k0 k1 s1 s2 lp _ (fun i => (key i).1) (fun i => (key i).2)]
  simp only [draw_of_third]

/-- The counters of the three draws. -/
theorem counter_at (t : ℕ) (b : Fin 8) (r : Fin 256) (l : Fin 128) :
    k0_pay12 (F := Ideal) (BitVec.ofNat 32 t) k0_pay8 k1 (ix3 b r l)
      = BitVec.ofNat 32 ((8 * t + b.val) * 32768 + (128 * r.val + l.val)) + k1 := by
  have e : ∀ (a : Word) (h : IVec S8x256x128 32), k0_pay12 (F := Ideal) a h k1 (ix3 b r l)
      = (a * 8#32 + BitVec.ofNat 32 b.val) * 32768#32 + h (ix3 b r l) + k1 := by
    intro a h
    pointwise [k0_pay12]
    rfl
  rw [e, place_at]
  congr 1
  apply BitVec.eq_of_toNat_eq
  simp only [BitVec.toNat_add, BitVec.toNat_mul, BitVec.toNat_ofNat]
  omega

/-- What the kernel stores for a row, from the four places. -/
theorem answer_at (best s0 s1 : IVec S8 32) (v : FVec Ideal S8x256x128 .f32) (b : Fin 8) :
    k0_pay1 (F := Ideal) k0_pay8 best s0 s1 v (shapeCast S8x1x1
      (multiReduction .maximumf [1, 2] S8 v 0xFF800000#32 reduces_S8x256x128_S8 (.inl rfl) rfl) shapeCasts_S8_S8x1x1)
      (ix3 0 0 b)
    = if s0 (ix1 b) = best (ix1 b) then s0 (ix1 b) else if s1 (ix1 b) = best (ix1 b) then s1 (ix1 b)
      else earliest k0_pay8 v (ix1 b) := by
  show shapeCast S1x1x8 (select (cmpi .eq s0 best) s0 (select (cmpi .eq s1 best) s1 (earliest k0_pay8 v))) shapeCasts_S8_S1x1x8 (ix3 0 0 b) = _
  generalize earliest k0_pay8 v = y
  pointwise
  have e : ∀ p q u w : Word, Scalar.select (IntOp.cmpi .eq p q) u w = if p = q then u else w := by
    intro p q u w
    by_cases hpq : p = q
    · simp [Scalar.select, IntOp.cmpi, hpq]
    · simp [Scalar.select, IntOp.cmpi, hpq, beq_false_of_ne hpq]
  rw [e, e]

end Cert.KernelIdeal.Draws

end
-- ==== Proof.KernelBlock.lean ====
module

public import proofs.«01_k».proof.Proof.KernelDraws
public import proofs.«01_k».proof.Proof.Gen.KernelIdeal.Frame

@[expose] public section

set_option maxRecDepth 16384
set_option maxHeartbeats 4000000

/-!
# What one grid step of the kernel stores

At every grid step, for each of its eight rows, the kernel stores the place that `pick` names.
-/

noncomputable section

namespace Cert.KernelIdeal.Block

open Idealize.ShloMosaic Cert.KernelIdeal Cert.KernelIdeal.Gen Sampler Bits First Draws Scores

/-- Words of places are equal exactly when the places are. -/
theorem word_eq_iff {p q : ℕ} (hp : p < 32768) (hq : q < 32768) : BitVec.ofNat 32 p = BitVec.ofNat 32 q ↔ p = q := by
  refine ⟨fun h => ?_, fun h => by rw [h]⟩
  have := congrArg BitVec.toNat h
  simp only [BitVec.toNat_ofNat] at this
  omega

/-- Loads from the origin of a block. -/
theorem zero3 : (![0, 0, 0] : Fin 3 → ℕ) = fun _ => 0 := by decide

theorem zero2 : (![0, 0] : Fin 2 → ℕ) = fun _ => 0 := by decide

/-- Moving a counter past a subtraction. -/
theorem shift (p q r : Word) : p + r = p - q + r + q := by
  rw [BitVec.add_assoc, BitVec.add_comm r q, ← BitVec.add_assoc, BitVec.sub_add_cancel]

/-- The first tallest place is a place. -/
theorem first_lt (v : ℕ → EReal) : first v < 32768 := (first_spec v).1

variable (c : Dev nD) (i : grid0.Coords) (arg1 : Memref sig .tc .smem S2 .i32) (harg1 : arg1.IsWhole)
  (arg2 : Memref sig .tc .vmem S8x256x384 .f32) (harg2 : arg2.IsWhole)
  (arg3 : Memref sig .tc .vmem S3x256x128 .bf16) (harg3 : arg3.IsWhole)
  (arg4 : Memref sig .tc .vmem S1x256x128 .f32) (harg4 : arg4.IsWhole)
  (arg5 : Memref sig .tc .vmem S384x384 .bf16) (harg5 : arg5.IsWhole)
  (x0 : Vec Ideal S2 .i32) (x1 : Vec Ideal S8x256x384 .f32) (x2 : Vec Ideal S3x256x128 .bf16)
  (x3 : Vec Ideal S1x256x128 .f32) (x4 : Vec Ideal S384x384 .bf16)

/-- The two words of the key, as the body reads them, -/
theorem key0 : kernelRun0_A.sl.r_8 (F := Ideal) c arg1 harg1 x0 = x0 (ix1 0) := by
  unfold kernelRun0_A.sl.r_8
  rw [View.readAt_eq_ld, harg1.read_unread]
  refine congrArg x0 ?_
  funext a
  exact Fin.ext (by revert a; decide)

/-- the second one, -/
theorem key1 : kernelRun0_A.sl.r_9 (F := Ideal) c arg1 harg1 x0 = x0 (ix1 1) := by
  unfold kernelRun0_A.sl.r_9
  rw [View.readAt_eq_ld, harg1.read_unread]
  refine congrArg x0 ?_
  funext a
  exact Fin.ext (by revert a; decide)

/-- and the word derived from both. -/
theorem parity_eq : kernelRun0_A.sl.v168 (F := Ideal) c arg1 harg1 x0 = parity (x0 (ix1 0)) (x0 (ix1 1)) := by
  have e : kernelRun0_A.sl.v168 (F := Ideal) c arg1 harg1 x0
      = parity (kernelRun0_A.sl.r_8 (F := Ideal) c arg1 harg1 x0) (kernelRun0_A.sl.r_9 (F := Ideal) c arg1 harg1 x0) := rfl
  rw [e, key0, key1]

/-- The block's logits, from the blocks of the arguments. -/
theorem logits : kernelRun0_A.sl.r (F := Ideal) c arg2 harg2 arg3 harg3 arg4 harg4 arg5 harg5 x1 x2 x3 x4
    = k0_pay2 (F := Ideal) x1 x4 x2 x3 := by
  unfold kernelRun0_A.sl.r
  simp only [View.readAt_eq_ld, Memref.IsWhole.read_unread]
  rw [View.ld_unit_zero (S := S8x256x384) zero3, View.ld_unit_zero (S := S384x384) zero2,
    View.ld_unit_zero (S := S3x256x128) zero3, View.ld_unit_zero (S := S1x256x128) zero3]

/-- The tallest logit of each stretch. -/
theorem tallest : kernelRun0_A.sl.r_1 (F := Ideal) c arg2 harg2 arg3 harg3 arg4 harg4 arg5 harg5 x1 x2 x3 x4
    = k0_pay3 (F := Ideal) x1 x4 x2 x3 := by
  unfold kernelRun0_A.sl.r_1
  simp only [View.readAt_eq_ld, Memref.IsWhole.read_unread]
  rw [View.ld_unit_zero (S := S8x256x384) zero3, View.ld_unit_zero (S := S384x384) zero2,
    View.ld_unit_zero (S := S3x256x128) zero3, View.ld_unit_zero (S := S1x256x128) zero3]

/-- The probabilities the step works with. -/
abbrev probs : FVec Ideal S8x256x128 .f32 :=
  kernelRun0_A.sl.r_5 (F := Ideal) c arg2 harg2 arg3 harg3 arg4 harg4 arg5 harg5 x1 x2 x3 x4

/-- Their logarithms. -/
abbrev logs : FVec Ideal S8x256x128 .f32 :=
  kernelRun0_A.sl.r_6 (F := Ideal) c arg2 harg2 arg3 harg3 arg4 harg4 arg5 harg5 x1 x2 x3 x4

/-- The most probable places of the block's rows. -/
theorem best_eq : kernelRun0_A.sl.r_10 (F := Ideal) c arg2 harg2 arg3 harg3 arg4 harg4 arg5 harg5 x1 x2 x3 x4
    = earliest k0_pay8 (probs c arg2 harg2 arg3 harg3 arg4 harg4 arg5 harg5 x1 x2 x3 x4) := by
  rw [probs, kernelRun0_A.sl.r_10, kernelRun0_A.sl.r_5, kernelRun0_A.sl.r_7]
  generalize kernelRun0_A.sl.r_2 (F := Ideal) c arg2 harg2 arg3 harg3 arg4 harg4 arg5 harg5 x1 x2 x3 x4 = u
  generalize kernelRun0_A.sl.r_3 (F := Ideal) c arg2 harg2 arg3 harg3 arg4 harg4 arg5 harg5 x1 x2 x3 x4 = v
  generalize kernelRun0_A.sl.r_4 (F := Ideal) c arg2 harg2 arg3 harg3 arg4 harg4 arg5 harg5 x1 x2 x3 x4 = w
  rw [k0_pay10]
  generalize k0_pay7 (F := Ideal) u v w = y
  generalize k0_pay8 = h
  rfl

/-- The three draws, each from the noise and the log-probabilities. -/
theorem draw0_eq (n : S8x256x128.Idx → Word)
    (hc : ∀ j, k0_pay12 (F := Ideal) (BitVec.ofNat 32 (i 0).val) k0_pay8 (x0 (ix1 1)) j = n j + x0 (ix1 1)) :
    kernelRun0_A.sl.r_24 (F := Ideal) c i arg1 harg1 arg2 harg2 arg3 harg3 arg4 harg4 arg5 harg5 x0 x1 x2 x3 x4
    = earliest k0_pay8 (fun j => FloatOps.addf
        (logs c arg2 harg2 arg3 harg3 arg4 harg4 arg5 harg5 x1 x2 x3 x4 j)
        (noise (draw (x0 (ix1 0)) (x0 (ix1 1)) (n j)))) := by
  rw [kernelRun0_A.sl.r_24]
  exact first_draw (BitVec.ofNat 32 (i 0).val) (x0 (ix1 0)) (x0 (ix1 1)) k0_pay8 _ n
    (p1 := kernelRun0_A.sl.r_12 (F := Ideal) c i arg1 harg1 x0) (p2 := kernelRun0_A.sl.r_13 (F := Ideal) c i arg1 harg1 x0)
    (p3 := kernelRun0_A.sl.r_14 (F := Ideal) c i arg1 harg1 x0) (q1 := kernelRun0_A.sl.r_15 (F := Ideal) c i arg1 harg1 x0)
    (q2 := kernelRun0_A.sl.r_16 (F := Ideal) c i arg1 harg1 x0) (q3 := kernelRun0_A.sl.r_17 (F := Ideal) c i arg1 harg1 x0)
    (r1 := kernelRun0_A.sl.r_18 (F := Ideal) c i arg1 harg1 x0) (r2 := kernelRun0_A.sl.r_19 (F := Ideal) c i arg1 harg1 x0)
    (r3 := kernelRun0_A.sl.r_20 (F := Ideal) c i arg1 harg1 x0) hc
    (by rw [kernelRun0_A.sl.r_12, key0, key1]) (by rw [kernelRun0_A.sl.r_13, key0, key1])
    (by rw [kernelRun0_A.sl.r_14, key0, key1]) (by rw [kernelRun0_A.sl.r_15, key0, key1, parity_eq])
    (by rw [kernelRun0_A.sl.r_16, key0, key1, parity_eq]) (by rw [kernelRun0_A.sl.r_17, key0, key1, parity_eq])
    (by rw [kernelRun0_A.sl.r_18, key0, key1]) (by rw [kernelRun0_A.sl.r_19, key0, key1])
    (by rw [kernelRun0_A.sl.r_20, key0, key1]) (by rw [kernelRun0_A.sl.r_21, key1, parity_eq])
    (by rw [kernelRun0_A.sl.r_22, key1, parity_eq]) (by rw [kernelRun0_A.sl.r_23, key0])

theorem draw1_eq (n : S8x256x128.Idx → Word)
    (hc : ∀ j, k0_pay12 (F := Ideal) (BitVec.ofNat 32 (i 0).val) k0_pay8 (x0 (ix1 1)) j + 33554432#32 = n j + x0 (ix1 1)) :
    kernelRun0_A.sl.r_37 (F := Ideal) c i arg1 harg1 arg2 harg2 arg3 harg3 arg4 harg4 arg5 harg5 x0 x1 x2 x3 x4
    = earliest k0_pay8 (fun j => FloatOps.addf
        (logs c arg2 harg2 arg3 harg3 arg4 harg4 arg5 harg5 x1 x2 x3 x4 j)
        (noise (draw (x0 (ix1 0)) (x0 (ix1 1)) (n j)))) := by
  rw [kernelRun0_A.sl.r_37, key0, parity_eq]
  refine second_draw (x0 (ix1 0)) (x0 (ix1 1)) k0_pay8 _ n
    (x := kernelRun0_A.sl.r_11 (F := Ideal) c i arg1 harg1 x0)
    (p1 := kernelRun0_A.sl.r_25 (F := Ideal) c i arg1 harg1 x0) (p2 := kernelRun0_A.sl.r_26 (F := Ideal) c i arg1 harg1 x0)
    (p3 := kernelRun0_A.sl.r_27 (F := Ideal) c i arg1 harg1 x0) (q1 := kernelRun0_A.sl.r_28 (F := Ideal) c i arg1 harg1 x0)
    (q2 := kernelRun0_A.sl.r_29 (F := Ideal) c i arg1 harg1 x0) (q3 := kernelRun0_A.sl.r_30 (F := Ideal) c i arg1 harg1 x0)
    (r1 := kernelRun0_A.sl.r_31 (F := Ideal) c i arg1 harg1 x0) (r2 := kernelRun0_A.sl.r_32 (F := Ideal) c i arg1 harg1 x0)
    (r3 := kernelRun0_A.sl.r_33 (F := Ideal) c i arg1 harg1 x0) ?_
    (by rw [kernelRun0_A.sl.r_25, key0]) (by rw [kernelRun0_A.sl.r_26, key0])
    (by rw [kernelRun0_A.sl.r_27, key0]) (by rw [kernelRun0_A.sl.r_28, key1, parity_eq])
    (by rw [kernelRun0_A.sl.r_29, key1, parity_eq]) (by rw [kernelRun0_A.sl.r_30, key1, parity_eq])
    (by rw [kernelRun0_A.sl.r_31, key0, key1, parity_eq]) (by rw [kernelRun0_A.sl.r_32, key0, key1, parity_eq])
    (by rw [kernelRun0_A.sl.r_33, key0, key1, parity_eq]) (by rw [kernelRun0_A.sl.r_34, key1, parity_eq])
    (by rw [kernelRun0_A.sl.r_35, key1, parity_eq]) (by rw [kernelRun0_A.sl.r_36, key1, parity_eq])
  rw [kernelRun0_A.sl.r_11, key1]
  exact hc

theorem draw2_eq (n : S8x256x128.Idx → Word)
    (hc : ∀ j, k0_pay12 (F := Ideal) (BitVec.ofNat 32 (i 0).val) k0_pay8 (x0 (ix1 1)) j + 67108864#32 = n j + x0 (ix1 1)) :
    kernelRun0_A.sl.r_46 (F := Ideal) c i arg1 harg1 arg2 harg2 arg3 harg3 arg4 harg4 arg5 harg5 x0 x1 x2 x3 x4
    = fun j => FloatOps.addf
        (logs c arg2 harg2 arg3 harg3 arg4 harg4 arg5 harg5 x1 x2 x3 x4 j)
        (noise (draw (x0 (ix1 0)) (x0 (ix1 1)) (n j))) := by
  rw [kernelRun0_A.sl.r_46, key0, parity_eq]
  refine third_draw (x0 (ix1 0)) (x0 (ix1 1)) _ n
    (x := kernelRun0_A.sl.r_11 (F := Ideal) c i arg1 harg1 x0)
    (p1 := kernelRun0_A.sl.r_38 (F := Ideal) c i arg1 harg1 x0) (p2 := kernelRun0_A.sl.r_39 (F := Ideal) c i arg1 harg1 x0)
    (q1 := kernelRun0_A.sl.r_40 (F := Ideal) c i arg1 harg1 x0) (q2 := kernelRun0_A.sl.r_41 (F := Ideal) c i arg1 harg1 x0)
    (r1 := kernelRun0_A.sl.r_42 (F := Ideal) c i arg1 harg1 x0) (r2 := kernelRun0_A.sl.r_43 (F := Ideal) c i arg1 harg1 x0) ?_
    (by rw [kernelRun0_A.sl.r_38]) (by rw [kernelRun0_A.sl.r_39, key0])
    (by rw [kernelRun0_A.sl.r_40, key1, parity_eq]) (by rw [kernelRun0_A.sl.r_41, key1, parity_eq])
    (by rw [kernelRun0_A.sl.r_42, key0, parity_eq]) (by rw [kernelRun0_A.sl.r_43, key0, parity_eq])
    (by rw [kernelRun0_A.sl.r_44, key0, key1, parity_eq]) (by rw [kernelRun0_A.sl.r_45, key0, key1, parity_eq])
  rw [kernelRun0_A.sl.r_11, key1]
  exact hc

section

variable (t : ℕ) (hi : (i 0).val = t) (X : ℕ → EReal) (W : ℕ → ℕ → EReal) (B : ℕ → EReal) (b : Fin 8)
  (ht : ∀ j k : Fin 384, x4 (ix2 j k) = if j.val = 3 * (k.val % 128) + k.val / 128 then (1 : EReal) else 0)
  (hx : ∀ (r : Fin 256) (q : Fin 384), x1 (ix3 b r q) = X (384 * r.val + q.val))
  (hw : ∀ (k : Fin 3) (r : Fin 256) (l : Fin 128), x2 (ix3 k r l) = W (stretch (128 * r.val + l.val)) k.val)
  (hb : ∀ (r : Fin 256) (l : Fin 128), x3 (ix3 0 r l) = B (stretch (128 * r.val + l.val)))

include ht hx hw hb

/-- A probability of the block, -/
theorem probs_at (r : Fin 256) (l : Fin 128) :
    probs c arg2 harg2 arg3 harg3 arg4 harg4 arg5 harg5 x1 x2 x3 x4 (ix3 b r l) = prob (logit X W B) (128 * r.val + l.val) := by
  have hv := logit_at x1 x4 x2 x3 ht X W B b hx hw hb
  have hm : k0_pay3 (F := Ideal) x1 x4 x2 x3 (ix1 b) = (Finset.range 8704).sup (logit X W B) := by
    rw [k0_pay3]
    exact max_at b _ _ hv
  rw [probs, kernelRun0_A.sl.r_5, kernelRun0_A.sl.r_2, kernelRun0_A.sl.r_3, kernelRun0_A.sl.r_4, logits, tallest]
  exact prob_at b _ _ hv _ hm r l

/-- and its logarithm. -/
theorem logs_at (r : Fin 256) (l : Fin 128) :
    logs c arg2 harg2 arg3 harg3 arg4 harg4 arg5 harg5 x1 x2 x3 x4 (ix3 b r l)
      = Ideal.log (prob (logit X W B) (128 * r.val + l.val)) := by
  rw [← probs_at c arg2 harg2 arg3 harg3 arg4 harg4 arg5 harg5 x1 x2 x3 x4 X W B b ht hx hw hb r l, logs, probs,
    kernelRun0_A.sl.r_6, kernelRun0_A.sl.r_5, k0_pay9]
  rfl

include hi

/-- What a grid step stores for its row `b`. -/
theorem stored_at : k0_pay1 (F := Ideal) k0_pay8
      (kernelRun0_A.sl.r_10 (F := Ideal) c arg2 harg2 arg3 harg3 arg4 harg4 arg5 harg5 x1 x2 x3 x4)
      (kernelRun0_A.sl.r_24 (F := Ideal) c i arg1 harg1 arg2 harg2 arg3 harg3 arg4 harg4 arg5 harg5 x0 x1 x2 x3 x4)
      (kernelRun0_A.sl.r_37 (F := Ideal) c i arg1 harg1 arg2 harg2 arg3 harg3 arg4 harg4 arg5 harg5 x0 x1 x2 x3 x4)
      (kernelRun0_A.sl.r_46 (F := Ideal) c i arg1 harg1 arg2 harg2 arg3 harg3 arg4 harg4 arg5 harg5 x0 x1 x2 x3 x4)
      (kernelRun0_A.sl.r_47 (F := Ideal) c i arg1 harg1 arg2 harg2 arg3 harg3 arg4 harg4 arg5 harg5 x0 x1 x2 x3 x4)
      (ix3 0 0 b)
    = BitVec.ofNat 32 (pick (prob (logit X W B)) (x0 (ix1 0)) (x0 (ix1 1)) (8 * t + b.val)) := by
  have hp := probs_at c arg2 harg2 arg3 harg3 arg4 harg4 arg5 harg5 x1 x2 x3 x4 X W B b ht hx hw hb
  have hl := logs_at c arg2 harg2 arg3 harg3 arg4 harg4 arg5 harg5 x1 x2 x3 x4 X W B b ht hx hw hb
  have h47 : kernelRun0_A.sl.r_47 (F := Ideal) c i arg1 harg1 arg2 harg2 arg3 harg3 arg4 harg4 arg5 harg5 x0 x1 x2 x3 x4
      = shapeCast S8x1x1 (multiReduction .maximumf [1, 2] S8
          (kernelRun0_A.sl.r_46 (F := Ideal) c i arg1 harg1 arg2 harg2 arg3 harg3 arg4 harg4 arg5 harg5 x0 x1 x2 x3 x4)
          0xFF800000#32 reduces_S8x256x128_S8 (.inl rfl) rfl) shapeCasts_S8_S8x1x1 := by
    rw [kernelRun0_A.sl.r_47, kernelRun0_A.sl.r_46, k0_pay144]
  -- the counters, as functions of the index
  have hn : ∀ (e : ℕ) (r : Fin 256) (l : Fin 128),
      k0_pay12 (F := Ideal) (BitVec.ofNat 32 (i 0).val) k0_pay8 (x0 (ix1 1)) (ix3 b r l) - x0 (ix1 1) + BitVec.ofNat 32 (e * 33554432)
      = BitVec.ofNat 32 (e * 33554432 + (8 * t + b.val) * 32768 + (128 * r.val + l.val)) := by
    intro e r l
    rw [hi, counter_at, BitVec.add_sub_cancel]
    rw [Nat.add_assoc, BitVec.ofNat_add (e * 33554432), BitVec.add_comm]
  have places : ∀ e : ℕ, earliest k0_pay8 (fun j => FloatOps.addf
        (logs c arg2 harg2 arg3 harg3 arg4 harg4 arg5 harg5 x1 x2 x3 x4 j)
        (noise (draw (x0 (ix1 0)) (x0 (ix1 1))
          (k0_pay12 (F := Ideal) (BitVec.ofNat 32 (i 0).val) k0_pay8 (x0 (ix1 1)) j - x0 (ix1 1) + BitVec.ofNat 32 (e * 33554432)))))
        (ix1 b)
      = BitVec.ofNat 32 (first (score (prob (logit X W B)) (x0 (ix1 0)) (x0 (ix1 1)) e (8 * t + b.val))) := by
    intro e
    refine earliest_at b _ _ fun r l => ?_
    beta_reduce
    rw [hn e r l, hl r l, score]
    rfl
  have v0 := (congrFun (draw0_eq c i arg1 harg1 arg2 harg2 arg3 harg3 arg4 harg4 arg5 harg5 x0 x1 x2 x3 x4
    (fun j => k0_pay12 (F := Ideal) (BitVec.ofNat 32 (i 0).val) k0_pay8 (x0 (ix1 1)) j - x0 (ix1 1)
      + BitVec.ofNat 32 (0 * 33554432)) (fun j => by rw [← shift, Nat.zero_mul, BitVec.add_zero])) (ix1 b)).trans (places 0)
  have v1 := (congrFun (draw1_eq c i arg1 harg1 arg2 harg2 arg3 harg3 arg4 harg4 arg5 harg5 x0 x1 x2 x3 x4
    (fun j => k0_pay12 (F := Ideal) (BitVec.ofNat 32 (i 0).val) k0_pay8 (x0 (ix1 1)) j - x0 (ix1 1)
      + BitVec.ofNat 32 (1 * 33554432)) (fun j => by rw [← shift])) (ix1 b)).trans (places 1)
  have v2 := (congrArg (fun v => earliest k0_pay8 v (ix1 b))
    (draw2_eq c i arg1 harg1 arg2 harg2 arg3 harg3 arg4 harg4 arg5 harg5 x0 x1 x2 x3 x4
    (fun j => k0_pay12 (F := Ideal) (BitVec.ofNat 32 (i 0).val) k0_pay8 (x0 (ix1 1)) j - x0 (ix1 1)
      + BitVec.ofNat 32 (2 * 33554432)) (fun j => by rw [← shift]))).trans (places 2)
  rw [h47, answer_at, best_eq, earliest_at b _ _ hp, v0, v1, pick]
  beta_reduce at v2
  rw [v2]
  simp only [word_eq_iff (first_lt _) (first_lt _)]
  split_ifs <;> rfl

end

/-- The block a grid step leaves, at its row `b`. -/
theorem block_at (arg6 : Memref sig .tc .vmem S1x1x8 .i32) (harg6 : arg6.IsWhole)
    (t : ℕ) (hi : (i 0).val = t) (X : ℕ → EReal) (W : ℕ → ℕ → EReal) (B : ℕ → EReal) (b : Fin 8)
    (ht : ∀ j k : Fin 384, x4 (ix2 j k) = if j.val = 3 * (k.val % 128) + k.val / 128 then (1 : EReal) else 0)
    (hx : ∀ (r : Fin 256) (q : Fin 384), x1 (ix3 b r q) = X (384 * r.val + q.val))
    (hw : ∀ (k : Fin 3) (r : Fin 256) (l : Fin 128), x2 (ix3 k r l) = W (stretch (128 * r.val + l.val)) k.val)
    (hb : ∀ (r : Fin 256) (l : Fin 128), x3 (ix3 0 r l) = B (stretch (128 * r.val + l.val))) :
    out0_A_5 (F := Ideal) c i arg1 harg1 arg2 harg2 arg3 harg3 arg4 harg4 arg5 harg5 arg6 harg6 x0 x1 x2 x3 x4 (ix3 0 0 b)
      = BitVec.ofNat 32 (pick (prob (logit X W B)) (x0 (ix1 0)) (x0 (ix1 1)) (8 * t + b.val)) := by
  rw [← stored_at c i arg1 harg1 arg2 harg2 arg3 harg3 arg4 harg4 arg5 harg5 x0 x1 x2 x3 x4 t hi X W B b ht hx hw hb,
    out0_A_5, View.read_writes_junk_eq_canon]
  delta kernelRun0_A
  simp only []
  rw [View.canon_unit_zero (S := S1x1x8) zero3]

end Cert.KernelIdeal.Block

end
-- ==== Proof.KernelLine.lean ====
/-
  The operations before the kernel's region as straight lines: the equations between the buffers they write.
-/
module

public import proofs.«01_k».proof.Proof.Gen.KernelIdeal.Frame.Runs
public import proofs.«01_k».proof.Proof.Lines
public import Idealize.ShloMosaic.PureOps.Ideal

@[expose] public section

set_option maxRecDepth 16384
set_option maxHeartbeats 4000000

noncomputable section

namespace Cert.KernelIdeal.Line

open Idealize.ShloMosaic Idealize.ShloMosaic.StableHlo Idealize.SL.Sem Lines Cert.KernelIdeal Cert.KernelIdeal.Gen

variable {F : FTy → Type} [FloatOps F]

/-- The program's labels. -/
abbrev Calls : Labels := Pipeline.Sig Λ₀ (Fin 1) fun p => (pcfgs (F := Ideal) p).Adm

/-- The table, the weights and the biases laid out for the kernel, and the seed's two words. -/
noncomputable def layout : Sys (hostOps0 (F := F)) := by
  delta hostOps0
  repeat (first
    | with_reducible refine Sys.unary nD Calls ?_ | with_reducible refine Sys.reshape nD Calls ?_
    | with_reducible refine Sys.nary nD Calls ?_ | with_reducible refine Sys.nullary nD Calls ?_
    | with_reducible refine Sys.binary nD Calls ?_ | with_reducible exact Sys.nil)

/-- The seed split in two. -/
noncomputable def seed : Sys (hostOps0_1 (F := F)) := by
  delta hostOps0_1
  repeat (first
    | with_reducible refine Sys.binaryT nD Calls ?_ | with_reducible refine Sys.unaryT nD Calls ?_
    | with_reducible refine Sys.nullaryT nD Calls ?_ | with_reducible refine Sys.reshapeT nD Calls ?_
    | with_reducible exact Sys.nil)

/-- Its second half. -/
noncomputable def half : Sys (hostOps0_2 (F := F)) := by
  delta hostOps0_2
  repeat (first
    | with_reducible refine Sys.unary nD Calls ?_ | with_reducible refine Sys.reshape nD Calls ?_
    | with_reducible exact Sys.nil)

/-- All of it. -/
noncomputable def all : Sys (List.flatten [hostOps0 (F := F), hostOps0_1, hostOps0_2]) :=
  layout.append (seed.append (half.append .nil))

/-- The buffers are written in increasing order. -/
theorem increasing_all : increasing 3 (all (F := Ideal)).refs = true := by decide +kernel

variable (m : (ℓ : Loc nD τ sig) → Buf (Elt Ideal) ℓ) (c : Dev nD)

/-- Every equation holds of what the region finds. -/
theorem holds : (all (F := Ideal)).holds (V0 m c) :=
  all.holds_of _ (all.line.fixed 3 _ increasing_all)

/-- A buffer numbered below the first result keeps its launch contents. -/
theorem kept (r : Ref sig .tc) (h : Lines.key r < 3) : V0 m c (Proc.devRef .tc r) = m (c, Proc.devRef .tc r) :=
  all.line.keeps 3 _ increasing_all r h

end Cert.KernelIdeal.Line

end
-- ==== Proof.Comb.lean ====
module

public import proofs.«01_k».proof.KernelIdeal
public import Mathlib.Tactic.IntervalCases

@[expose] public section

set_option maxRecDepth 100000

/-!
# The table that parts a row into its three channels

The kernel multiplies each row of 384 numbers by a constant 384 by 384 table of zeros and ones. Here the table's
entries are told by a formula: the entry in row `j` and column `k` is one exactly when
`j = 3 * (k % 128) + k / 128`.
-/

noncomputable section

namespace Cert.KernelIdeal.Comb

/-- The entry numbered `i` in row-major order, by the formula. -/
def entry (i : ℕ) : BitVec 16 :=
  bif Nat.beq (i / 384) (3 * (i % 384 % 128) + i % 384 / 128) then 0x3F80#16 else 0x0000#16

/-- A function told by its first 128 values, and zero from there. -/
noncomputable abbrev upTo128 (f : ℕ → BitVec 16) (x : ℕ) : BitVec 16 := match x with
  | 0 => f 0 | 1 => f 1 | 2 => f 2 | 3 => f 3 | 4 => f 4 | 5 => f 5 | 6 => f 6 | 7 => f 7
  | 8 => f 8 | 9 => f 9 | 10 => f 10 | 11 => f 11 | 12 => f 12 | 13 => f 13 | 14 => f 14 | 15 => f 15
  | 16 => f 16 | 17 => f 17 | 18 => f 18 | 19 => f 19 | 20 => f 20 | 21 => f 21 | 22 => f 22 | 23 => f 23
  | 24 => f 24 | 25 => f 25 | 26 => f 26 | 27 => f 27 | 28 => f 28 | 29 => f 29 | 30 => f 30 | 31 => f 31
  | 32 => f 32 | 33 => f 33 | 34 => f 34 | 35 => f 35 | 36 => f 36 | 37 => f 37 | 38 => f 38 | 39 => f 39
  | 40 => f 40 | 41 => f 41 | 42 => f 42 | 43 => f 43 | 44 => f 44 | 45 => f 45 | 46 => f 46 | 47 => f 47
  | 48 => f 48 | 49 => f 49 | 50 => f 50 | 51 => f 51 | 52 => f 52 | 53 => f 53 | 54 => f 54 | 55 => f 55
  | 56 => f 56 | 57 => f 57 | 58 => f 58 | 59 => f 59 | 60 => f 60 | 61 => f 61 | 62 => f 62 | 63 => f 63
  | 64 => f 64 | 65 => f 65 | 66 => f 66 | 67 => f 67 | 68 => f 68 | 69 => f 69 | 70 => f 70 | 71 => f 71
  | 72 => f 72 | 73 => f 73 | 74 => f 74 | 75 => f 75 | 76 => f 76 | 77 => f 77 | 78 => f 78 | 79 => f 79
  | 80 => f 80 | 81 => f 81 | 82 => f 82 | 83 => f 83 | 84 => f 84 | 85 => f 85 | 86 => f 86 | 87 => f 87
  | 88 => f 88 | 89 => f 89 | 90 => f 90 | 91 => f 91 | 92 => f 92 | 93 => f 93 | 94 => f 94 | 95 => f 95
  | 96 => f 96 | 97 => f 97 | 98 => f 98 | 99 => f 99 | 100 => f 100 | 101 => f 101 | 102 => f 102 | 103 => f 103
  | 104 => f 104 | 105 => f 105 | 106 => f 106 | 107 => f 107 | 108 => f 108 | 109 => f 109 | 110 => f 110 | 111 => f 111
  | 112 => f 112 | 113 => f 113 | 114 => f 114 | 115 => f 115 | 116 => f 116 | 117 => f 117 | 118 => f 118 | 119 => f 119
  | 120 => f 120 | 121 => f 121 | 122 => f 122 | 123 => f 123 | 124 => f 124 | 125 => f 125 | 126 => f 126 | 127 => f 127
  | _ => 0#16

/-- A function told by its first nine values, and zero from there. -/
noncomputable abbrev upTo9 (f : ℕ → BitVec 16) (x : ℕ) : BitVec 16 := match x with
  | 0 => f 0 | 1 => f 1 | 2 => f 2 | 3 => f 3 | 4 => f 4 | 5 => f 5 | 6 => f 6 | 7 => f 7 | 8 => f 8
  | _ => 0#16

/-- Below its bound the case table is the function itself: -/
theorem upTo128_eq (f : ℕ → BitVec 16) {x : ℕ} (h : x < 128) : upTo128 f x = f x := by
  interval_cases x <;> rfl

/-- and so is the table of stretches. -/
theorem upTo9_eq (f : ℕ → BitVec 16) {x : ℕ} (h : x < 9) : upTo9 f x = f x := by
  interval_cases x <;> rfl

/-- A stretch of 16384 entries, by the formula, at the index `i`. -/
abbrev stretch (a i : ℕ) : BitVec 16 :=
  upTo128 (fun b => upTo128 (fun x => entry (16384 * a + 128 * b + x)) (i % 128)) (i / 128 % 128)

end Cert.KernelIdeal.Comb

end
-- ==== Proof.CombLow.lean ====
module

public import proofs.«01_k».proof.Proof.Comb

@[expose] public section

set_option maxRecDepth 100000

/-!
# The first entries of the table

Five stretches of 16384 entries, each read off against the formula.
-/

noncomputable section

namespace Cert.KernelIdeal.Comb

set_option maxHeartbeats 0

/-- Each of the first stretches of the printed constant is the one computed. -/
theorem stretch0 (i : ℕ) : lit0t1_0 i = stretch 0 i := rfl
theorem stretch1 (i : ℕ) : lit0t1_1 i = stretch 1 i := rfl
theorem stretch2 (i : ℕ) : lit0t1_2 i = stretch 2 i := rfl
theorem stretch3 (i : ℕ) : lit0t1_3 i = stretch 3 i := rfl
theorem stretch4 (i : ℕ) : lit0t1_4 i = stretch 4 i := rfl

end Cert.KernelIdeal.Comb

end
-- ==== Proof.CombHigh.lean ====
module

public import proofs.«01_k».proof.Proof.Comb

@[expose] public section

set_option maxRecDepth 100000

/-!
# The last entries of the table

Four stretches of 16384 entries, each read off against the formula.
-/

noncomputable section

namespace Cert.KernelIdeal.Comb

set_option maxHeartbeats 0

/-- Each later stretch of the printed constant is the one computed. -/
theorem stretch5 (i : ℕ) : lit0t1_5 i = stretch 5 i := rfl
theorem stretch6 (i : ℕ) : lit0t1_6 i = stretch 6 i := rfl
theorem stretch7 (i : ℕ) : lit0t1_7 i = stretch 7 i := rfl
theorem stretch8 (i : ℕ) : lit0t1_8 i = stretch 8 i := rfl

end Cert.KernelIdeal.Comb

end
-- ==== Proof.CombTable.lean ====
module

public import proofs.«01_k».proof.Proof.CombLow
public import proofs.«01_k».proof.Proof.CombHigh

@[expose] public section

set_option maxRecDepth 100000

/-!
# The table by the formula

Every entry of the table, from the nine stretches.
-/

noncomputable section

namespace Cert.KernelIdeal.Comb

/-- The table, digit by digit, has the formula's entries. -/
theorem lit0t_digits (i : ℕ) : lit0t i = upTo9 (fun a => stretch a i) (i / 16384) := by
  have h : lit0t i = upTo9 (fun a => match a with
    | 0 => lit0t1_0 i | 1 => lit0t1_1 i | 2 => lit0t1_2 i | 3 => lit0t1_3 i | 4 => lit0t1_4 i | 5 => lit0t1_5 i
    | 6 => lit0t1_6 i | 7 => lit0t1_7 i | 8 => lit0t1_8 i | _ => 0#16) (i / 16384) := by
    with_reducible_and_instances rfl
  rw [h]
  rcases Nat.lt_or_ge (i / 16384) 9 with hi | hi
  · rw [upTo9_eq _ hi, upTo9_eq _ hi]
    generalize i / 16384 = a at hi
    interval_cases a
    exacts [stretch0 i, stretch1 i, stretch2 i, stretch3 i, stretch4 i, stretch5 i, stretch6 i, stretch7 i, stretch8 i]
  · generalize i / 16384 = a at hi
    have e : ∀ f, upTo9 f a = 0#16 := fun f => by
      obtain ⟨b, rfl⟩ : ∃ b, a = b + 9 := ⟨a - 9, by omega⟩
      rfl
    rw [e, e]

/-- The table's entry by the formula. -/
theorem lit0_eq (i : Fin 147456) :
    lit0 i = if i.val / 384 = 3 * (i.val % 384 % 128) + i.val % 384 / 128 then 0x3F80#16 else 0x0000#16 := by
  have h := i.isLt
  have e : lit0 i = entry i.val := by
    refine (lit0t_digits i.val).trans ?_
    rw [upTo9_eq _ (by omega), stretch, upTo128_eq _ (by omega), upTo128_eq _ (by omega)]
    congr 1
    omega
  rw [e, entry]
  by_cases hc : i.val / 384 = 3 * (i.val % 384 % 128) + i.val % 384 / 128
  · rw [if_pos hc, show Nat.beq (i.val / 384) (3 * (i.val % 384 % 128) + i.val % 384 / 128) = true from
      (Nat.beq_eq ..).mpr hc]; rfl
  · rw [if_neg hc, show Nat.beq (i.val / 384) (3 * (i.val % 384 % 128) + i.val % 384 / 128) = false from
      Bool.eq_false_iff.mpr fun e => hc (Nat.eq_of_beq_eq_true e)]; rfl

end Cert.KernelIdeal.Comb

end
-- ==== Proof.KernelHost.lean ====
module

public import proofs.«01_k».proof.Proof.KernelLine
public import proofs.«01_k».proof.Proof.Spec
public import proofs.«01_k».proof.Proof.CombTable
public import Idealize.ShloMosaic.Lib.Pointwise

@[expose] public section

set_option maxRecDepth 16384
set_option maxHeartbeats 4000000

noncomputable section

namespace Cert.KernelIdeal.Host

open Idealize.ShloMosaic Idealize.ShloMosaic.StableHlo Idealize.SL.Sem Lines Cert.KernelIdeal Cert.KernelIdeal.Gen Line Sampler

variable {W : Valuation τ sig (Elt Ideal)}

/-- A stretch's number as an index. -/
abbrev part (h : ℕ) : Fin 4 := Fin.ofNat 4 (stretch h)

/-- Which stretch a place lies in. -/
theorem part_eq (h : ℕ) : part h = if h < 8768 then 0 else if h < 16768 then 1 else if h < 24768 then 2 else 3 := by
  unfold part stretch
  split_ifs <;> rfl

/-- The bias laid out over the places, -/
theorem bias_at (h : (layout (F := Ideal)).holds W) (r : Fin 256) (l : Fin 128) :
    at' W main_v59 (ix3 0 r l) = at' W main_arg2 (ix2 (part (128 * r.val + l.val)) 0) := by
  obtain ⟨-, -, -, -, -, -, -, -, -, -, -, -, -, -, -, -, -, -, -, -, -, -, -, -, -, -, -, -, -, -, -, -, -, -, -, -,
    -, -, -, -, -, -, -, -, -, -, -, e46, e47, e48, e49, e50, e51, e52, e53, e54, e55, e56, e57, e58, e59, -⟩ := h
  dsimp only [Block.unary, Block.reshape, Block.nary, Block.step] at e46 e47 e48 e49 e50 e51 e52 e53 e54 e55 e56 e57 e58 e59
  have hr := r.isLt
  have hl := l.isLt
  rw [e59, e58]
  dsimp only [Matrix.cons_val]
  rw [e48, e47, e46, e51, e50, e49, e54, e53, e52, e57, e56, e55]
  generalize at' W main_arg2 = x
  pointwise
  rw [part_eq]
  split_ifs <;> first | (exfalso; omega) | rfl

/-- the weights laid out over the places, -/
theorem weight_at (h : (layout (F := Ideal)).holds W) (k : Fin 3) (r : Fin 256) (l : Fin 128) :
    at' W main_v45 (ix3 k r l) = at' W main_arg1 (ix3 (part (128 * r.val + l.val)) k 0) := by
  obtain ⟨-, -, e1, e2, e3, e4, e5, e6, e7, e8, e9, e10, e11, e12, e13, e14, e15, e16, e17, e18, e19,
    e20, e21, e22, e23, e24, e25, e26, e27, e28, e29, e30, e31, e32, e33, e34, e35, e36, e37, e38, e39,
    e40, e41, e42, e43, e44, e45, -⟩ := h
  dsimp only [Block.unary, Block.reshape, Block.nary, Block.step] at *
  have hr := r.isLt
  have hl := l.isLt
  rw [e45, e44]
  dsimp only [Matrix.cons_val]
  rw [e41, e42, e43, e14, e27, e40]
  dsimp only [Matrix.cons_val]
  rw [e13, e12, e11, e10, e9, e8, e7, e6, e5, e4, e3, e2, e26, e25, e24, e23, e22, e21, e20, e19, e18, e17,
    e16, e15, e39, e38, e37, e36, e35, e34, e33, e32, e31, e30, e29, e28, e1]
  generalize at' W main_arg1 = x
  match k with
  | 0 =>
    pointwise
    rw [part_eq]
    split_ifs <;> first | (exfalso; omega) | rfl
  | 1 =>
    pointwise
    rw [part_eq]
    split_ifs <;> first | (exfalso; omega) | rfl
  | 2 =>
    pointwise
    rw [part_eq]
    split_ifs <;> first | (exfalso; omega) | rfl

/-- the rows cut into 256 pieces of 384 numbers, -/
theorem row_at (h : (layout (F := Ideal)).holds W) (n : Fin 1024) (r : Fin 256) (q : Fin 384) (j : Fin 98304)
    (hj : j.val = 384 * r.val + q.val) :
    at' W main_v0 (ix3 n r q) = at' W main_arg0 (ix2 n j) := by
  obtain ⟨-, e0, -⟩ := h
  dsimp only [Block.reshape, Block.step] at e0
  rw [e0]
  generalize at' W main_arg0 = x
  pointwise
  refine congrArg x (congrArg (ix2 n) (Fin.ext ?_))
  show r.val * 384 + q.val = j.val
  omega

/-- and the selection matrix. -/
theorem table_at (h : (layout (F := Ideal)).holds W) (j k : Fin 384) :
    at' W main_cst (ix2 j k) = if j.val = 3 * (k.val % 128) + k.val / 128 then (1 : EReal) else 0 := by
  obtain ⟨e, -⟩ := h
  dsimp only [Block.nullary, Block.step] at e
  rw [e]
  refine (congrArg (FloatOps.ofBits (F := Ideal) .bf16) (Comb.lit0_eq (S384x384.rowMajor (ix2 j k)))).trans ?_
  have hv : (S384x384.rowMajor (ix2 j k)).val = j.val * 384 + k.val := Shape.rowMajor_val_two (ix2 j k)
  have hj := j.isLt
  have hk := k.isLt
  rw [hv, show (j.val * 384 + k.val) / 384 = j.val by omega, show (j.val * 384 + k.val) % 384 = k.val by omega]
  split_ifs
  · show Ideal.ofBits .bf16 0x3F80#16 = 1
    simp [Ideal.ofBits, Ideal.ieee]
    rw [← EReal.coe_mul]
    norm_num
  · show Ideal.ofBits .bf16 0x0000#16 = 0
    simp [Ideal.ofBits, Ideal.ieee]

end Cert.KernelIdeal.Host

end
-- ==== Proof.Rounds.lean ====
module

public import proofs.«01_k».proof.Proof.Threefry
public import Idealize.ShloMosaic.Lib.Pointwise

@[expose] public section

set_option maxRecDepth 16384
set_option maxHeartbeats 2000000

/-!
# The generator on arrays of any shape

A host program runs the generator on whole arrays, one operation at a time. One round, one injection and one
group of four rounds with its injection, read at an index.
-/

namespace Sampler

open Idealize.ShloMosaic

/-- The shape of a single number. -/
abbrev S0 : Shape := ⟨0, ![]⟩

variable {S : Shape} {hb : S0.BroadcastsInDim S ![]} (i : S.Idx)

/-- A number spread over an array. -/
theorem spread {p : IVec S0 32} {v : IVec S 32} {a : Word} (hp : ∀ u, p u = a) (h : v = broadcastInDim S ![] hb p) : v i = a := by
  rw [h]
  exact hp _

/-- One round, from its equations. -/
theorem round {x y v6 v7 v8 v9 v10 v11 v12 : IVec S 32} {p q : IVec S0 32} {l r : Word} {s : Word × Word}
    (hl : l.toNat < 32) (hr : r.toNat < 32)
    (e6 : v6 = addi x y) (ep : p = constantI S0 32 l) (e7 : v7 = broadcastInDim S ![] hb p) (e8 : v8 = Host.shli y v7)
    (eq : q = constantI S0 32 r) (e9 : v9 = broadcastInDim S ![] hb q) (e10 : v10 = Host.shrui y v9)
    (e11 : v11 = ori v8 v10) (e12 : v12 = xori v6 v11) (h : x i = s.1 ∧ y i = s.2) :
    v6 i = (mix l r s).1 ∧ v12 i = (mix l r s).2 := by
  have a7 := spread i (a := l) (fun u => by rw [ep]; rfl) e7
  have a9 := spread i (a := r) (fun u => by rw [eq]; rfl) e9
  have a6 : v6 i = s.1 + s.2 := by rw [e6, ← h.1, ← h.2]; rfl
  have a8 : v8 i = s.2 <<< l := by
    rw [e8]
    refine (if_pos (show (v7 i).toNat < 32 by rw [a7]; exact hl)).trans ?_
    rw [a7, h.2]
  have a10 : v10 i = s.2 >>> r := by
    rw [e10]
    refine (if_pos (show (v9 i).toNat < 32 by rw [a9]; exact hr)).trans ?_
    rw [a9, h.2]
  have a11 : v11 i = (s.2 <<< l) ||| (s.2 >>> r) := by rw [e11, ← a8, ← a10]; rfl
  refine ⟨a6, ?_⟩
  rw [e12]
  show v6 i ^^^ v11 i = _
  rw [a6, a11, mix]

/-- A key addition, from its equations. -/
theorem injected {x y v34 v35 v36 v37 v38 v39 : IVec S 32} {p q c : IVec S0 32} {a b n : Word} {s : Word × Word}
    (hp : ∀ u, p u = a) (hq : ∀ u, q u = b)
    (e34 : v34 = broadcastInDim S ![] hb p) (e35 : v35 = addi x v34) (e36 : v36 = broadcastInDim S ![] hb q)
    (e37 : v37 = addi y v36) (ec : c = constantI S0 32 n) (e38 : v38 = broadcastInDim S ![] hb c) (e39 : v39 = addi v37 v38)
    (h : x i = s.1 ∧ y i = s.2) : v35 i = (inject a b n s).1 ∧ v39 i = (inject a b n s).2 := by
  have a34 := spread i hp e34
  have a36 := spread i hq e36
  have a38 := spread i (a := n) (fun u => by rw [ec]; rfl) e38
  refine ⟨?_, ?_⟩
  · rw [e35]
    show x i + v34 i = _
    rw [a34, h.1, inject]
  · rw [e39, e37]
    show (y i + v36 i) + v38 i = _
    rw [a36, a38, h.2, inject]

/-- An odd group's rotations, in order. -/
abbrev odd : Fin 4 → Word × Word := ![(13#32, 19#32), (15#32, 17#32), (26#32, 6#32), (6#32, 26#32)]

/-- An even group's. -/
abbrev even : Fin 4 → Word × Word := ![(17#32, 15#32), (29#32, 3#32), (16#32, 16#32), (24#32, 8#32)]

/-- Four rounds with the rotations `g`. -/
def four (g : Fin 4 → Word × Word) (s : Word × Word) : Word × Word :=
  mix (g 3).1 (g 3).2 (mix (g 2).1 (g 2).2 (mix (g 1).1 (g 1).2 (mix (g 0).1 (g 0).2 s)))

/-- The two kinds of four rounds. -/
theorem four_odd (s : Word × Word) : four odd s = roundsA s := rfl

theorem four_even (s : Word × Word) : four even s = roundsB s := rfl

variable {g : Fin 4 → Word × Word} (hg : ∀ k, (g k).1.toNat < 32 ∧ (g k).2.toNat < 32)
  {x y a1 a2 a3 a4 a5 a6 a7 b1 b2 b3 b4 b5 b6 b7 d1 d2 d3 d4 d5 d6 d7 f1 f2 f3 f4 f5 f6 f7 w1 w2 w3 w4 w5 w6 : IVec S 32}
  {a8 a9 b8 b9 d8 d9 f8 f9 w8 p q : IVec S0 32} {a b n : Word} {s : Word × Word}

include hg

/-- A group: four rounds, then the injection, from the equations in the order they are printed, with whatever
    follows them. -/
theorem group (hp : ∀ u, p u = a) (hq : ∀ u, q u = b) {R : Prop} (h : x i = s.1 ∧ y i = s.2)
    (e :
      a1 = addi x y ∧ a8 = constantI S0 32 (g 0).1 ∧ a2 = broadcastInDim S ![] hb a8 ∧ a3 = Host.shli y a2 ∧
      a9 = constantI S0 32 (g 0).2 ∧ a4 = broadcastInDim S ![] hb a9 ∧ a5 = Host.shrui y a4 ∧ a6 = ori a3 a5 ∧
      a7 = xori a1 a6 ∧ b1 = addi a1 a7 ∧ b8 = constantI S0 32 (g 1).1 ∧ b2 = broadcastInDim S ![] hb b8 ∧
      b3 = Host.shli a7 b2 ∧ b9 = constantI S0 32 (g 1).2 ∧ b4 = broadcastInDim S ![] hb b9 ∧
      b5 = Host.shrui a7 b4 ∧ b6 = ori b3 b5 ∧ b7 = xori b1 b6 ∧ d1 = addi b1 b7 ∧
      d8 = constantI S0 32 (g 2).1 ∧ d2 = broadcastInDim S ![] hb d8 ∧ d3 = Host.shli b7 d2 ∧
      d9 = constantI S0 32 (g 2).2 ∧ d4 = broadcastInDim S ![] hb d9 ∧ d5 = Host.shrui b7 d4 ∧ d6 = ori d3 d5 ∧
      d7 = xori d1 d6 ∧ f1 = addi d1 d7 ∧ f8 = constantI S0 32 (g 3).1 ∧ f2 = broadcastInDim S ![] hb f8 ∧
      f3 = Host.shli d7 f2 ∧ f9 = constantI S0 32 (g 3).2 ∧ f4 = broadcastInDim S ![] hb f9 ∧
      f5 = Host.shrui d7 f4 ∧ f6 = ori f3 f5 ∧ f7 = xori f1 f6 ∧ w1 = broadcastInDim S ![] hb p ∧
      w2 = addi f1 w1 ∧ w3 = broadcastInDim S ![] hb q ∧ w4 = addi f7 w3 ∧ w8 = constantI S0 32 n ∧
      w5 = broadcastInDim S ![] hb w8 ∧ w6 = addi w4 w5 ∧ R) :
    (w2 i = (inject a b n (four g s)).1 ∧ w6 i = (inject a b n (four g s)).2) ∧ R := by
  obtain ⟨h1, h2, h3, h4, h5, h6, h7, h8, h9, i1, i2, i3, i4, i5, i6, i7, i8, i9, j1, j2, j3, j4, j5, j6, j7, j8, j9,
    k1, k2, k3, k4, k5, k6, k7, k8, k9, l1, l2, l3, l4, l5, l6, l7, rest⟩ := e
  exact ⟨injected i hp hq l1 l2 l3 l4 l5 l6 l7 <|
    round i (hg 3).1 (hg 3).2 k1 k2 k3 k4 k5 k6 k7 k8 k9 <| round i (hg 2).1 (hg 2).2 j1 j2 j3 j4 j5 j6 j7 j8 j9 <|
    round i (hg 1).1 (hg 1).2 i1 i2 i3 i4 i5 i6 i7 i8 i9 <| round i (hg 0).1 (hg 0).2 h1 h2 h3 h4 h5 h6 h7 h8 h9 h, rest⟩

omit hg in
/-- The opening of the generator: the parity word and the first key additions, from their equations. -/
theorem begun {k0 k1 z v0 v1 : IVec S0 32} {r0 r1 : Word} {a2 a3 v2 v3 v4 v5 : IVec S 32} {R : Prop}
    (hk0 : ∀ u, k0 u = r0) (hk1 : ∀ u, k1 u = r1)
    (e : v0 = xori k0 k1 ∧ z = constantI S0 32 466688986#32 ∧ v1 = xori v0 z ∧ v2 = broadcastInDim S ![] hb k0 ∧
      v3 = addi a2 v2 ∧ v4 = broadcastInDim S ![] hb k1 ∧ v5 = addi a3 v4 ∧ R) :
    (∀ u, v1 u = parity r0 r1) ∧ (v3 i = (a2 i + r0, a3 i + r1).1 ∧ v5 i = (a2 i + r0, a3 i + r1).2) ∧ R := by
  obtain ⟨e0, e1, e2, e3, e4, e5, e6, rest⟩ := e
  refine ⟨fun u => ?_, ⟨?_, ?_⟩, rest⟩
  · rw [e2, e0, e1, parity, ← hk0 u, ← hk1 u]
    rfl
  · rw [e4]
    show a2 i + v2 i = _
    rw [spread i hk0 e3]
  · rw [e6]
    show a3 i + v4 i = _
    rw [spread i hk1 e5]

end Sampler

end
-- ==== Proof.Key.lean ====
/-
  The sampling key: the second half of the seed 1, split in two.
-/
module

public import proofs.«01_k».proof.Proof.Threefry

@[expose] public section

namespace Sampler

/-- The two words of the key the draws are made with: the generator under the seed's words 0 and 1, at counter 1. -/
def secondHalf : Word × Word := threefry 0#32 1#32 0#32 1#32

end Sampler
-- ==== Proof.KernelSeed.lean ====
/-
  The key the kernel's host hands to the region.
-/
module

public import proofs.«01_k».proof.Proof.KernelLine
public import proofs.«01_k».proof.Proof.Rounds
public import proofs.«01_k».proof.Proof.Key
public import Idealize.ShloMosaic.Lib.Pointwise

@[expose] public section

set_option maxRecDepth 16384
set_option maxHeartbeats 4000000

noncomputable section

namespace Cert.KernelIdeal.Host

open Idealize.ShloMosaic Idealize.ShloMosaic.StableHlo Idealize.SL.Sem Lines Cert.KernelIdeal Cert.KernelIdeal.Gen
  Cert.KernelIdeal.Line Sampler

variable {W : Valuation τ sig (Elt Ideal)}

/-- The seed 1 as two words, the upper one first. -/
theorem seed_at (h : (layout (F := Ideal)).holds W) :
    at' W main_v66 (ix1 0) = (0#32 : Word) ∧ at' W main_v66 (ix1 1) = (1#32 : Word) := by
  obtain ⟨-, -, -, -, -, -, -, -, -, -, -, -, -, -, -, -, -, -, -, -, -, -, -, -, -, -, -, -, -, -, -, -, -, -, -, -,
    -, -, -, -, -, -, -, -, -, -, -, -, -, -, -, -, -, -, -, -, -, -, -, -, -, e60, e61, e62, e63, e64, e65, e66, e67, e68, e69, -⟩ := h
  dsimp only [Block.unary, Block.binary, Block.nullary, Block.step] at e60 e61 e62 e63 e64 e65 e66 e67 e68 e69
  rw [e69, e64, e63, e62, e68, e67, e66, e60, e61, e65]
  constructor
  · pointwise
    rfl
  · pointwise
    rfl

/-- The region's two words. -/
theorem key_at (hs : (seed (F := Ideal)).holds W) (hh : (half (F := Ideal)).holds W)
    (h0 : at' W main_v66 (ix1 0) = (0#32 : Word)) (h1 : at' W main_v66 (ix1 1) = (1#32 : Word)) :
    at' W main_v70 (ix1 0) = secondHalf.1 ∧ at' W main_v70 (ix1 1) = secondHalf.2 := by
  dsimp only [seed, id, Sys.unaryT, Sys.reshapeT, Sys.binaryT, Sys.nullaryT, Sys.cons, Sys.nil, Block.reshapeT, Block.binaryT,
    Block.unaryT, Block.nullaryT, Block.step] at hs
  obtain ⟨s0, s1, s2, s3, s4, s5, s6, s7, s8, s9, s10, s11, s12, h⟩ := hs
  obtain ⟨g0, g1, g2, -⟩ := hh
  dsimp only [Block.unary, Block.reshape, Block.step] at g0 g1 g2
  have w0 : ∀ u, get (.of main_call0_v1 : TRef sig ⟨S_, .i32⟩) W u = (0#32 : Word) := by
    intro u
    rw [s1, s0, ← h0]
    change shapeCast S_ (extractStridedSlice S1 ![0] (at' W main_v66) _) _ u = _
    generalize at' W main_v66 = x
    rw [show u = ix0 from funext fun k => k.elim0]
    pointwise
  have w1 : ∀ u, get (.of main_call0_v3 : TRef sig ⟨S_, .i32⟩) W u = (1#32 : Word) := by
    intro u
    rw [s3, s2, ← h1]
    change shapeCast S_ (extractStridedSlice S1 ![1] (at' W main_v66) _) _ u = _
    generalize at' W main_v66 = x
    rw [show u = ix0 from funext fun k => k.elim0]
    pointwise
  have c0 : get (.of main_call0_v10 : TRef sig ⟨S2, .i32⟩) W (ix1 1) = (0#32 : Word) := by
    rw [s12, s10, s7, s4, s6, s5, s9, s8]
    rfl
  have c1 : get (.of main_call0_v9 : TRef sig ⟨S2, .i32⟩) W (ix1 1) = (1#32 : Word) := by
    rw [s11, s7, s4, s6, s5]
    rfl
  obtain ⟨hP, start, h⟩ := begun (ix1 1) w0 w1 h
  obtain ⟨r1, h⟩ := group (ix1 1) (g := odd) (by decide) w1 hP start h
  obtain ⟨r2, h⟩ := group (ix1 1) (g := even) (by decide) hP w0 r1 h
  obtain ⟨r3, h⟩ := group (ix1 1) (g := odd) (by decide) w0 w1 r2 h
  obtain ⟨r4, h⟩ := group (ix1 1) (g := even) (by decide) w1 hP r3 h
  obtain ⟨⟨ra, rb⟩, t12, t13, t14, -⟩ := group (ix1 1) (g := odd) (by decide) hP w0 r4 h
  simp only [four_odd, four_even, c0, c1] at ra rb
  have t14 : at' W main_v67 = _ := t14
  rw [g2, g1, g0, t14, t12, t13]
  refine ⟨Eq.trans ?_ ra, Eq.trans ?_ rb⟩
  · change _ = get main_call0_call0.v171 W (ix1 1)
    generalize get main_call0_call0.v171 W = x
    generalize get main_call0_call0.v175 W = y
    pointwise
    rfl
  · change _ = get main_call0_call0.v175 W (ix1 1)
    generalize get main_call0_call0.v171 W = x
    generalize get main_call0_call0.v175 W = y
    pointwise
    rfl

end Cert.KernelIdeal.Host

end
-- ==== Proof.Rows.lean ====
module

public import proofs.«01_k».proof.Proof.Spec
public import Idealize.ShloMosaic.Lib.Pointwise

@[expose] public section

/-!
# The three arguments as functions of plain numbers

A row, the weights and the biases, read at a natural number; and from them each row's probabilities and its pick.
-/

noncomputable section

namespace Sampler

open Idealize.ShloMosaic

/-- The shapes of the three arguments. -/
abbrev XShape : Shape := ⟨2, ![1024, 98304]⟩
abbrev WShape : Shape := ⟨3, ![4, 3, 1]⟩
abbrev BShape : Shape := ⟨2, ![4, 1]⟩

/-- A row as a function of the place. -/
def row (x : FVec Ideal XShape .f32) (n : Fin 1024) (j : ℕ) : EReal := x (ix2 n (Fin.ofNat 98304 j))

/-- The weights as a function of stretch and component. -/
def weights (w : FVec Ideal WShape .f32) (s k : ℕ) : EReal := w (ix3 (Fin.ofNat 4 s) (Fin.ofNat 3 k) 0)

/-- The biases as a function of the stretch. -/
def bias (b : FVec Ideal BShape .f32) (s : ℕ) : EReal := b (ix2 (Fin.ofNat 4 s) 0)

/-- A row's probabilities. -/
def chances (x : FVec Ideal XShape .f32) (w : FVec Ideal WShape .f32) (b : FVec Ideal BShape .f32) (n : Fin 1024) : ℕ → EReal :=
  prob (logit (row x n) (weights w) (bias b))

/-- A row's result. -/
def result (x : FVec Ideal XShape .f32) (w : FVec Ideal WShape .f32) (b : FVec Ideal BShape .f32) (k0 k1 : Word) (n : Fin 1024) : Word :=
  BitVec.ofNat 32 (pick (chances x w b n) k0 k1 n.val)

/-- An element of a row at a computed place. -/
theorem row_eq (x : FVec Ideal XShape .f32) (n : Fin 1024) {j j' : ℕ} (hj : j' = j) (h : j < 98304) :
    x (ix2 n ⟨j, h⟩) = row x n j' := by
  subst hj
  exact congrArg x (congrArg (ix2 n) (Fin.ext (Nat.mod_eq_of_lt h).symm))

end Sampler

end
-- ==== Proof.KernelOut.lean ====
module

public import proofs.«01_k».proof.Proof.KernelBlock
public import proofs.«01_k».proof.Proof.KernelHost
public import proofs.«01_k».proof.Proof.KernelSeed
public import proofs.«01_k».proof.Proof.Rows
public import proofs.«01_k».proof.Proof.Gen.KernelIdeal.Frame

@[expose] public section

set_option maxRecDepth 16384
set_option maxHeartbeats 4000000

/-!
# The kernel's result

Each grid point writes eight rows' picks; together they are the whole result.
-/

noncomputable section

namespace Cert.KernelIdeal.Out

open Idealize.ShloMosaic Idealize.ShloMosaic.TcCoe Idealize.ShloMosaic.StableHlo Idealize.SL.Sem Lines Cert.KernelIdeal
  Cert.KernelIdeal.Gen Sampler

/-- The grid has one axis. -/
theorem coord_at : ∀ t : Fin cfg0.N, (grid0.coords t 0).val = t.val := (by decide +kernel : ∀ t : Fin grid0.N, _)

/-- Where each window's block lies. -/
theorem index0 : ∀ t : Fin cfg0.N, win0_0.index t (0 : Fin 1) = 0 := (by decide +kernel : ∀ t : Fin grid0.N, _)
theorem index1 : ∀ t : Fin cfg0.N, win0_1.index t (0 : Fin 3) = t.val ∧ win0_1.index t (1 : Fin 3) = 0 ∧ win0_1.index t (2 : Fin 3) = 0 :=
  (by decide +kernel : ∀ t : Fin grid0.N, _)
theorem index2 : ∀ t : Fin cfg0.N, win0_2.index t (0 : Fin 3) = 0 ∧ win0_2.index t (1 : Fin 3) = 0 ∧ win0_2.index t (2 : Fin 3) = 0 :=
  (by decide +kernel : ∀ t : Fin grid0.N, _)
theorem index3 : ∀ t : Fin cfg0.N, win0_3.index t (0 : Fin 3) = 0 ∧ win0_3.index t (1 : Fin 3) = 0 ∧ win0_3.index t (2 : Fin 3) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 3) = t.val ∧ win0_5.index t (1 : Fin 3) = 0 ∧ win0_5.index t (2 : Fin 3) = 0 :=
  (by decide +kernel : ∀ t : Fin grid0.N, _)

/-- The row that place `b` of point `t` stands for. -/
def line (t : Fin cfg0.N) (b : Fin 8) : Fin 1024 := ⟨8 * t.val + b.val, by
  have ht : t.val < 128 := t.isLt
  have hb := b.isLt
  omega⟩

/-- The place in its array of an element of each block. -/
theorem emb0 (t : Fin cfg0.N) (j : S2.Idx) : ((cfg0.win 0).blk t).view.emb j = j := by
  have e0 := index0 t
  funext a; apply Fin.ext
  match a with
  | ⟨0, _⟩ => show win0_0.index t (0 : Fin 1) * 2 + 1 * (j 0).val = (j 0).val; omega

theorem emb1 (t : Fin cfg0.N) (b : Fin 8) (r : Fin 256) (q : Fin 384) :
    ((cfg0.win 1).blk t).view.emb (ix3 b r q : S8x256x384.Idx) = (ix3 (line t b) r q : S1024x256x384.Idx) := by
  obtain ⟨e0, e1, e2⟩ := index1 t
  funext a; apply Fin.ext
  match a with
  | ⟨0, _⟩ => show win0_1.index t (0 : Fin 3) * 8 + 1 * b.val = 8 * t.val + b.val; omega
  | ⟨1, _⟩ => show win0_1.index t (1 : Fin 3) * 256 + 1 * r.val = r.val; omega
  | ⟨2, _⟩ => show win0_1.index t (2 : Fin 3) * 384 + 1 * q.val = q.val; omega

theorem emb2 (t : Fin cfg0.N) (j : S3x256x128.Idx) : ((cfg0.win 2).blk t).view.emb j = j := by
  obtain ⟨e0, e1, e2⟩ := index2 t
  funext a; apply Fin.ext
  match a with
  | ⟨0, _⟩ => show win0_2.index t (0 : Fin 3) * 3 + 1 * (j 0).val = (j 0).val; omega
  | ⟨1, _⟩ => show win0_2.index t (1 : Fin 3) * 256 + 1 * (j 1).val = (j 1).val; omega
  | ⟨2, _⟩ => show win0_2.index t (2 : Fin 3) * 128 + 1 * (j 2).val = (j 2).val; omega

theorem emb3 (t : Fin cfg0.N) (j : S1x256x128.Idx) : ((cfg0.win 3).blk t).view.emb j = j := by
  obtain ⟨e0, e1, e2⟩ := index3 t
  funext a; apply Fin.ext
  match a with
  | ⟨0, _⟩ => show win0_3.index t (0 : Fin 3) * 1 + 1 * (j 0).val = (j 0).val; omega
  | ⟨1, _⟩ => show win0_3.index t (1 : Fin 3) * 256 + 1 * (j 1).val = (j 1).val; omega
  | ⟨2, _⟩ => show win0_3.index t (2 : Fin 3) * 128 + 1 * (j 2).val = (j 2).val; omega

theorem emb4 (t : Fin cfg0.N) (j : S384x384.Idx) : ((cfg0.win 4).blk t).view.emb j = j := by
  obtain ⟨e0, e1⟩ := index4 t
  funext a; apply Fin.ext
  match a with
  | ⟨0, _⟩ => show win0_4.index t (0 : Fin 2) * 384 + 1 * (j 0).val = (j 0).val; omega
  | ⟨1, _⟩ => show win0_4.index t (1 : Fin 2) * 384 + 1 * (j 1).val = (j 1).val; omega

theorem emb5 (t : Fin cfg0.N) (b : Fin 8) :
    ((cfg0.win 5).blk t).view.emb (ix3 0 0 b : S1x1x8.Idx) = (ix3 (t : Fin 128) 0 b : S128x1x8.Idx) := by
  obtain ⟨e0, e1, e2⟩ := index5 t
  funext a; apply Fin.ext
  match a with
  | ⟨0, _⟩ => show win0_5.index t (0 : Fin 3) * 1 + 1 * 0 = t.val; omega
  | ⟨1, _⟩ => show win0_5.index t (1 : Fin 3) * 1 + 1 * 0 = 0; omega
  | ⟨2, _⟩ => show win0_5.index t (2 : Fin 3) * 8 + 1 * b.val = b.val; omega

variable (m : (ℓ : Loc nD τ sig) → Buf (Elt Ideal) ℓ) (c : Dev nD)

/-- What one point leaves in its place `b`. -/
theorem out_at (t : Fin cfg0.N) (b : Fin 8) :
    outsAt0 m c t (ix3 0 0 b) = result (V m c main_arg0) (V m c main_arg1) (V m c main_arg2) (V m c main_v70 (ix1 0))
      (V m c main_v70 (ix1 1)) (line t b) := by
  have h : (Line.layout (F := Ideal)).holds (V0 m c) := (Line.holds m c).1
  unfold outsAt0
  refine (Block.block_at c (grid0.coords t) _ _ _ _ _ _ _ _ _ _ _ _ _ _ _ _ _ t.val (coord_at t)
    (row (V m c main_arg0) (line t b)) (weights (V m c main_arg1)) (bias (V m c main_arg2)) b (fun j k => ?_)
    (fun r q => ?_) (fun k r l => ?_) (fun r l => ?_)).trans ?_
  · exact (congrArg (V m c main_cst) (emb4 t _)).trans (Host.table_at h j k)
  · have hr := r.isLt
    have hq := q.isLt
    refine (congrArg (V m c main_v0) (emb1 t b r q)).trans ?_
    refine (Host.row_at h (line t b) r q ⟨384 * r.val + q.val, by omega⟩ rfl).trans ?_
    exact row_eq _ _ rfl _
  · refine (congrArg (V m c main_v45) (emb2 t _)).trans ((Host.weight_at h k r l).trans ?_)
    exact congrArg (fun q => V m c main_arg1 (ix3 _ q 0)) (Fin.ext (Nat.mod_eq_of_lt k.isLt).symm)
  · exact (congrArg (V m c main_v59) (emb3 t _)).trans (Host.bias_at h r l)
  · have e : ∀ j, iblk m c 0 t j = V m c main_v70 j := fun j => congrArg (V m c main_v70) (emb0 t j)
    rw [e, e]
    rfl

/-- The whole result, point by point. -/
def picks : Vec Ideal S128x1x8 .i32 := fun j =>
  result (V m c main_arg0) (V m c main_arg1) (V m c main_arg2) (V m c main_v70 (ix1 0)) (V m c main_v70 (ix1 1)) (line (j 0) (j 2))

/-- What each grid point writes back is its part of the picks. -/
theorem flushed_at (t : Fin cfg0.N) :
    (dats m 0 c).flushed 5 t = ((cfg0.win 5).blk t).view.read (Elt Ideal) (picks m c) := by
  refine funext fun (j : S1x1x8.Idx) => ?_
  have hj : j = ix3 0 0 (j 2) := by
    funext a
    apply Fin.ext
    match a with
    | ⟨0, _⟩ => exact Nat.lt_one_iff.mp (j 0).isLt
    | ⟨1, _⟩ => exact Nat.lt_one_iff.mp (j 1).isLt
    | ⟨2, _⟩ => rfl
  rw [hj]
  refine (out_at m c t (j 2)).trans ?_
  exact (congrArg (picks m c) (emb5 t (j 2))).symm

/-- Every element of the result is written by some grid point. -/
theorem covered (i : S128x1x8.Idx) :
    ∃ t : Fin cfg0.N, (cfg0.win 5).flush t = true ∧ i ∈ ((cfg0.win 5).blk t).view.set := by
  refine ⟨(i 0 : Fin 128), flush0_5 _, ?_⟩
  have hi : i = ix3 (i 0) 0 (i 2) := by
    funext a
    apply Fin.ext
    match a with
    | ⟨0, _⟩ => rfl
    | ⟨1, _⟩ => exact Nat.lt_one_iff.mp (i 1).isLt
    | ⟨2, _⟩ => rfl
  have h := ((cfg0.win 5).blk (i 0 : Fin 128)).view.emb_mem_set (ix3 0 0 (i 2) : S1x1x8.Idx)
  have e : ((cfg0.win 5).blk (i 0 : Fin 128)).view.emb (ix3 0 0 (i 2) : S1x1x8.Idx) = i := (emb5 (i 0 : Fin 128) (i 2)).trans hi.symm
  rw [e] at h
  exact h

/-- The result array ends at the picks. -/
theorem final_at : (dats m 0 c).arrAt 5 cfg0.N = picks m c :=
  (dats m 0 c).arrAt_eq_of_cover 5 (picks m c) (fun t _ => flushed_at m c t) covered

/-- The result, a row at a time. -/
theorem tail_at (n : Fin 1024) :
    Pipeline.afterTail₀ cfgs (dats m) 0 (V0 m) [hostOps1] c main_v72 (ix1 n)
      = result (m ((c : Thread nD τ).loc main_arg0)) (m ((c : Thread nD τ).loc main_arg1)) (m ((c : Thread nD τ).loc main_arg2))
          secondHalf.1 secondHalf.2 n := by
  have hn := n.isLt
  have key := Host.key_at (Line.holds m c).2.1 (Line.holds m c).2.2.1 (Host.seed_at (Line.holds m c).1).1
    (Host.seed_at (Line.holds m c).1).2
  unfold Pipeline.afterTail₀
  rw [List.flatten_cons, List.flatten_nil, List.append_nil]
  unfold hostOps1
  rw [StableHlo.after_cons, StableHlo.after_nil, reshape_result]
  refine (show _ = shapeCast S1024 (Pipeline.withArrays (cfgs 0).spec c (V0 m c) (fun w => (dats m 0 c).arrAt w (cfgs 0).N)
    (Proc.devRef .tc (Pipeline.arrRef spec0 5))) shapeCasts_S128x1x8_S1024 (ix1 n) from rfl).trans ?_
  rw [show Pipeline.withArrays (cfgs 0).spec c (V0 m c) (fun w => (dats m 0 c).arrAt w (cfgs 0).N)
    (Proc.devRef .tc (Pipeline.arrRef spec0 5)) = picks m c from
    (Pipeline.withArrays_arr spec0 winFacts0.arr_inj c (V0 m c) _ 5).trans (final_at m c)]
  refine (shapeCast_apply _ _ _ (ix3 (⟨n.val / 8, by omega⟩ : Fin 128) 0 (⟨n.val % 8, by omega⟩ : Fin 8)) ?_).trans ?_
  · rw [Shape.rowMajor_val_three, Shape.rowMajor_val_one]
    show (n.val / 8 * 1 + 0) * 8 + n.val % 8 = n.val
    omega
  · unfold picks
    rw [show V m c main_v70 (ix1 0) = secondHalf.1 from key.1, show V m c main_v70 (ix1 1) = secondHalf.2 from key.2,
      V_main_arg0, V_main_arg1, V_main_arg2]
    refine congrArg (result _ _ _ _ _) (Fin.ext ?_)
    show 8 * (n.val / 8) + n.val % 8 = n.val
    omega

end Cert.KernelIdeal.Out

end
-- ==== Proof.RefFirst.lean ====
module

public import proofs.«01_k».proof.Proof.RefLine
public import proofs.«01_k».proof.Proof.Spec
public import Idealize.ShloMosaic.Lib.Pointwise

@[expose] public section

set_option maxRecDepth 16384

/-!
# The reference's searches for the first tallest value

A search folds a comparison of (value, place) pairs. Whatever the order of the fold, its result is one of the pairs,
no pair is taller, and among the equally tall ones it is the earliest.
-/

noncomputable section

namespace Cert.ReferenceIdeal.Search

open Idealize.ShloMosaic Idealize.ShloMosaic.Ideal Cert.ReferenceIdeal Sampler

/-- A fold by a choice of the better of two, for any reading of better, ends at one of its terms that beats all. -/
theorem foldl_best {γ : Type} (R : γ → γ → Prop) (refl : ∀ p, R p p) (trans : ∀ {p q r}, R r q → R q p → R r p)
    (f : γ → γ → γ) (hf : ∀ a b, (f a b = a ∨ f a b = b) ∧ R (f a b) a ∧ R (f a b) b) (l : List γ) :
    ∀ r, (l.foldl f r = r ∨ l.foldl f r ∈ l) ∧ R (l.foldl f r) r ∧ ∀ p ∈ l, R (l.foldl f r) p := by
  induction l with
  | nil => exact fun r => ⟨Or.inl rfl, refl r, fun p hp => nomatch hp⟩
  | cons b l ih =>
    intro r
    obtain ⟨hm, hr, hl⟩ := ih (f r b)
    obtain ⟨hc, ha, hb⟩ := hf r b
    rw [List.foldl_cons]
    refine ⟨?_, trans hr ha, fun p hp => ?_⟩
    · rcases hm with hm | hm
      · rcases hc with hc | hc
        · exact Or.inl (hm.trans hc)
        · exact Or.inr (by rw [hm, hc]; exact List.mem_cons_self)
      · exact Or.inr (List.mem_cons_of_mem _ hm)
    · rcases List.mem_cons.mp hp with rfl | hp
      · exact trans hr hb
      · exact hl p hp

section Fold

variable {α : Type} [LinearOrder α]

/-- `q` is at least as good a choice as `p`. -/
def Beats (q p : α × BitVec 32) : Prop := p.1 < q.1 ∨ p.1 = q.1 ∧ q.2.toInt ≤ p.2.toInt

/-- Being at least as good is reflexive -/
theorem Beats.refl (p : α × BitVec 32) : Beats p p := Or.inr ⟨rfl, le_rfl⟩

/-- and transitive. -/
theorem Beats.trans {p q r : α × BitVec 32} (h : Beats r q) (h' : Beats q p) : Beats r p := by
  rcases h with h | ⟨h, e⟩ <;> rcases h' with h' | ⟨h', e'⟩
  · exact Or.inl (h'.trans h)
  · exact Or.inl (h' ▸ h)
  · exact Or.inl (h ▸ h')
  · exact Or.inr ⟨h'.trans h, e.trans e'⟩

end Fold

/-- The comparison of two (number, place) pairs chooses the better. -/
theorem reducer_spec (a b : EReal × BitVec 32) :
    (reducer_argmax_f32_i32 (F := Ideal) a b = a ∨ reducer_argmax_f32_i32 (F := Ideal) a b = b) ∧
      Beats (reducer_argmax_f32_i32 (F := Ideal) a b) a ∧ Beats (reducer_argmax_f32_i32 (F := Ideal) a b) b := by
  obtain ⟨u, i⟩ := a
  obtain ⟨v, j⟩ := b
  have hf : reducer_argmax_f32_i32 (F := Ideal) (u, i) (v, j) =
      if v < u ∨ (u = v ∧ i.toInt < j.toInt) then (u, i) else (v, j) := by
    have e : reducer_argmax_f32_i32 (F := Ideal) (u, i) (v, j) =
        (Scalar.select (IntOp.ori (Ideal.cmp .ogt u v) (Ideal.cmp .une u u)) u v,
          Scalar.select (IntOp.ori (IntOp.ori (Ideal.cmp .ogt u v) (Ideal.cmp .une u u))
            (IntOp.andi (Ideal.cmp .oeq u v) (IntOp.cmpi .slt i j))) i j) := rfl
    rw [e]
    rcases lt_trichotomy u v with h | h | h
    · simp [Ideal.cmp, IntOp.ori, IntOp.andi, IntOp.cmpi, Scalar.select, h, h.ne, h.le, not_lt.mpr h.le]
    · subst h
      by_cases hij : i.toInt < j.toInt <;>
        simp [Ideal.cmp, IntOp.ori, IntOp.andi, IntOp.cmpi, Scalar.select, BitVec.slt, hij]
    · simp [Ideal.cmp, IntOp.ori, IntOp.andi, IntOp.cmpi, Scalar.select, h, h.ne', h.le, not_lt.mpr h.le]
  rw [hf]
  split_ifs with h
  · refine ⟨Or.inl rfl, Beats.refl _, ?_⟩
    rcases h with h | ⟨h, e⟩
    · exact Or.inl h
    · exact Or.inr ⟨h.symm, e.le⟩
  · refine ⟨Or.inr rfl, ?_, Beats.refl _⟩
    push Not at h
    rcases h.1.lt_or_eq with hl | hl
    · exact Or.inl hl
    · exact Or.inr ⟨hl, h.2 hl⟩

/-- A place keeps its value as a signed word. -/
theorem toInt_place (k : ℕ) (h : k < 32768) : (BitVec.ofNat 32 k).toInt = k := by
  rw [BitVec.toInt_ofNat']
  norm_num
  rw [Int.bmod_def]
  omega

/-- A search along one axis finds the first tallest value. -/
theorem first_at {s t u : Shape} {axes : List (Fin s.rank)} (x : FVec Ideal s .f32) (y : s.Idx → BitVec 32)
    (ix : u.Idx → EReal) (iy : u.Idx → BitVec 32) (h : s.ReducesTo axes t) (hu : 0 < u.numel) (j : t.Idx)
    (hx : ∀ i, ix i = ⊥) (hi : ∀ i, iy i = 0#32)
    (place : Fin 32768 → s.Idx) (hp : ∀ i, h.drop i = j → ∃ k, i = place k) (hj : ∀ k, h.drop (place k) = j)
    (hy : ∀ k, y (place k) = BitVec.ofNat 32 k.val) :
    (Host.argReduce (F := Ideal) (φ := .f32) reducer_argmax_f32_i32 x y ix iy h hu j).2 =
      BitVec.ofNat 32 (first fun k => x (place (Fin.ofNat 32768 k))) := by
  rw [argReduce_eq_reduce2, Host.reduce2_eq_foldl_fiber]
  obtain ⟨hm, hr, hl⟩ := foldl_best Beats Beats.refl Beats.trans (reducer_argmax_f32_i32 (F := Ideal)) reducer_spec
    (Host.argReduceFiber x y h j) (ix (Shape.Idx.first hu), iy (Shape.Idx.first hu))
  generalize (Host.argReduceFiber x y h j).foldl (reducer_argmax_f32_i32 (F := Ideal))
    (ix (Shape.Idx.first hu), iy (Shape.Idx.first hu)) = r at hm hr hl ⊢
  rw [hx, hi] at hm hr
  have mem : ∀ p, p ∈ Host.argReduceFiber x y h j ↔ ∃ k : Fin 32768, p = (x (place k), BitVec.ofNat 32 k.val) := by
    intro p
    unfold Host.argReduceFiber
    rw [List.mem_map]
    constructor
    · rintro ⟨n, hn, rfl⟩
      rw [List.mem_filter] at hn
      obtain ⟨k, hk⟩ := hp _ (of_decide_eq_true hn.2)
      exact ⟨k, by rw [hk, hy]⟩
    · rintro ⟨k, rfl⟩
      refine ⟨s.rowMajor (place k), ?_, ?_⟩
      · rw [List.mem_filter]
        refine ⟨List.mem_finRange _, ?_⟩
        rw [Equiv.symm_apply_apply]
        exact decide_eq_true (hj k)
      · rw [Equiv.symm_apply_apply, hy]
  have all : ∀ k : Fin 32768, Beats r (x (place k), BitVec.ofNat 32 k.val) := fun k => hl _ ((mem _).mpr ⟨k, rfl⟩)
  have self : ∃ k : Fin 32768, r = (x (place k), BitVec.ofNat 32 k.val) := by
    rcases hm with hm | hm
    · refine ⟨0, ?_⟩
      have h0 := all 0
      rw [hm] at h0
      rcases h0 with h0 | ⟨h0, -⟩
      · exact absurd h0 not_lt_bot
      · rw [hm]
        exact Prod.ext h0.symm rfl
    · exact (mem r).mp hm
  obtain ⟨k, hk⟩ := self
  rw [hk]
  refine congrArg (BitVec.ofNat 32) (IsFirst.eq_first ⟨k.isLt, fun l hl' => ?_, fun l hl' => ?_⟩)
  · have := all (Fin.ofNat 32768 l)
    rw [hk] at this
    dsimp only
    rw [show Fin.ofNat 32768 k.val = k from Fin.ext (Nat.mod_eq_of_lt k.isLt)]
    rcases this with h | ⟨h, -⟩
    · exact h.le
    · exact h.le
  · have := all (Fin.ofNat 32768 l)
    rw [hk] at this
    dsimp only
    rw [show Fin.ofNat 32768 k.val = k from Fin.ext (Nat.mod_eq_of_lt k.isLt)]
    rcases this with h | ⟨-, h⟩
    · exact h
    · have hl2 : l < 32768 := hl'.trans k.isLt
      dsimp only at h
      rw [toInt_place _ k.isLt, show (Fin.ofNat 32768 l).val = l from Nat.mod_eq_of_lt hl2, toInt_place _ hl2] at h
      omega

end Cert.ReferenceIdeal.Search

end
-- ==== Proof.RefAgree.lean ====
module

public import proofs.«01_k».proof.Proof.RefFirst

@[expose] public section

set_option maxRecDepth 16384

/-!
# The reference's choice among three flags

The three draws of a row are marked by whether they agree with the most probable place. One reduction says whether any
is marked, another finds the first marked one, and a gather takes the draw at that number.
-/

noncomputable section

namespace Cert.ReferenceIdeal.Flags

open Idealize.ShloMosaic Idealize.ShloMosaic.Ideal Cert.ReferenceIdeal Cert.ReferenceIdeal.Gen Sampler

/-- `q` is at least as good a choice as `p`: a set flag before an unset one, then the lower number. -/
abbrev Leads (q p : BitVec 1 × BitVec 32) : Prop := p.1.toNat < q.1.toNat ∨ p.1 = q.1 ∧ q.2.toInt ≤ p.2.toInt

/-- Being at least as good is transitive. -/
theorem leads_trans {p q r : BitVec 1 × BitVec 32} (h : Leads r q) (h' : Leads q p) : Leads r p := by
  rcases h with h | ⟨h, e⟩ <;> rcases h' with h' | ⟨h', e'⟩
  · exact Or.inl (h'.trans h)
  · exact Or.inl (h' ▸ h)
  · exact Or.inl (h ▸ h')
  · exact Or.inr ⟨h'.trans h, e.trans e'⟩

/-- The comparison of two (flag, number) pairs chooses the better. -/
theorem reducer_spec (a b : BitVec 1 × BitVec 32) :
    (reducer_argmax_i1_i32 a b = a ∨ reducer_argmax_i1_i32 a b = b) ∧
      Leads (reducer_argmax_i1_i32 a b) a ∧ Leads (reducer_argmax_i1_i32 a b) b := by
  obtain ⟨u, i⟩ := a
  obtain ⟨v, j⟩ := b
  have e : reducer_argmax_i1_i32 (u, i) (v, j) =
      (Scalar.select (IntOp.ori (IntOp.cmpi .ugt u v) (IntOp.cmpi .ne u u)) u v,
        Scalar.select (IntOp.ori (IntOp.ori (IntOp.cmpi .ugt u v) (IntOp.cmpi .ne u u))
          (IntOp.andi (IntOp.cmpi .eq u v) (IntOp.cmpi .slt i j))) i j) := rfl
  rw [e]
  rcases BitVec.eq_zero_or_eq_one u with rfl | rfl <;> rcases BitVec.eq_zero_or_eq_one v with rfl | rfl <;>
    by_cases hij : i.toInt < j.toInt <;>
    simp [IntOp.ori, IntOp.andi, IntOp.cmpi, Scalar.select, BitVec.slt, BitVec.ult, hij, Leads] <;> omega

/-- The first set flag of three, or none. -/
theorem first_flag (a0 a1 a2 : BitVec 1) (r : BitVec 1 × BitVec 32)
    (hm : r = (0#1, 0#32) ∨ r = (a0, 0#32) ∨ r = (a1, 1#32) ∨ r = (a2, 2#32))
    (h : Leads r (0#1, 0#32)) (h0 : Leads r (a0, 0#32)) (h1 : Leads r (a1, 1#32)) (h2 : Leads r (a2, 2#32)) :
    r.2 = if a0 = 1#1 then 0#32 else if a1 = 1#1 then 1#32 else if a2 = 1#1 then 2#32 else 0#32 := by
  rcases hm with rfl | rfl | rfl | rfl <;> revert a0 a1 a2 <;> decide

/-- The row an element belongs to. -/
theorem drop_at (i : S3x1024.Idx) : reducesTo_S3x1024_S1024_d0.drop i = ix1 (i 1) := by
  funext a
  obtain rfl : a = 0 := Subsingleton.elim _ _
  exact Fin.ext (Shape.ReducesTo.drop_apply_val_of_eq reducesTo_S3x1024_S1024_d0 i 0 1 (by decide) (by decide))

/-- The search finds the first set flag. -/
theorem first_at (x : IVec S3x1024 1) (y : IVec S3x1024 32) (ix : IVec S_ 1) (iy : IVec S_ 32) (n : Fin 1024)
    (hx : ∀ i, ix i = 0#1) (hi : ∀ i, iy i = 0#32) (hy : ∀ e, y (ix2 e n) = BitVec.ofNat 32 e.val) :
    (Host.reduce2 reducer_argmax_i1_i32 x y ix iy reducesTo_S3x1024_S1024_d0 h_S_ (ix1 n)).2 =
      if x (ix2 0 n) = 1#1 then 0#32 else if x (ix2 1 n) = 1#1 then 1#32 else if x (ix2 2 n) = 1#1 then 2#32 else 0#32 := by
  rw [Host.reduce2_eq_foldl_fiber]
  obtain ⟨hm, hr, hl⟩ := Search.foldl_best Leads (fun p => Or.inr ⟨rfl, le_rfl⟩) leads_trans reducer_argmax_i1_i32 reducer_spec
    (Host.argReduceFiber x y reducesTo_S3x1024_S1024_d0 (ix1 n)) (ix (Shape.Idx.first h_S_), iy (Shape.Idx.first h_S_))
  generalize (Host.argReduceFiber x y reducesTo_S3x1024_S1024_d0 (ix1 n)).foldl reducer_argmax_i1_i32
    (ix (Shape.Idx.first h_S_), iy (Shape.Idx.first h_S_)) = r at hm hr hl ⊢
  rw [hx, hi] at hm hr
  have mem : ∀ p, p ∈ Host.argReduceFiber x y reducesTo_S3x1024_S1024_d0 (ix1 n) ↔
      ∃ e : Fin 3, p = (x (ix2 e n), BitVec.ofNat 32 e.val) := by
    intro p
    unfold Host.argReduceFiber
    rw [List.mem_map]
    constructor
    · rintro ⟨k, hk, rfl⟩
      rw [List.mem_filter] at hk
      have hd := of_decide_eq_true hk.2
      generalize S3x1024.rowMajor.symm k = i at hd ⊢
      rw [drop_at] at hd
      have : i 1 = n := congrFun hd 0
      obtain ⟨e, he⟩ : ∃ e : Fin 3, i = ix2 e n := ⟨i 0, (eq_ix2 i).trans (congrArg (ix2 (i 0)) this)⟩
      exact ⟨e, by rw [he, hy]⟩
    · rintro ⟨e, rfl⟩
      refine ⟨S3x1024.rowMajor (ix2 e n), ?_, ?_⟩
      · rw [List.mem_filter]
        refine ⟨List.mem_finRange _, ?_⟩
        rw [Equiv.symm_apply_apply]
        exact decide_eq_true (drop_at _)
      · rw [Equiv.symm_apply_apply, hy]
  refine first_flag _ _ _ r ?_ hr (hl _ ((mem _).mpr ⟨0, rfl⟩)) (hl _ ((mem _).mpr ⟨1, rfl⟩)) (hl _ ((mem _).mpr ⟨2, rfl⟩))
  rcases hm with hm | hm
  · exact Or.inl hm
  · obtain ⟨e, he⟩ := (mem r).mp hm
    match e with
    | 0 => exact Or.inr (Or.inl he)
    | 1 => exact Or.inr (Or.inr (Or.inl he))
    | 2 => exact Or.inr (Or.inr (Or.inr he))

/-- Whether any flag is set. -/
theorem any_at (x : IVec S3x1024 1) (ix : IVec S_ 1) (n : Fin 1024) (hx : ∀ i, ix i = 0#1) :
    Host.reduce IntOp.ori x ix reducesTo_S3x1024_S1024_d0 h_S_ (ix1 n) =
      x (ix2 0 n) ||| (x (ix2 1 n) ||| (x (ix2 2 n) ||| 0#1)) := by
  obtain rfl : ix = fun _ => 0#1 := funext hx
  pointwise
  rw [show (Finset.univ : Finset (Fin 3)) = {0, 1, 2} from rfl, Finset.fold_insert (by decide), Finset.fold_insert (by decide),
    Finset.fold_singleton]
  rfl

/-- The element taken at a number and a row. -/
theorem gather_at (x : IVec S3x1024 32) (idx : IVec S1024x2 32) (n : Fin 1024) :
    Host.gather gather_S3x1024_S1024x2_S1024_n_01_n_n_01_1_11 x idx (ix1 n)
      = x (ix2 ⟨min (idx (ix2 n 0)).toInt.toNat 2, by omega⟩ ⟨min (idx (ix2 n 1)).toInt.toNat 1023, by omega⟩) := by
  unfold Host.gather
  congr 1
  have no : ∀ a : Fin 2, a ∈ gather_S3x1024_S1024x2_S1024_n_01_n_n_01_1_11.collapsedSliceDims := by decide
  have mapped : ∀ a : Fin 2, a ∈ gather_S3x1024_S1024x2_S1024_n_01_n_n_01_1_11.startIndexMap := by decide
  funext a
  refine Fin.ext ?_
  show gather_S3x1024_S1024x2_S1024_n_01_n_n_01_1_11.start (ix1 n) idx a
    + gather_S3x1024_S1024x2_S1024_n_01_n_n_01_1_11.batchCoord (ix1 n) a
    + gather_S3x1024_S1024x2_S1024_n_01_n_n_01_1_11.offCoord (ix1 n) a = _
  rw [GatherDims.batchCoord_eq_zero _ _ _ List.not_mem_nil,
    GatherDims.offCoord_eq_zero _ _ _ (fun h => ((GatherDims.mem_sKept _ _).mp h).1 (no a))]
  simp only [Nat.add_zero]
  unfold GatherDims.start
  rw [dif_pos (mapped a)]
  match a with
  | ⟨0, h⟩ =>
    have at0 : gather_S3x1024_S1024x2_S1024_n_01_n_n_01_1_11.siIdx (ix1 n)
        ⟨List.idxOf (⟨0, h⟩ : Fin 2) gather_S3x1024_S1024x2_S1024_n_01_n_n_01_1_11.startIndexMap,
          List.idxOf_lt_length_iff.2 (mapped ⟨0, h⟩)⟩ = ix2 n 0 := by
      funext b
      refine Fin.ext ?_
      match b with
      | ⟨0, _⟩ => rfl
      | ⟨1, _⟩ => rfl
    rw [at0]
    rfl
  | ⟨1, h⟩ =>
    have at1 : gather_S3x1024_S1024x2_S1024_n_01_n_n_01_1_11.siIdx (ix1 n)
        ⟨List.idxOf (⟨1, h⟩ : Fin 2) gather_S3x1024_S1024x2_S1024_n_01_n_n_01_1_11.startIndexMap,
          List.idxOf_lt_length_iff.2 (mapped ⟨1, h⟩)⟩ = ix2 n 1 := by
      funext b
      refine Fin.ext ?_
      match b with
      | ⟨0, _⟩ => rfl
      | ⟨1, _⟩ => rfl
    rw [at1]
    rfl

end Cert.ReferenceIdeal.Flags

end
-- ==== Proof.RefBits.lean ====
module

public import proofs.«01_k».proof.Proof.RefLine
public import proofs.«01_k».proof.Proof.Rounds

@[expose] public section

set_option maxRecDepth 16384
set_option maxHeartbeats 4000000

/-!
# The reference's generator, read at an index

The reference calls the generator twice: on the two words of its seed, and on all of its counters.
-/

noncomputable section

namespace Cert.ReferenceIdeal.Bits

open Idealize.ShloMosaic Idealize.ShloMosaic.StableHlo Idealize.SL.Sem Lines Cert.ReferenceIdeal Sampler

variable {W : Valuation τ sig (Elt Ideal)}

/-- The generator on two counters. -/
theorem key_at {a0 a1 : TRef sig ⟨S_, .i32⟩} {a2 a3 : TRef sig ⟨S2, .i32⟩} {φ : fn_threefry2x32.Bufs}
    (h : (Line.key (F := Ideal) a0 a1 a2 a3 φ).holds W) {k0 k1 : Word} (hk0 : ∀ u, get a0 W u = k0) (hk1 : ∀ u, get a1 W u = k1)
    (i : S2.Idx) :
    get φ.v171 W i = (threefry k0 k1 (get a2 W i) (get a3 W i)).1 ∧
      get φ.v175 W i = (threefry k0 k1 (get a2 W i) (get a3 W i)).2 := by
  obtain ⟨p0, p1, p2, p3⟩ := h
  dsimp only [Line.key0, Line.key1, Line.key2, Line.key3, id, Block.bind, Block.done, Block.binaryT,
    Block.unaryT, Block.nullaryT, Block.step] at p0 p1 p2 p3
  have h := And.intro p0 (And.intro p1 (And.intro p2 (And.intro p3 trivial)))
  simp only [and_assoc] at h
  obtain ⟨hP, start, h⟩ := begun i hk0 hk1 h
  obtain ⟨s1, h⟩ := group i (g := odd) (by decide) hk1 hP start h
  obtain ⟨s2, h⟩ := group i (g := even) (by decide) hP hk0 s1 h
  obtain ⟨s3, h⟩ := group i (g := odd) (by decide) hk0 hk1 s2 h
  obtain ⟨s4, h⟩ := group i (g := even) (by decide) hk1 hP s3 h
  obtain ⟨s5, -⟩ := group i (g := odd) (by decide) hP hk0 s4 h
  simp only [four_odd, four_even] at s5
  exact s5

/-- The generator on a whole array of counters. -/
theorem bits_at {a0 a1 : TRef sig ⟨S_, .i32⟩} {a2 a3 : TRef sig ⟨S3x1024x32768, .i32⟩} {φ : fn_threefry2x32_0.Bufs}
    (h : (Line.bits (F := Ideal) a0 a1 a2 a3 φ).holds W) {k0 k1 : Word} (hk0 : ∀ u, get a0 W u = k0) (hk1 : ∀ u, get a1 W u = k1)
    (i : S3x1024x32768.Idx) :
    get φ.v171 W i = (threefry k0 k1 (get a2 W i) (get a3 W i)).1 ∧
      get φ.v175 W i = (threefry k0 k1 (get a2 W i) (get a3 W i)).2 := by
  obtain ⟨p0, p1, p2, p3⟩ := h
  dsimp only [Line.bits0, Line.bits1, Line.bits2, Line.bits3, id, Block.bind, Block.done, Block.binaryT,
    Block.unaryT, Block.nullaryT, Block.step] at p0 p1 p2 p3
  have h := And.intro p0 (And.intro p1 (And.intro p2 (And.intro p3 trivial)))
  simp only [and_assoc] at h
  obtain ⟨hP, start, h⟩ := begun i hk0 hk1 h
  obtain ⟨s1, h⟩ := group i (g := odd) (by decide) hk1 hP start h
  obtain ⟨s2, h⟩ := group i (g := even) (by decide) hP hk0 s1 h
  obtain ⟨s3, h⟩ := group i (g := odd) (by decide) hk0 hk1 s2 h
  obtain ⟨s4, h⟩ := group i (g := even) (by decide) hk1 hP s3 h
  obtain ⟨s5, -⟩ := group i (g := odd) (by decide) hP hk0 s4 h
  simp only [four_odd, four_even] at s5
  exact s5

end Cert.ReferenceIdeal.Bits

end
-- ==== Proof.RefNoise.lean ====
module

public import proofs.«01_k».proof.Proof.RefBits
public import proofs.«01_k».proof.Proof.Key
public import proofs.«01_k».proof.Proof.Spec

@[expose] public section

set_option maxRecDepth 16384
set_option maxHeartbeats 4000000

/-!
# The reference's noise

The counter of every (draw, row, place), its random word, and the noise made of the word.
-/

noncomputable section

namespace Cert.ReferenceIdeal.Noise

open Idealize.ShloMosaic Idealize.ShloMosaic.StableHlo Idealize.SL.Sem Lines Cert.ReferenceIdeal Cert.ReferenceIdeal.Gen Sampler

variable {W : Valuation τ sig (Elt Ideal)} {d : Dev nD}

/-- The counter of a place, as a number. -/
abbrev number (e : Fin 3) (n : Fin 1024) (h : Fin 32768) : ℕ := e.val * 33554432 + n.val * 32768 + h.val

/-- The place numbers, as 64-bit words. -/
theorem count_word (e : Fin 3) (n : Fin 1024) (h : Fin 32768) :
    (33554432#64 * BitVec.ofNat 64 e.val + 32768#64 * BitVec.ofNat 64 n.val) + 1#64 * BitVec.ofNat 64 h.val
      = BitVec.ofNat 64 (number e n h) := by
  rw [BitVec.ofNat_add, BitVec.ofNat_add, BitVec.ofNat_mul, BitVec.ofNat_mul, BitVec.mul_comm, BitVec.mul_comm (32768#64),
    BitVec.one_mul]

/-- A place's counter: the upper word is zero, the lower its number. -/
theorem count_at (h1 : (Line.main1 (F := Ideal) d).holds W) (h2 : (Line.main2 (F := Ideal) d).holds W) (e : Fin 3) (n : Fin 1024)
    (h : Fin 32768) :
    at' W main_v118 (ix3 e n h) = (0#32 : Word) ∧ at' W main_v117 (ix3 e n h) = BitVec.ofNat 32 (number e n h) := by
  dsimp only [Line.main1, id, Block.unary, Block.binary, Block.nullary, Block.reshape, Block.nary, Block.bind, Block.done, Block.step] at h1
  dsimp only [Line.main2, id, Block.unary, Block.binary, Block.nullary, Block.reshape, Block.nary, Block.bind, Block.done, Block.step] at h2
  obtain ⟨-, -, -, -, -, -, -, -, -, -, -, -, -, -, -, -, -, -, -, -, -, -, -, -, -, -, -, -, -, -, -, -, -, -, -, -, -, -, -,
    -, -, -, -, -, -, -, -, -, -, -, -, -, -, -, -, -, -, -, -, f59⟩ := h1
  obtain ⟨g0, g1, g2, g3, g4, g5, g6, g7, g8, g9, g10, g11, g12, g13, g14, g15, g16, g17, -⟩ := h2
  have total : at' W main_v114 (ix3 e n h) = BitVec.ofNat 64 (number e n h) := by
    rw [g12, g11, g4, g3, g2, g7, g6, g5, g10, g9, g8, f59, g0, g1, ← count_word]
    rfl
  have he := e.isLt
  have hn := n.isLt
  have hh := h.isLt
  constructor
  · have low : ∀ z : BitVec 64, z = BitVec.ofNat 64 (number e n h) →
        BitVec.setWidth 32 (IntOp.shrui .host z 32#64) = 0#32 := by
      rintro _ rfl
      rw [IntOp.shrui, if_pos (by decide)]
      apply BitVec.eq_of_toNat_eq
      simp only [BitVec.toNat_setWidth, BitVec.toNat_ofNat, BitVec.ushiftRight_eq',
        BitVec.toNat_ushiftRight, Nat.shiftRight_eq_div_pow]
      have small : number e n h < 4294967296 := by unfold number; omega
      norm_num
      omega
    rw [g17, g15, g14, g13]
    exact low _ total
  · rw [g16]
    show BitVec.truncate 32 (at' W main_v114 (ix3 e n h)) = _
    rw [total]
    apply BitVec.eq_of_toNat_eq
    simp only [BitVec.truncate_eq_setWidth, BitVec.toNat_setWidth, BitVec.toNat_ofNat]
    omega

/-- The width of the uniform interval is one. -/
theorem one : Ideal.ofBits .f32 0x3F800000#32 = 1 := by
  simp [Ideal.ofBits, Ideal.ieee, -EReal.coe_mul]
  norm_num

/-- A word's upper 23 bits under the exponent of one. -/
theorem pattern (w : Word) : ((w >>> 9#32) ||| 1065353216#32).toNat = 127 * 2 ^ 23 + w.toNat / 512 := by
  have hw := w.isLt
  have h : w.toNat / 512 < 2 ^ 23 := by omega
  rw [BitVec.toNat_or, show (w >>> 9#32).toNat = w.toNat / 512 from by
      rw [BitVec.ushiftRight_eq', BitVec.toNat_ushiftRight, Nat.shiftRight_eq_div_pow]; rfl,
    show (1065353216#32).toNat = 127 <<< 23 from rfl, Nat.or_comm, ← Nat.shiftLeft_add_eq_or_of_lt h, Nat.shiftLeft_eq]

/-- The number a word's upper bits stand for is at least zero. -/
theorem fraction_nonneg (w : Word) : (0 : EReal) ≤ fraction w := by
  have hp := pattern w
  have hw := w.isLt
  show (0 : EReal) ≤ Ideal.ofBits .f32 ((w >>> 9#32) ||| 1065353216#32) - Ideal.ofBits .f32 0x3F800000#32
  rw [one]
  generalize (w >>> 9#32) ||| 1065353216#32 = b at hp
  have e1 : b.extractLsb' 31 1 = 0#1 := by
    apply BitVec.eq_of_toNat_eq
    rw [BitVec.extractLsb'_toNat, Nat.shiftRight_eq_div_pow, hp]
    show _ = 0
    omega
  have e2 : (b.extractLsb' 23 8).toNat = 127 := by
    rw [BitVec.extractLsb'_toNat, Nat.shiftRight_eq_div_pow, hp]
    omega
  have v : Ideal.ofBits .f32 b = (((2 ^ 23 + (b.extractLsb' 0 23).toNat : ℕ) * (2 : ℝ) ^ (-23 : ℤ) : ℝ) : EReal) := by
    show Ideal.ieee 8 23 b = _
    unfold Ideal.ieee
    rw [e1, e2]
    norm_num
  have k : (2 : ℝ) ^ (-23 : ℤ) = 1 / 8388608 := by norm_num
  have p : (0 : ℝ) ≤ ((b.extractLsb' 0 23).toNat : ℝ) := Nat.cast_nonneg _
  rw [v, show (1 : EReal) = ((1 : ℝ) : EReal) from rfl, ← EReal.coe_sub]
  refine EReal.coe_nonneg.mpr ?_
  rw [k]
  push_cast
  linarith

/-- A place's noise and its log-probability, added up. -/
theorem score_at (hk : (∀ u, at' W main_v101 u = secondHalf.1) ∧ ∀ u, at' W main_v103 u = secondHalf.2)
    (h1 : (Line.main1 (F := Ideal) d).holds W) (h2 : (Line.main2 (F := Ideal) d).holds W) (e : Fin 3) (n : Fin 1024)
    (h : Fin 32768) (l : EReal) (hl : at' W main_v86 (ix2 n h) = l) :
    at' W main_v140 (ix3 e n h) = l + noise (draw secondHalf.1 secondHalf.2 (BitVec.ofNat 32 (number e n h))) := by
  obtain ⟨c0, c1⟩ := count_at h1 h2 e n h
  clear h1
  dsimp only [Line.main2, id, Block.unary, Block.binary, Block.nullary, Block.reshape, Block.nary, Block.bind, Block.done, Block.step] at h2
  obtain ⟨-, -, -, -, -, -, -, -, -, -, -, -, -, -, -, -, -, -, g18, g19, g20, g21, g22, g23, g24, g25, g26, g27, g28, g29, g30,
    g31, g32, g33, g34, g35, g36, g37, g38, g39, g40, g41, g42, g43, g44, g45, -⟩ := h2
  obtain ⟨ra, rb⟩ := Bits.bits_at g18 hk.1 hk.2 (ix3 e n h)
  have word : at' W main_v120 (ix3 e n h) = draw secondHalf.1 secondHalf.2 (BitVec.ofNat 32 (number e n h)) := by
    rw [g19, draw, ← c0, ← c1]
    exact congrArg₂ (· ^^^ ·) ra rb
  generalize draw secondHalf.1 secondHalf.2 (BitVec.ofNat 32 (number e n h)) = w at word ⊢
  have part : at' W main_v127 (ix3 e n h) = fraction w := by
    rw [g29, g28, g27, g26, g25, g24, g23, g22, g21, g20, ← word]
    rfl
  have base : at' W main_v133 (ix3 e n h) = (fraction w + Ideal.ofBits .f32 0x00800000#32 : EReal) := by
    rw [g38, g37, g36, g35, g34, g33, g32, g31, g30]
    refine (congrArg (fun z : EReal => max (Ideal.ofBits .f32 0x00800000#32) (z * Ideal.ofBits .f32 0x3F800000#32
      + Ideal.ofBits .f32 0x00800000#32)) part).trans ?_
    rw [one, mul_one]
    refine max_eq_right ?_
    exact le_add_of_nonneg_left (fraction_nonneg w)
  rw [g45, g44, g43, g42, g41, g40, g39]
  have zero : Ideal.ofBits .f32 0x00000000#32 = 0 := by simp [Ideal.ofBits, Ideal.ieee]
  refine (add_comm (G := EReal) _ _).trans (congrArg₂ (fun u v : EReal => u + v) ?_ ?_)
  · rw [← hl]
    generalize at' W main_v86 = x
    pointwise
  · refine (congrArg (fun z : EReal => -Ideal.log (-Ideal.log z)) base).trans ?_
    show -Ideal.log (-Ideal.log (fraction w + Ideal.ofBits .f32 0x00800000#32)) = Ideal.ofBits .f32 0x00000000#32
      - Ideal.log (Ideal.ofBits .f32 0x00000000#32 - Ideal.log (fraction w + Ideal.ofBits .f32 0x00800000#32))
    rw [zero, zero_sub, zero_sub]

end Cert.ReferenceIdeal.Noise

end
-- ==== Proof.RefSoft.lean ====
module

public import proofs.«01_k».proof.Proof.Spec
public import Idealize.ShloMosaic.Lib.Pointwise

@[expose] public section

set_option maxRecDepth 16384

/-!
# The reference's softmax over one stretch

From the logits of a stretch to its probabilities, for a stretch of any length.
-/

noncomputable section

namespace Cert.ReferenceIdeal.Scores

open Idealize.ShloMosaic Idealize.ShloMosaic.Ideal Sampler

/-- A row of numbers, one per place of a stretch. -/
abbrev Long (H : ℕ) : Shape := ⟨3, ![1024, H, 1]⟩
/-- The shapes of the maxima and sums. -/
abbrev Wide : Shape := ⟨2, ![1024, 1]⟩
abbrev Tall : Shape := ⟨3, ![1024, 1, 1]⟩
abbrev Lone : Shape := ⟨0, ![]⟩

variable {H : ℕ}

/-- The elements a reduction along a row meets. -/
theorem lift_at (h : (Long H).Reduces [1] Wide) (n : Fin 1024) (k : Fin H) : h.lift (ix2 n 0) k = ix3 n k 0 := by
  funext c
  refine Fin.ext ((h.lift_val (ix2 n 0) k c).trans ?_)
  unfold Shape.Reduces.liftVal
  fin_cases c <;> rfl

/-- The tallest of a stretch's numbers. -/
theorem tallest (x : FVec Ideal (Long H) .f32) (init : FVec Ideal Lone .f32) (hi : ∀ u, init u = (⊥ : EReal))
    (h : (Long H).ReducesTo [1] Wide) (hu : 0 < Lone.numel) (n : Fin 1024) :
    Host.reduce FloatOps.maximumf x init h hu (ix2 n 0) = (Finset.univ.sup fun k : Fin H => x (ix3 n k 0) : EReal) := by
  have h' : (Long H).Reduces [1] Wide := ⟨h.1, by decide, h.2⟩
  refine (Host.reduce_eq_fold_single (FloatOps.maximumf (F := Ideal) (φ := .f32)) x init h h' hu _).trans ?_
  rw [hi]
  refine (show _ = Finset.univ.sup (x ∘ h'.lift (ix2 n 0)) from rfl).trans ?_
  refine Finset.sup_congr rfl fun k _ => ?_
  exact congrArg x (lift_at h' n k)

/-- The sum of a stretch's numbers. -/
theorem summed (x : FVec Ideal (Long H) .f32) (init : FVec Ideal Lone .f32) (hi : ∀ u, init u = (0 : EReal))
    (h : (Long H).ReducesTo [1] Wide) (hu : 0 < Lone.numel) (n : Fin 1024) :
    Host.reduceAdd x init h hu (ix2 n 0) = (∑ k : Fin H, x (ix3 n k 0) : EReal) := by
  have h' : (Long H).Reduces [1] Wide := ⟨h.1, by decide, h.2⟩
  refine (show _ = Ideal.hostReduceAdd h x (init (Shape.Idx.first hu)) (ix2 n 0) from rfl).trans ?_
  rw [hostReduceAdd_single h h', hi, zero_add]
  refine Finset.sum_congr rfl fun k _ => ?_
  exact congrArg x (lift_at h' n k)

/-- A column of one number per row, spread over a stretch. -/
theorem spread_at (x : FVec Ideal Wide .f32) (hb : Wide.BroadcastsInDim Tall ![0, 2])
    (hb' : Tall.BroadcastsInDim (Long H) ![0, 1, 2]) (n : Fin 1024) (k : Fin H) :
    broadcastInDim (Long H) ![0, 1, 2] hb' (broadcastInDim Tall ![0, 2] hb x) (ix3 n k 0) = x (ix2 n 0) := by
  pointwise

/-- A supremum over indices as one over numbers. -/
theorem sup_places (g : ℕ → EReal) (a : ℕ) :
    (Finset.univ.sup fun k : Fin H => g (a + k.val)) = (Finset.range H).sup fun j => g (a + j) := by
  refine eq_of_forall_ge_iff fun c => ?_
  rw [Finset.sup_le_iff, Finset.sup_le_iff]
  exact ⟨fun h j hj => h ⟨j, Finset.mem_range.mp hj⟩ (Finset.mem_univ _), fun h k _ => h k.val (Finset.mem_range.mpr k.isLt)⟩

section Stretch

variable {n : Fin 1024} {g : ℕ → EReal} {a s : ℕ} {v12 v17 v18 v19 v22 v23 : FVec Ideal (Long H) .f32}
  {cst cst0 cst1 : FVec Ideal Lone .f32} {v13 v14 v15 v20 : FVec Ideal Wide .f32} {v16 v21 : FVec Ideal Tall .f32}
  {hr : (Long H).ReducesTo [1] Wide} {hu : 0 < Lone.numel} {hs : Lone.BroadcastsInDim Wide ![]}
  {hb : Wide.BroadcastsInDim Tall ![0, 2]} {hb' : Tall.BroadcastsInDim (Long H) ![0, 1, 2]}

/-- The probabilities of a stretch from its logits. -/
theorem soft (ha : start s = a) (hc : count s = H) (hst : ∀ k < H, stretch (a + k) = s)
    (h12 : ∀ k : Fin H, v12 (ix3 n k 0) = g (a + k.val))
    (e1 : cst = constant Lone .f32 0xFF800000#32) (e13 : v13 = Host.reduce FloatOps.maximumf v12 cst hr hu)
    (e2 : cst0 = constant Lone .f32 0xFF800000#32) (e14 : v14 = broadcastInDim Wide ![] hs cst0)
    (e15 : v15 = maximumf v14 v13) (e16 : v16 = broadcastInDim Tall ![0, 2] hb v15)
    (e17 : v17 = broadcastInDim (Long H) ![0, 1, 2] hb' v16) (e18 : v18 = subf v12 v17) (e19 : v19 = Host.exp v18)
    (e3 : cst1 = constant Lone .f32 0x00000000#32) (e20 : v20 = Host.reduceAdd v19 cst1 hr hu)
    (e21 : v21 = broadcastInDim Tall ![0, 2] hb v20) (e22 : v22 = broadcastInDim (Long H) ![0, 1, 2] hb' v21)
    (e23 : v23 = Host.divf v19 v22) (k : Fin H) : v23 (ix3 n k 0) = prob g (a + k.val) := by
  have bot : Ideal.ofBits .f32 0xFF800000#32 = ⊥ := by simp [Ideal.ofBits, Ideal.ieee]
  have zero : Ideal.ofBits .f32 0x00000000#32 = 0 := by simp [Ideal.ofBits, Ideal.ieee]
  have h13 : v13 (ix2 n 0) = top g s := by
    rw [e13, tallest v12 cst (fun u => by rw [e1]; exact bot) hr hu n, top, ha, hc, ← sup_places]
    exact Finset.sup_congr rfl fun k _ => h12 k
  have h15 : v15 (ix2 n 0) = top g s := by
    rw [e15, e14, e2]
    show max (Ideal.ofBits .f32 0xFF800000#32) (v13 (ix2 n 0)) = _
    rw [bot, h13, max_eq_right bot_le]
  have h19 : ∀ k : Fin H, v19 (ix3 n k 0) = weight g (a + k.val) := by
    intro k
    rw [e19, e18]
    show Ideal.exp (v12 (ix3 n k 0) - v17 (ix3 n k 0)) = _
    rw [e17, e16, spread_at, h15, h12, weight, hst _ k.isLt]
  have h20 : v20 (ix2 n 0) = total (weight g) s := by
    rw [e20, summed v19 cst1 (fun u => by rw [e3]; exact zero) hr hu n, total, ha, hc,
      ← Fin.sum_univ_eq_sum_range (fun j => weight g (a + j)) H]
    exact Finset.sum_congr rfl fun k _ => h19 k
  rw [e23]
  show Ideal.div (v19 (ix3 n k 0)) (v22 (ix3 n k 0)) = _
  rw [e22, e21, spread_at, h20, h19, prob, hst _ k.isLt]

end Stretch

end Cert.ReferenceIdeal.Scores

end
-- ==== Proof.RefLogits.lean ====
module

public import proofs.«01_k».proof.Proof.RefLine
public import proofs.«01_k».proof.Proof.RefSoft
public import proofs.«01_k».proof.Proof.Rows

@[expose] public section

set_option maxRecDepth 16384
set_option maxHeartbeats 4000000

/-!
# The reference's logits

Each stretch's logits come from its part of the row, its weights and its bias.
-/

noncomputable section

namespace Cert.ReferenceIdeal.Scores

open Idealize.ShloMosaic Idealize.ShloMosaic.StableHlo Idealize.SL.Sem Lines Cert.ReferenceIdeal Cert.ReferenceIdeal.Gen Sampler

section Logits

variable (x : FVec Ideal S1024x98304 .f32) (w : FVec Ideal S4x3x1 .f32) (b : FVec Ideal S4x1 .f32) (n : Fin 1024)

/-- A sum of three products plus a bias, as the logit of a place. -/
theorem logit_of {s h : ℕ} (hs : stretch h = s) {f : Fin 3 → EReal} (hf : ∀ k, f k = row x n (3 * h + k.val) * weights w s k.val)
    {c : EReal} (hc : c = bias b s) : (∑ k, f k) + c = logit (row x n) (weights w) (bias b) h := by
  rw [Fin.sum_univ_three, hf, hf, hf, hc, logit, hs]
  rfl

variable {H L o s a : ℕ} {D : DotDims ⟨3, ![1024, H, 3]⟩ S3x1 (Long H)}
  {hx : S1024x98304.Slices ![0, o] ⟨2, ![1024, L]⟩} {hc : (⟨2, ![1024, L]⟩ : Shape).ShapeCasts ⟨3, ![1024, H, 3]⟩}
  {hw : S4x3x1.Slices ![s, 0, 0] S1x3x1} {hb : S4x1.Slices ![s, 0] S1x1}
  {hl : S1x1x1.BroadcastsInDim (Long H) ![0, 1, 2]}

/-- A stretch's part of the row, as triples. -/
theorem part_at (hL : L = 3 * H) (ho : o + L ≤ 98304) (h : Fin H) (k : Fin 3) :
    shapeCast ⟨3, ![1024, H, 3]⟩ (extractStridedSlice ⟨2, ![1024, L]⟩ ![0, o] x hx) hc (ix3 n h k)
      = row x n (o + (3 * h.val + k.val)) := by
  subst hL
  have hh := h.isLt
  have hk := k.isLt
  refine (shapeCast_apply _ hc _ (ix2 n ⟨3 * h.val + k.val, by omega⟩) ?_).trans ?_
  · rw [Shape.rowMajor_val_two, Shape.rowMajor_val_three]
    show n.val * (3 * H) + (3 * h.val + k.val) = (n.val * H + h.val) * 3 + k.val
    ring
  · pointwise
    exact row_eq x n rfl (by omega)

/-- The logits of a stretch. -/
theorem logit_at (hD : ∀ (l : FVec Ideal ⟨3, ![1024, H, 3]⟩ .f32) (r : FVec Ideal S3x1 .f32) (h : Fin H),
      Host.dotGeneral D none l r (ix3 n h 0) = (∑ k : Fin 3, l (ix3 n h k) * r (ix2 k 0) : EReal))
    (hL : L = 3 * H) (ho : o = 3 * a) (hlt : o + L ≤ 98304) (hs4 : s < 4) (hs : ∀ k < H, stretch (a + k) = s) (h : Fin H) :
    addf (Host.dotGeneral D none (shapeCast ⟨3, ![1024, H, 3]⟩ (extractStridedSlice ⟨2, ![1024, L]⟩ ![0, o] x hx) hc)
        (shapeCast S3x1 (extractStridedSlice S1x3x1 ![s, 0, 0] w hw) shapeCasts_S1x3x1_S3x1))
      (broadcastInDim (Long H) ![0, 1, 2] hl (broadcastInDim S1x1x1 ![2] bcast_S1_S1x1x1_2
        (shapeCast S1 (extractStridedSlice S1x1 ![s, 0] b hb) shapeCasts_S1x1_S1))) (ix3 n h 0)
      = logit (row x n) (weights w) (bias b) (a + h.val) := by
  refine (congrArg₂ (· + ·) (hD _ _ h) ?_).trans (logit_of x w b n (hs h.val h.isLt) (fun k => ?_) rfl)
  · pointwise
    exact congrArg (fun q => b (ix2 q 0)) (Fin.ext (Nat.mod_eq_of_lt hs4).symm)
  · rw [part_at x n hL hlt]
    refine congrArg₂ (· * ·) (congrArg (row x n) (by omega)) ?_
    pointwise
    exact congrArg₂ (fun q r => w (ix3 q r 0)) (Fin.ext (Nat.mod_eq_of_lt hs4).symm)
      (Fin.ext (Nat.mod_eq_of_lt k.isLt).symm)

end Logits

end Cert.ReferenceIdeal.Scores

end
-- ==== Proof.RefScores.lean ====
module

public import proofs.«01_k».proof.Proof.RefLogits

@[expose] public section

set_option maxRecDepth 16384
set_option maxHeartbeats 4000000

/-!
# The reference's probabilities

The four stretches' probabilities laid end to end, and their logarithms.
-/

noncomputable section

namespace Cert.ReferenceIdeal.Scores

open Idealize.ShloMosaic Idealize.ShloMosaic.StableHlo Idealize.SL.Sem Lines Cert.ReferenceIdeal Cert.ReferenceIdeal.Gen Sampler

/-- The product of a stretch's triples with its weights, at a row and a place: the longer first stretch, -/
theorem dot_long (l : FVec Ideal S1024x8768x3 .f32) (r : FVec Ideal S3x1 .f32) (n : Fin 1024) (h : Fin 8768) :
    Host.dotGeneral dot_S1024x8768x3_S3x1_S1024x8768x1_2_0_01_1_n_n none l r (ix3 n h 0)
      = (∑ k : Fin 3, l (ix3 n h k) * r (ix2 k 0) : EReal) := by
  pointwise

/-- and the others. -/
theorem dot_short (l : FVec Ideal S1024x8000x3 .f32) (r : FVec Ideal S3x1 .f32) (n : Fin 1024) (h : Fin 8000) :
    Host.dotGeneral dot_S1024x8000x3_S3x1_S1024x8000x1_2_0_01_1_n_n none l r (ix3 n h 0)
      = (∑ k : Fin 3, l (ix3 n h k) * r (ix2 k 0) : EReal) := by
  pointwise

/-- The stretch of a place counted from the start of its own stretch. -/
theorem in_first (k : ℕ) (h : k < 8768) : stretch (0 + k) = 0 := by
  unfold stretch
  split_ifs <;> omega

theorem in_second (k : ℕ) (h : k < 8000) : stretch (8768 + k) = 1 := by
  unfold stretch
  split_ifs <;> omega

theorem in_third (k : ℕ) (h : k < 8000) : stretch (16768 + k) = 2 := by
  unfold stretch
  split_ifs <;> omega

theorem in_fourth (k : ℕ) (h : k < 8000) : stretch (24768 + k) = 3 := by
  unfold stretch
  split_ifs <;> omega

variable {W : Valuation τ sig (Elt Ideal)} {d : Dev nD}

/-- The first two stretches. -/
theorem first_two (h0 : (Line.main0 (F := Ideal) d).holds W) (n : Fin 1024) :
    (∀ k : Fin 8768, at' W main_v23 (ix3 n k 0) = chances (at' W main_arg0) (at' W main_arg1) (at' W main_arg2) n (0 + k.val)) ∧
    ∀ k : Fin 8000, at' W main_v43 (ix3 n k 0) = chances (at' W main_arg0) (at' W main_arg1) (at' W main_arg2) n (8768 + k.val) := by
  dsimp only [Line.main0, id, Block.unary, Block.binary, Block.nullary, Block.reshape, Block.nary, Block.bind, Block.done, Block.step] at h0
  obtain ⟨e0, e1, -, -, e4, e5, e6, e7, e8, e9, e10, e11, e12, e13, e14, e15, e16, e17, e18, e19, e20, e21, e22, e23, e24,
    e25, e26, e27, e28, e29, e30, e31, e32, e33, e34, e35, e36, e37, e38, e39, e40, e41, e42, e43, e44, e45, e46, e47, e48,
    e49, -⟩ := h0
  constructor
  · refine soft (g := logit (row (at' W main_arg0) n) (weights (at' W main_arg1)) (bias (at' W main_arg2))) (s := 0) rfl rfl
      in_first (fun k => ?_) e13 e14 e15 e16 e17 e18 e19 e20 e21 e22 e23 e24 e25 e26
    rw [e12, e11, e10, e9, e8, e7, e6, e5, e4, e0]
    exact logit_at _ _ _ n (dot_long · · n ·) rfl rfl (by decide) (by decide) in_first k
  · refine soft (g := logit (row (at' W main_arg0) n) (weights (at' W main_arg1)) (bias (at' W main_arg2))) (s := 1) rfl rfl
      in_second (fun k => ?_) e36 e37 e38 e39 e40 e41 e42 e43 e44 e45 e46 e47 e48 e49
    rw [e35, e34, e33, e32, e31, e30, e29, e28, e27, e1]
    exact logit_at _ _ _ n (dot_short · · n ·) rfl rfl (by decide) (by decide) in_second k

/-- The last two. -/
theorem last_two (h0 : (Line.main0 (F := Ideal) d).holds W) (h1 : (Line.main1 (F := Ideal) d).holds W) (n : Fin 1024) :
    (∀ k : Fin 8000, at' W main_v63 (ix3 n k 0) = chances (at' W main_arg0) (at' W main_arg1) (at' W main_arg2) n (16768 + k.val)) ∧
    ∀ k : Fin 8000, at' W main_v83 (ix3 n k 0) = chances (at' W main_arg0) (at' W main_arg1) (at' W main_arg2) n (24768 + k.val) := by
  dsimp only [Line.main0, id, Block.unary, Block.binary, Block.nullary, Block.reshape, Block.nary, Block.bind, Block.done, Block.step] at h0
  dsimp only [Line.main1, id, Block.unary, Block.binary, Block.nullary, Block.reshape, Block.nary, Block.bind, Block.done, Block.step] at h1
  obtain ⟨-, -, e2, e3, -, -, -, -, -, -, -, -, -, -, -, -, -, -, -, -, -, -, -, -, -, -, -, -, -, -, -, -, -, -,
    -, -, -, -, -, -, -, -, -, -, -, -, -, -, -, -, e50, e51, e52, e53, e54, e55, e56, e57, e58, e59⟩ := h0
  obtain ⟨f0, f1, f2, f3, f4, f5, f6, f7, f8, f9, f10, f11, f12, f13, f14, f15, f16, f17, f18, f19, f20, f21, f22, f23, f24,
    f25, f26, f27, f28, f29, f30, f31, f32, f33, f34, f35, -⟩ := h1
  constructor
  · refine soft (g := logit (row (at' W main_arg0) n) (weights (at' W main_arg1)) (bias (at' W main_arg2))) (s := 2) rfl rfl
      in_third (fun k => ?_) e59 f0 f1 f2 f3 f4 f5 f6 f7 f8 f9 f10 f11 f12
    rw [e58, e57, e56, e55, e54, e53, e52, e51, e50, e2]
    exact logit_at _ _ _ n (dot_short · · n ·) rfl rfl (by decide) (by decide) in_third k
  · refine soft (g := logit (row (at' W main_arg0) n) (weights (at' W main_arg1)) (bias (at' W main_arg2))) (s := 3) rfl rfl
      in_fourth (fun k => ?_) f22 f23 f24 f25 f26 f27 f28 f29 f30 f31 f32 f33 f34 f35
    rw [f21, f20, f19, f18, f17, f16, f15, f14, f13, e3]
    exact logit_at _ _ _ n (dot_short · · n ·) rfl rfl (by decide) (by decide) in_fourth k

/-- Every place's probability. -/
theorem chance_at (h0 : (Line.main0 (F := Ideal) d).holds W) (h1 : (Line.main1 (F := Ideal) d).holds W) (n : Fin 1024)
    (h : Fin 32768) :
    at' W main_v85 (ix2 n h) = chances (at' W main_arg0) (at' W main_arg1) (at' W main_arg2) n h.val := by
  obtain ⟨p0, p1⟩ := first_two h0 n
  obtain ⟨p2, p3⟩ := last_two h0 h1 n
  clear h0
  dsimp only [Line.main1, id, Block.unary, Block.binary, Block.nullary, Block.reshape, Block.nary, Block.bind, Block.done, Block.step] at h1
  obtain ⟨-, -, -, -, -, -, -, -, -, -, -, -, -, -, -, -, -, -, -, -, -, -, -, -, -, -, -, -, -, -, -, -, -, -, -, -, f36, f37, -⟩ := h1
  rw [f37, f36]
  dsimp only [Matrix.cons_val]
  generalize chances (at' W main_arg0) (at' W main_arg1) (at' W main_arg2) n = p at *
  generalize at' W main_v23 = a0 at *
  generalize at' W main_v43 = a1 at *
  generalize at' W main_v63 = a2 at *
  generalize at' W main_v83 = a3 at *
  pointwise
  have hh := h.isLt
  by_cases c0 : h.val < 8768
  · rw [dif_pos c0]
    exact (p0 _).trans (congrArg p (Nat.zero_add _))
  rw [dif_neg c0]
  by_cases c1 : h.val - 8768 < 8000
  · rw [dif_pos c1]
    exact (p1 _).trans (congrArg p (by dsimp only; omega))
  rw [dif_neg c1]
  by_cases c2 : h.val - 8768 - 8000 < 8000
  · rw [dif_pos c2]
    exact (p2 _).trans (congrArg p (by dsimp only; omega))
  rw [dif_neg c2]
  exact (p3 _).trans (congrArg p (by dsimp only; omega))

/-- Every place's logarithm. -/
theorem log_at (h1 : (Line.main1 (F := Ideal) d).holds W) (i : S1024x32768.Idx) :
    at' W main_v86 i = Ideal.log (at' W main_v85 i) := by
  dsimp only [Line.main1, id, Block.unary, Block.binary, Block.nullary, Block.reshape, Block.nary, Block.bind, Block.done, Block.step] at h1
  obtain ⟨-, -, -, -, -, -, -, -, -, -, -, -, -, -, -, -, -, -, -, -, -, -, -, -, -, -, -, -, -, -, -, -, -, -, -, -, -, -, f38, -⟩ := h1
  rw [f38]
  rfl

end Cert.ReferenceIdeal.Scores

end
-- ==== Proof.RefKey.lean ====
module

public import proofs.«01_k».proof.Proof.RefBits
public import proofs.«01_k».proof.Proof.Key

@[expose] public section

set_option maxRecDepth 16384
set_option maxHeartbeats 4000000

/-!
# The reference's key

The seed 1 as two words, split in two; the second half is the key of the draws.
-/

noncomputable section

namespace Cert.ReferenceIdeal.Key

open Idealize.ShloMosaic Idealize.ShloMosaic.StableHlo Idealize.SL.Sem Lines Cert.ReferenceIdeal Cert.ReferenceIdeal.Gen Sampler

variable {W : Valuation τ sig (Elt Ideal)} {d : Dev nD}

/-- The second row of the split. -/
theorem split_at (hs : (Line.split (F := Ideal) (.of main_v93) main_call0).holds W)
    (h0 : at' W main_v93 (ix1 0) = (0#32 : Word)) (h1 : at' W main_v93 (ix1 1) = (1#32 : Word)) :
    at' W main_v94 (ix2 1 0) = secondHalf.1 ∧ at' W main_v94 (ix2 1 1) = secondHalf.2 := by
  dsimp only [Line.split, id, Block.unaryT, Block.binaryT, Block.nullaryT, Block.reshapeT, Block.bind, Block.done, Block.step] at hs
  obtain ⟨s0, s1, s2, s3, s4, s5, s6, s7, s8, s9, s10, s11, s12, h, t12, t13, t14, -⟩ := hs
  have w0 : ∀ u, get (.of main_call0_v1 : TRef sig ⟨S_, .i32⟩) W u = (0#32 : Word) := by
    intro u
    rw [s1, s0, ← h0]
    change shapeCast S_ (extractStridedSlice S1 ![0] (at' W main_v93) _) _ u = _
    generalize at' W main_v93 = x
    rw [show u = ix0 from funext fun k => k.elim0]
    pointwise
  have w1 : ∀ u, get (.of main_call0_v3 : TRef sig ⟨S_, .i32⟩) W u = (1#32 : Word) := by
    intro u
    rw [s3, s2, ← h1]
    change shapeCast S_ (extractStridedSlice S1 ![1] (at' W main_v93) _) _ u = _
    generalize at' W main_v93 = x
    rw [show u = ix0 from funext fun k => k.elim0]
    pointwise
  have c0 : get (.of main_call0_v10 : TRef sig ⟨S2, .i32⟩) W (ix1 1) = (0#32 : Word) := by
    rw [s12, s10, s7, s4, s6, s5, s9, s8]
    rfl
  have c1 : get (.of main_call0_v9 : TRef sig ⟨S2, .i32⟩) W (ix1 1) = (1#32 : Word) := by
    rw [s11, s7, s4, s6, s5]
    rfl
  obtain ⟨ra, rb⟩ := Bits.key_at h w0 w1 (ix1 1)
  rw [c0, c1] at ra rb
  have t14 : at' W main_v94 = _ := t14
  rw [t14, t12, t13]
  refine ⟨Eq.trans ?_ ra, Eq.trans ?_ rb⟩
  · change _ = get main_call0_call0.v171 W (ix1 1)
    generalize get main_call0_call0.v171 W = x
    generalize get main_call0_call0.v175 W = y
    pointwise
  · change _ = get main_call0_call0.v175 W (ix1 1)
    generalize get main_call0_call0.v171 W = x
    generalize get main_call0_call0.v175 W = y
    pointwise

/-- The seed's two words, the upper one first; and the split run on them. -/
theorem seed_at (h1 : (Line.main1 (F := Ideal) d).holds W) :
    at' W main_v94 (ix2 1 0) = secondHalf.1 ∧ at' W main_v94 (ix2 1 1) = secondHalf.2 := by
  dsimp only [Line.main1, id, Block.unary, Block.binary, Block.nullary, Block.reshape, Block.nary, Block.bind, Block.done, Block.step] at h1
  obtain ⟨-, -, -, -, -, -, -, -, -, -, -, -, -, -, -, -, -, -, -, -, -, -, -, -, -, -, -, -, -, -, -, -, -, -, -, -, -, -, -,
    f39, f40, f41, f42, f43, f44, f45, f46, f47, f48, hs, -⟩ := h1
  refine split_at hs ?_ ?_
  · rw [f48, f43, f42, f41, f47, f46, f45, f40, f44, f39]
    pointwise
    rfl
  · rw [f48, f43, f42, f41, f47, f46, f45, f40, f44, f39]
    pointwise
    rfl

/-- The key's two words. -/
theorem words (h1 : (Line.main1 (F := Ideal) d).holds W) :
    (∀ u, at' W main_v101 u = secondHalf.1) ∧ ∀ u, at' W main_v103 u = secondHalf.2 := by
  obtain ⟨a, b⟩ := seed_at h1
  dsimp only [Line.main1, id, Block.unary, Block.binary, Block.nullary, Block.reshape, Block.nary, Block.bind, Block.done, Block.step] at h1
  obtain ⟨-, -, -, -, -, -, -, -, -, -, -, -, -, -, -, -, -, -, -, -, -, -, -, -, -, -, -, -, -, -, -, -, -, -, -, -, -, -, -,
    -, -, -, -, -, -, -, -, -, -, -, f50, f51, f52, f53, -, f55, f56, f57, f58, -⟩ := h1
  rw [← a, ← b]
  constructor <;> intro u <;> rw [show u = ix0 from funext fun k => k.elim0]
  · rw [f56, f55, f53, f52]
    generalize at' W main_v94 = x
    pointwise
  · rw [f58, f57, f53, f52]
    generalize at' W main_v94 = x
    pointwise

end Cert.ReferenceIdeal.Key

end
-- ==== Proof.RefPick.lean ====
module

public import proofs.«01_k».proof.Proof.RefAgree
public import proofs.«01_k».proof.Proof.RefNoise
public import proofs.«01_k».proof.Proof.RefScores
public import proofs.«01_k».proof.Proof.RefKey

@[expose] public section

set_option maxRecDepth 16384
set_option maxHeartbeats 4000000

/-!
# The reference's result

Every row's most probable place, its three noisy draws, and the choice among them.
-/

noncomputable section

namespace Cert.ReferenceIdeal.Pick

open Idealize.ShloMosaic Idealize.ShloMosaic.StableHlo Idealize.SL.Sem Lines Cert.ReferenceIdeal Cert.ReferenceIdeal.Gen Sampler

variable {d : Dev nD} {W : Valuation τ sig (Elt Ideal)}

/-- The row an element belongs to, -/
theorem row_of (i : S1024x32768.Idx) : reducesTo_S1024x32768_S1024_d1.drop i = ix1 (i 0) := by
  funext a
  obtain rfl : a = 0 := Subsingleton.elim _ _
  exact Fin.ext (Shape.ReducesTo.drop_apply_val_of_eq reducesTo_S1024x32768_S1024_d1 i 0 0 (by decide) (by decide))

/-- and its draw and row. -/
theorem draw_of (i : S3x1024x32768.Idx) : reducesTo_S3x1024x32768_S3x1024_d2.drop i = ix2 (i 0) (i 1) := by
  funext a
  match a with
  | ⟨0, _⟩ => exact Fin.ext (Shape.ReducesTo.drop_apply_val_of_eq reducesTo_S3x1024x32768_S3x1024_d2 i 0 0 (by decide) (by decide))
  | ⟨1, _⟩ => exact Fin.ext (Shape.ReducesTo.drop_apply_val_of_eq reducesTo_S3x1024x32768_S3x1024_d2 i 1 1 (by decide) (by decide))

/-- The searches start from the least value. -/
theorem least : Ideal.ofBits .f32 0xFF800000#32 = ⊥ := by simp [Ideal.ofBits, Ideal.ieee]

/-- The search along a row. -/
theorem best_at {r : TRef sig ⟨S1024x32768, .f32⟩} {φ : fn_argmax.Bufs} (hs : (Line.best (F := Ideal) r φ).holds W)
    (n : Fin 1024) (v : ℕ → EReal) (hv : ∀ h : Fin 32768, get r W (ix2 n h) = v h.val) :
    get φ.v1_1 W (ix1 n) = BitVec.ofNat 32 (first v) := by
  dsimp only [Line.best, id, Block.unaryT, Block.binaryT, Block.nullaryT, Block.reshapeT, Block.ternaryT, Block.quaternaryT, Block.bind, Block.done, Block.step] at hs
  obtain ⟨b0, b1, b2, b3, b4, -⟩ := hs
  rw [b4]
  refine (Search.first_at _ _ _ _ _ _ (ix1 n) ?_ ?_ (fun h => ix2 n h) ?_ ?_ ?_).trans ?_
  · rw [b1]; exact fun _ => least
  · rw [b2]; exact fun _ => rfl
  · intro i hi
    rw [row_of] at hi
    have : i 0 = n := congrFun hi 0
    exact ⟨i 1, (eq_ix2 i).trans (congrArg (fun z => ix2 z (i 1)) this)⟩
  · exact fun h => row_of _
  · rw [b0]; exact fun h => rfl
  · refine congrArg (BitVec.ofNat 32) (first_congr fun k hk => ?_)
    exact (hv _).trans (congrArg v (Nat.mod_eq_of_lt hk))

/-- The search along a draw of a row. -/
theorem drawn_at {r : TRef sig ⟨S3x1024x32768, .f32⟩} {φ : fn_argmax_1.Bufs} (hs : (Line.draw (F := Ideal) r φ).holds W)
    (e : Fin 3) (n : Fin 1024) (v : ℕ → EReal) (hv : ∀ h : Fin 32768, get r W (ix3 e n h) = v h.val) :
    get φ.v1_1 W (ix2 e n) = BitVec.ofNat 32 (first v) := by
  dsimp only [Line.draw, id, Block.unaryT, Block.binaryT, Block.nullaryT, Block.reshapeT, Block.ternaryT, Block.quaternaryT, Block.bind, Block.done, Block.step] at hs
  obtain ⟨b0, b1, b2, b3, b4, -⟩ := hs
  rw [b4]
  refine (Search.first_at _ _ _ _ _ _ (ix2 e n) ?_ ?_ (fun h => ix3 e n h) ?_ ?_ ?_).trans ?_
  · rw [b1]; exact fun _ => least
  · rw [b2]; exact fun _ => rfl
  · intro i hi
    rw [draw_of] at hi
    have h0 : i 0 = e := congrFun hi 0
    have h1 : i 1 = n := congrFun hi 1
    exact ⟨i 2, (eq_ix3 i).trans (congrArg₂ (fun z y => ix3 z y (i 2)) h0 h1)⟩
  · exact fun h => draw_of _
  · rw [b0]; exact fun h => rfl
  · refine congrArg (BitVec.ofNat 32) (first_congr fun k hk => ?_)
    exact (hv _).trans (congrArg v (Nat.mod_eq_of_lt hk))

/-- The search among the flags. -/
theorem flag_at {r : TRef sig ⟨S3x1024, .i1⟩} {φ : fn_argmax_2.Bufs} (hs : (Line.first (F := Ideal) r φ).holds W)
    (n : Fin 1024) :
    get φ.v1_1 W (ix1 n) = if get r W (ix2 0 n) = 1#1 then 0#32 else if get r W (ix2 1 n) = 1#1 then 1#32 else if get r W (ix2 2 n) = 1#1 then 2#32 else 0#32 := by
  dsimp only [Line.first, id, Block.unaryT, Block.binaryT, Block.nullaryT, Block.reshapeT, Block.ternaryT, Block.quaternaryT, Block.bind, Block.done, Block.step] at hs
  obtain ⟨b0, b1, b2, b3, b4, -⟩ := hs
  rw [b4]
  refine Flags.first_at _ _ _ _ n ?_ ?_ ?_
  · rw [b1]; exact fun _ => rfl
  · rw [b2]; exact fun _ => rfl
  · rw [b0]; exact fun _ => rfl

/-- Two places below 32768 are equal exactly when their words are. -/
theorem same (a b : ℕ) (ha : a < 32768) (hb : b < 32768) :
    IntOp.cmpi .eq (BitVec.ofNat 32 a) (BitVec.ofNat 32 b) = if a = b then 1#1 else 0#1 := by
  by_cases h : a = b
  · subst h
    simp [IntOp.cmpi]
  · rw [if_neg h]
    have : BitVec.ofNat 32 a ≠ BitVec.ofNat 32 b := fun e => h (by
      have := congrArg BitVec.toNat e
      simp only [BitVec.toNat_ofNat] at this
      omega)
    simp only [IntOp.cmpi, beq_eq_false_iff_ne.mpr this, BitVec.ofBool_false]
    rfl

/-- A word that is not negative is left alone by the wrap of negative indices. -/
theorem unwrapped (z k : BitVec 32) (h : 0 ≤ z.toInt) :
    Scalar.select (IntOp.cmpi .slt z 0#32) (IntOp.addi z k) z = z := by
  have : ¬ z.toInt < 0 := not_lt.mpr h
  simp [IntOp.cmpi, BitVec.slt, this, Scalar.select]

/-- Every row's most probable place. -/
theorem best (h0 : (Line.main0 (F := Ideal) d).holds W) (h1 : (Line.main1 (F := Ideal) d).holds W) (n : Fin 1024) :
    at' W main_v99 (ix1 n) = BitVec.ofNat 32 (first (chances (at' W main_arg0) (at' W main_arg1) (at' W main_arg2) n)) := by
  have hc := fun h => Scores.chance_at h0 h1 n h
  clear h0
  dsimp only [Line.main1, id, Block.unary, Block.binary, Block.nullary, Block.reshape, Block.nary, Block.bind, Block.done, Block.step] at h1
  obtain ⟨-, -, -, -, -, -, -, -, -, -, -, -, -, -, -, -, -, -, -, -, -, -, -, -, -, -, -, -, -, -, -, -, -, -, -, -, -, -, -, -, -, -, -, -, -, -, -, -, -, -, -, -, -, -, f54, -⟩ := h1
  exact best_at f54 n _ hc

/-- Every row's draws. -/
theorem drawn (hk : (∀ u, at' W main_v101 u = secondHalf.1) ∧ ∀ u, at' W main_v103 u = secondHalf.2)
    (h0 : (Line.main0 (F := Ideal) d).holds W) (h1 : (Line.main1 (F := Ideal) d).holds W)
    (h2 : (Line.main2 (F := Ideal) d).holds W) (e : Fin 3) (n : Fin 1024) :
    at' W main_v141 (ix2 e n) = BitVec.ofNat 32 (first (score (chances (at' W main_arg0) (at' W main_arg1) (at' W main_arg2) n)
      secondHalf.1 secondHalf.2 e.val n.val)) := by
  have hc := fun h => Noise.score_at hk h1 h2 e n h _
    ((Scores.log_at h1 (ix2 n h)).trans (congrArg Ideal.log (Scores.chance_at h0 h1 n h)))
  clear h0 h1
  dsimp only [Line.main2, id, Block.unary, Block.binary, Block.nullary, Block.reshape, Block.nary, Block.bind, Block.done, Block.step] at h2
  obtain ⟨-, -, -, -, -, -, -, -, -, -, -, -, -, -, -, -, -, -, -, -, -, -, -, -, -, -, -, -, -, -, -, -, -, -, -, -, -, -, -, -, -, -, -, -, -, -, g46, -⟩ := h2
  exact drawn_at g46 e n _ hc

/-- The choice among a row's draws. -/
theorem chosen (h2 : (Line.main2 (F := Ideal) d).holds W) (h3 : (Line.main3 (F := Ideal) d).holds W) (n : Fin 1024)
    (b : ℕ) (s : ℕ → ℕ) (hb : b < 32768) (hs : ∀ e, s e < 32768) (h99 : at' W main_v99 (ix1 n) = BitVec.ofNat 32 b)
    (h141 : ∀ e : Fin 3, at' W main_v141 (ix2 e n) = BitVec.ofNat 32 (s e.val)) :
    at' W main_v164 (ix1 n) = BitVec.ofNat 32 (if s 0 = b then s 0 else if s 1 = b then s 1 else s 2) := by
  dsimp only [Line.main2, id, Block.unary, Block.binary, Block.nullary, Block.reshape, Block.nary, Block.bind, Block.done, Block.step] at h2
  obtain ⟨-, -, -, -, -, -, -, -, -, -, -, -, -, -, -, -, -, -, -, -, -, -, -, -, -, -, -, -, -, -, -, -, -, -, -, -, -, -, -, -, -, -, -, -, -, -, -, g47, g48, g49, g50, g51, g52, g53, g54, g55, g56, g57, g58, g59⟩ := h2
  dsimp only [Line.main3, id, Block.unary, Block.binary, Block.nullary, Block.reshape, Block.nary, Block.ternary, Block.bind, Block.done, Block.step] at h3
  obtain ⟨k0, k1, k2, k3, k4, k5, k6, k7, k8, k9, k10, k11, k12, k13, k14, -⟩ := h3
  dsimp only [Line.pick, id, Block.unaryT, Block.binaryT, Block.nullaryT, Block.reshapeT, Block.ternaryT, Block.quaternaryT, Block.bind, Block.done, Block.step] at k14
  obtain ⟨k14, -⟩ := k14
  have flag : ∀ e : Fin 3, at' W main_v144 (ix2 e n) = if s e.val = b then 1#1 else 0#1 := by
    intro e
    rw [← same _ _ (hs _) hb, ← h99, ← h141, g49, g48, g47]
    generalize at' W main_v99 = x
    generalize at' W main_v141 = y
    pointwise
  have anyone : at' W main_v145 (ix1 n) = if s 0 = b ∨ s 1 = b ∨ s 2 = b then 1#1 else 0#1 := by
    rw [g51, Flags.any_at _ _ n (by rw [g50]; exact fun _ => rfl), flag, flag, flag]
    by_cases c0 : s 0 = b <;> by_cases c1 : s 1 = b <;> by_cases c2 : s 2 = b <;> simp [c0, c1, c2]
  have which : at' W main_v146 (ix1 n) = if s 0 = b then 0#32 else if s 1 = b then 1#32 else if s 2 = b then 2#32 else 0#32 := by
    refine (flag_at g52 n).trans ?_
    have flag' : ∀ e : Fin 3, get (.of main_v144) W (ix2 e n) = if s e.val = b then 1#1 else 0#1 := flag
    rw [flag', flag', flag']
    by_cases c0 : s 0 = b <;> by_cases c1 : s 1 = b <;> by_cases c2 : s 2 = b <;> simp [c0, c1, c2]
  have third : at' W main_v163 (ix1 n) = BitVec.ofNat 32 (s 2) := by
    rw [k13, k12, ← show _ = BitVec.ofNat 32 (s 2) from h141 2]
    generalize at' W main_v141 = y
    pointwise
  have number : at' W main_v152 (ix1 n) = at' W main_v146 (ix1 n) := by
    rw [k0, g56, g59, g55, g58, g54, g57]
    refine unwrapped (at' W main_v146 (ix1 n)) 3#32 ?_
    rw [which]
    split_ifs <;> decide
  have place : at' W main_v157 (ix1 n) = BitVec.ofNat 32 n.val := by
    rw [k7, k3, k6, k2, k5, k1, k4, g53]
    refine unwrapped (BitVec.ofNat 32 n.val) 1024#32 ?_
    rw [Search.toInt_place _ (by omega)]
    exact Int.natCast_nonneg _
  have left : at' W main_v160 (ix2 n 0) = at' W main_v152 (ix1 n) := by
    rw [k10, k8, k9]
    generalize at' W main_v152 = x
    generalize at' W main_v157 = y
    pointwise
  have right : at' W main_v160 (ix2 n 1) = at' W main_v157 (ix1 n) := by
    rw [k10, k8, k9]
    generalize at' W main_v152 = x
    generalize at' W main_v157 = y
    pointwise
  have taken : ∀ e : Fin 3, at' W main_v146 (ix1 n) = BitVec.ofNat 32 e.val →
      at' W main_v161 (ix1 n) = BitVec.ofNat 32 (s e.val) := by
    intro e he
    rw [k11]
    refine (Flags.gather_at _ _ n).trans ((congrArg (at' W main_v141) ?_).trans (h141 e))
    refine congrArg₂ (fun z y => ix2 z y) (Fin.ext ?_) (Fin.ext ?_)
    · dsimp only
      rw [left, number, he, Search.toInt_place _ (by omega)]
      omega
    · dsimp only
      rw [right, place, Search.toInt_place _ (by omega)]
      omega
  have final : at' W main_v164 (ix1 n) = Scalar.select (at' W main_v145 (ix1 n)) (at' W main_v161 (ix1 n)) (at' W main_v163 (ix1 n)) :=
    congrFun k14 (ix1 n)
  rw [final, anyone, third]
  by_cases c0 : s 0 = b
  · rw [if_pos (Or.inl c0), if_pos c0]
    rw [if_pos c0] at which
    exact taken 0 which
  rw [if_neg c0]
  rw [if_neg c0] at which
  by_cases c1 : s 1 = b
  · rw [if_pos (Or.inr (Or.inl c1)), if_pos c1]
    rw [if_pos c1] at which
    exact taken 1 which
  rw [if_neg c1]
  rw [if_neg c1] at which
  by_cases c2 : s 2 = b
  · rw [if_pos (Or.inr (Or.inr c2))]
    rw [if_pos c2] at which
    exact taken 2 which
  · rw [if_neg (by tauto)]
    rfl

/-- The reference's result at a row. -/
theorem result_at (h0 : (Line.main0 (F := Ideal) d).holds W) (h1 : (Line.main1 (F := Ideal) d).holds W)
    (h2 : (Line.main2 (F := Ideal) d).holds W) (h3 : (Line.main3 (F := Ideal) d).holds W) (n : Fin 1024) :
    at' W main_v164 (ix1 n) = result (at' W main_arg0) (at' W main_arg1) (at' W main_arg2) secondHalf.1 secondHalf.2 n :=
  chosen h2 h3 n (first (chances (at' W main_arg0) (at' W main_arg1) (at' W main_arg2) n))
    (fun e => first (score (chances (at' W main_arg0) (at' W main_arg1) (at' W main_arg2) n) secondHalf.1 secondHalf.2 e n.val))
    (first_spec _).1 (fun _ => (first_spec _).1) (best h0 h1 n) (fun e => drawn (Key.words h1) h0 h1 h2 e n)

end Cert.ReferenceIdeal.Pick

end
-- ==== Proof.Agree.lean ====
module

public import proofs.«01_k».proof.Defs
public import proofs.«01_k».proof.Proof.KernelOut
public import proofs.«01_k».proof.Proof.RefPick

@[expose] public section

set_option maxRecDepth 16384
set_option maxHeartbeats 4000000

/-!
# The kernel and the reference agree

Both end with the same picks, a row at a time, and both leave their arguments as they were.
-/

noncomputable section

namespace Cert.Agree

open Idealize.ShloMosaic Idealize.ShloMosaic.StableHlo Idealize.SL.Sem Lines Sampler

/-- The picks of every row, from a launch memory of the kernel. -/
def answer (m : (ℓ : Loc KernelIdeal.nD KernelIdeal.τ KernelIdeal.sig) → Buf (Elt Ideal) ℓ) (c : Dev KernelIdeal.nD) :
    Buf (Elt Ideal) ((c.tc : Thread KernelIdeal.nD KernelIdeal.τ).loc KernelIdeal.main_v72) :=
  fun i : KernelIdeal.S1024.Idx => result (m ((c.tc : Thread KernelIdeal.nD KernelIdeal.τ).loc KernelIdeal.main_arg0))
    (m ((c.tc : Thread KernelIdeal.nD KernelIdeal.τ).loc KernelIdeal.main_arg1))
    (m ((c.tc : Thread KernelIdeal.nD KernelIdeal.τ).loc KernelIdeal.main_arg2)) secondHalf.1 secondHalf.2 (i 0)

section Kernel

open Cert.KernelIdeal Cert.KernelIdeal.Gen

/-- The kernel ends with the picks. -/
theorem kernel (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v72) = answer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run (defs (F := Ideal)) _ _).mono (fun r h c => ⟨?_,
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c)⟩)
    (run_main (F := Ideal) m ρ)
  refine ((h c).2 main_v72 (Pipeline.mem_restRefs_of main_v72 (by decide) (by decide))).trans (funext fun i : S1024.Idx => ?_)
  obtain ⟨n, rfl⟩ : ∃ n : Fin 1024, i = ix1 n := ⟨i 0, eq_ix1 i⟩
  exact Out.tail_at m c n

end Kernel

section Reference

open Cert.ReferenceIdeal Cert.ReferenceIdeal.Gen

/-- The reference ends with the picks. -/
theorem reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v164) = (fun i : S1024.Idx => result (m ((c.tc : Thread nD τ).loc main_arg0))
        (m ((c.tc : Thread nD τ).loc main_arg1)) (m ((c.tc : Thread nD τ).loc main_arg2)) secondHalf.1 secondHalf.2 (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine θ_run_mono (Line.run m ρ) fun r h c => ⟨?_, (h c main_arg0).trans (Line.kept c _ main_arg0 (by decide)),
    (h c main_arg1).trans (Line.kept c _ main_arg1 (by decide)), (h c main_arg2).trans (Line.kept c _ main_arg2 (by decide))⟩
  refine (h c main_v164).trans (funext fun i : S1024.Idx => ?_)
  obtain ⟨n, rfl⟩ : ∃ n : Fin 1024, i = ix1 n := ⟨i 0, eq_ix1 i⟩
  have eqs := Line.holds c (launchContents m c)
  have a0 := Line.kept c (launchContents m c) main_arg0 (by decide)
  have a1 := Line.kept c (launchContents m c) main_arg1 (by decide)
  have a2 := Line.kept c (launchContents m c) main_arg2 (by decide)
  generalize after (Line.all (F := Ideal) c).ops (launchContents m c) = W at eqs a0 a1 a2 ⊢
  obtain ⟨h0, h1, h2, h3⟩ := eqs
  refine (Pick.result_at h0 h1 h2 h3 n).trans ?_
  rw [show at' W main_arg0 = _ from a0, show at' W main_arg1 = _ from a1, show at' W main_arg2 = _ from a2]
  rfl

end Reference

/-- The value claim. -/
theorem agree : algebraic_KernelIdeal_ReferenceIdeal := by
  intro m g m' g' _ same
  refine ⟨answer m, kernel m g, θ_run_mono (reference m' g') fun r h c => ⟨(h c).1.trans ?_, (h c).2⟩⟩
  obtain ⟨e0, e1, e2⟩ := same c
  rw [e0, e1, e2]
  rfl

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefLine
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Line.frame m ρ, trivial, Cert.Agree.agree⟩

end Cert.Proof

end
